-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : FVec F S2x128x4x64 .f32 := (extf .f32 · bitsLt_bf16_f32) main_arg2
  let main_v11 : FVec F S2x128x4x64 .f32 := Host.absf main_v10
  let main_cst_2 : FVec F S_ .f32 := constant S_ .f32 0x7F800000#32
  let main_v12 : FVec F S2x128x4x64 .f32 := broadcastInDim S2x128x4x64 ![] bcast_S_S2x128x4x64 main_cst_2
  let main_v13 : IVec S2x128x4x64 1 := cmpf .olt main_v11 main_v12
  let main_c_3 : IVec S_ 1 := constantI S_ 1 1#1
  let main_v14 : IVec S_ 1 := (fun x v => Host.reduce IntOp.andi x v reducesTo_S2x128x4x64_S_d0_1_2_3 h_S_) main_v13 main_c_3
  let main_v15 : IVec S_ 1 := andi main_v4 main_v9
  let main_v16 : IVec S_ 1 := andi main_v15 main_v14
  main_v16
-- ==== Pre_finite_ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x128x512 .bf16) (main_arg1 : FVec F S512x256 .bf16) (main_arg2 : FVec F S2x1024x4x64 .bf16) (main_arg3 : FVec F S2x1024x4x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : FVec F S2x1024x4x64 .f32 := (extf .f32 · bitsLt_bf16_f32) main_arg2
  let main_v11 : FVec F S2x1024x4x64 .f32 := Host.absf main_v10
  let main_cst_2 : FVec F S_ .f32 := constant S_ .f32 0x7F800000#32
  let main_v12 : FVec F S2x1024x4x64 .f32 := broadcastInDim S2x1024x4x64 ![] bcast_S_S2x1024x4x64 main_cst_2
  let main_v13 : IVec S2x1024x4x64 1 := cmpf .olt main_v11 main_v12
  let main_c_3 : IVec S_ 1 := constantI S_ 1 1#1
  let main_v14 : IVec S_ 1 := (fun x v => Host.reduce IntOp.andi x v reducesTo_S2x1024x4x64_S_d0_1_2_3 h_S_) main_v13 main_c_3
  let main_v15 : IVec S_ 1 := andi main_v4 main_v9
  let main_v16 : IVec S_ 1 := andi main_v15 main_v14
  main_v16
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S8x2x128x256 : Shape := ⟨4, ![8, 2, 128, 256]⟩
abbrev S8x2x4x128 : Shape := ⟨4, ![8, 2, 4, 128]⟩
abbrev S8x2 : Shape := ⟨2, ![8, 2]⟩
abbrev S96x256 : Shape := ⟨2, ![96, 256]⟩
abbrev S1x1x96x256 : Shape := ⟨4, ![1, 1, 96, 256]⟩
abbrev S_ : Shape := ⟨0, ![]⟩
abbrev S128x128 : Shape := ⟨2, ![128, 128]⟩
abbrev S256x256 : Shape := ⟨2, ![256, 256]⟩
abbrev S1x128x4x64 : Shape := ⟨4, ![1, 128, 4, 64]⟩
abbrev S128x4x64 : Shape := ⟨3, ![128, 4, 64]⟩
abbrev S128x256 : Shape := ⟨2, ![128, 256]⟩
abbrev S128x64 : Shape := ⟨2, ![128, 64]⟩
abbrev S128 : Shape := ⟨1, ![128]⟩
abbrev S1x1x128x64 : Shape := ⟨4, ![1, 1, 128, 64]⟩
abbrev S1x1x1x128 : Shape := ⟨4, ![1, 1, 1, 128]⟩
abbrev S1x1 : Shape := ⟨2, ![1, 1]⟩
abbrev S1x1x4x128 : Shape := ⟨4, ![1, 1, 4, 128]⟩
abbrev S4x128 : Shape := ⟨2, ![4, 128]⟩
abbrev S1x1x128x256 : Shape := ⟨4, ![1, 1, 128, 256]⟩
abbrev S1x1x32x256 : Shape := ⟨4, ![1, 1, 32, 256]⟩
abbrev S32x256 : Shape := ⟨2, ![32, 256]⟩
abbrev S4x256 : Shape := ⟨2, ![4, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S8x2x128x256, .bf16⟩
  | .local _ .vmem, ⟨7, _⟩ => ⟨S8x2x4x128, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_60 : BitVec 32 := 1#32
  let v61 : BitVec 32 := Scalar.addi v2 c1_i32_60
  let c8_i32_61 : BitVec 32 := 8#32
  let v62 : BitVec 32 := Scalar.remsi v61 c8_i32_61
  let c1_i32_63 : BitVec 32 := 1#32
  let v63 : BitVec 32 := Scalar.muli v62 c1_i32_63
  let v64 : BitVec 32 := Scalar.addi c0_i32 v63
  v64.toNat
def k0_dev2 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_64 : BitVec 32 := 2#32
  let v65 : BitVec 32 := Scalar.addi v2 c2_i32_64
  let c8_i32_65 : BitVec 32 := 8#32
  let v66 : BitVec 32 := Scalar.remsi v65 c8_i32_65
  let c1_i32_67 : BitVec 32 := 1#32
  let v67 : BitVec 32 := Scalar.muli v66 c1_i32_67
  let v68 : BitVec 32 := Scalar.addi c0_i32_68 v67
  v68.toNat
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v69 : BitVec 32 := Scalar.addi v2 c3_i32
  let c8_i32_69 : BitVec 32 := 8#32
  let v70 : BitVec 32 := Scalar.remsi v69 c8_i32_69
  let c1_i32_71 : BitVec 32 := 1#32
  let v71 : BitVec 32 := Scalar.muli v70 c1_i32_71
  let v72 : BitVec 32 := Scalar.addi c0_i32_72 v71
  v72.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v73 : BitVec 32 := Scalar.addi v2 c4_i32
  let c8_i32_73 : BitVec 32 := 8#32
  let v74 : BitVec 32 := Scalar.remsi v73 c8_i32_73
  let c1_i32_75 : BitVec 32 := 1#32
  let v75 : BitVec 32 := Scalar.muli v74 c1_i32_75
  let v76 : BitVec 32 := Scalar.addi c0_i32_76 v75
  v76.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v77 : BitVec 32 := Scalar.addi v2 c5_i32
  let c8_i32_77 : BitVec 32 := 8#32
  let v78 : BitVec 32 := Scalar.remsi v77 c8_i32_77
  let c1_i32_79 : BitVec 32 := 1#32
  let v79 : BitVec 32 := Scalar.muli v78 c1_i32_79
  let v80 : BitVec 32 := Scalar.addi c0_i32_80 v79
  v80.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v81 : BitVec 32 := Scalar.addi v2 c6_i32
  let c8_i32_81 : BitVec 32 := 8#32
  let v82 : BitVec 32 := Scalar.remsi v81 c8_i32_81
  let c1_i32_83 : BitVec 32 := 1#32
  let v83 : BitVec 32 := Scalar.muli v82 c1_i32_83
  let v84 : BitVec 32 := Scalar.addi c0_i32_84 v83
  v84.toNat
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v85 : BitVec 32 := Scalar.addi v2 c7_i32
  let c8_i32_85 : BitVec 32 := 8#32
  let v86 : BitVec 32 := Scalar.remsi v85 c8_i32_85
  let c1_i32_87 : BitVec 32 := 1#32
  let v87 : BitVec 32 := Scalar.muli v86 c1_i32_87
  let v88 : BitVec 32 := Scalar.addi c0_i32_88 v87
  v88.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let v187 : BitVec 32 := Scalar.addi v2 c1_i32_152
  let c8_i32_153 : BitVec 32 := 8#32
  let v188 : BitVec 32 := Scalar.remsi v187 c8_i32_153
  let c1_i32_162 : BitVec 32 := 1#32
  let v189 : BitVec 32 := Scalar.muli v188 c1_i32_162
  let v190 : BitVec 32 := Scalar.addi c0_i32_163 v189
  v190.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v199 : BitVec 32 := Scalar.extui v3
  let c0_i32_176 : BitVec 32 := 0#32
  let v200 : BitVec 1 := Scalar.cmpi .ne v199 c0_i32_176
  v200

def k0_dev9 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let v187 : BitVec 32 := Scalar.addi v2 c1_i32_152
  let c8_i32_153 : BitVec 32 := 8#32
  let v188 : BitVec 32 := Scalar.remsi v187 c8_i32_153
  let c1_i32_1808 : BitVec 32 := 1#32
  let v1044 : BitVec 32 := Scalar.muli v188 c1_i32_1808
  let v1045 : BitVec 32 := Scalar.addi c0_i32_1809 v1044
  v1045.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_177 : BitVec 1 := 1#1
  let v201 : BitVec 1 := Scalar.xori v3 true_177
  let v202 : BitVec 32 := Scalar.extui v201
  let c0_i32_186 : BitVec 32 := 0#32
  let v203 : BitVec 1 := Scalar.cmpi .ne v202 c0_i32_186
  v203

def k0_dev10 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let v187 : BitVec 32 := Scalar.addi v2 c1_i32_152
  let c8_i32_153 : BitVec 32 := 8#32
  let v188 : BitVec 32 := Scalar.remsi v187 c8_i32_153
  let c1_i32_1808 : BitVec 32 := 1#32
  let v1044 : BitVec 32 := Scalar.muli v188 c1_i32_1808
  let v1045 : BitVec 32 := Scalar.addi c0_i32_1809 v1044
  v1045.toNat
def k0_dev11 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_187 : BitVec 32 := 2#32
  let v204 : BitVec 32 := Scalar.addi v2 c2_i32_187
  let c8_i32_188 : BitVec 32 := 8#32
  let v205 : BitVec 32 := Scalar.remsi v204 c8_i32_188
  let c1_i32_197 : BitVec 32 := 1#32
  let v206 : BitVec 32 := Scalar.muli v205 c1_i32_197
  let v207 : BitVec 32 := Scalar.addi c0_i32_198 v206
  v207.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v216 : BitVec 32 := Scalar.extui v3
  let c0_i32_211 : BitVec 32 := 0#32
  let v217 : BitVec 1 := Scalar.cmpi .ne v216 c0_i32_211
  v217

def k0_dev12 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_187 : BitVec 32 := 2#32
  let v204 : BitVec 32 := Scalar.addi v2 c2_i32_187
  let c8_i32_188 : BitVec 32 := 8#32
  let v205 : BitVec 32 := Scalar.remsi v204 c8_i32_188
  let c1_i32_1808 : BitVec 32 := 1#32
  let v1044 : BitVec 32 := Scalar.muli v205 c1_i32_1808
  let v1045 : BitVec 32 := Scalar.addi c0_i32_1809 v1044
  v1045.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_212 : BitVec 1 := 1#1
  let v218 : BitVec 1 := Scalar.xori v3 true_212
  let v219 : BitVec 32 := Scalar.extui v218
  let c0_i32_221 : BitVec 32 := 0#32
  let v220 : BitVec 1 := Scalar.cmpi .ne v219 c0_i32_221
  v220

def k0_dev13 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_187 : BitVec 32 := 2#32
  let v204 : BitVec 32 := Scalar.addi v2 c2_i32_187
  let c8_i32_188 : BitVec 32 := 8#32
  let v205 : BitVec 32 := Scalar.remsi v204 c8_i32_188
  let c1_i32_1808 : BitVec 32 := 1#32
  let v1044 : BitVec 32 := Scalar.muli v205 c1_i32_1808
  let v1045 : BitVec 32 := Scalar.addi c0_i32_1809 v1044
  v1045.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v221 : BitVec 32 := Scalar.addi v2 c3_i32_222
  let c8_i32_223 : BitVec 32 := 8#32
  let v222 : BitVec 32 := Scalar.remsi v221 c8_i32_223
  let c1_i32_232 : BitVec 32 := 1#32
  let v223 : BitVec 32 := Scalar.muli v222 c1_i32_232
  let v224 : BitVec 32 := Scalar.addi c0_i32_233 v223
  v224.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v233 : BitVec 32 := Scalar.extui v3
  let c0_i32_246 : BitVec 32 := 0#32
  let v234 : BitVec 1 := Scalar.cmpi .ne v233 c0_i32_246
  v234

def k0_dev15 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v221 : BitVec 32 := Scalar.addi v2 c3_i32_222
  let c8_i32_223 : BitVec 32 := 8#32
  let v222 : BitVec 32 := Scalar.remsi v221 c8_i32_223
  let c1_i32_1808 : BitVec 32 := 1#32
  let v1044 : BitVec 32 := Scalar.muli v222 c1_i32_1808
  let v1045 : BitVec 32 := Scalar.addi c0_i32_1809 v1044
  v1045.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_247 : BitVec 1 := 1#1
  let v235 : BitVec 1 := Scalar.xori v3 true_247
  let v236 : BitVec 32 := Scalar.extui v235
  let c0_i32_256 : BitVec 32 := 0#32
  let v237 : BitVec 1 := Scalar.cmpi .ne v236 c0_i32_256
  v237

def k0_dev16 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v221 : BitVec 32 := Scalar.addi v2 c3_i32_222
  let c8_i32_223 : BitVec 32 := 8#32
  let v222 : BitVec 32 := Scalar.remsi v221 c8_i32_223
  let c1_i32_1808 : BitVec 32 := 1#32
  let v1044 : BitVec 32 := Scalar.muli v222 c1_i32_1808
  let v1045 : BitVec 32 := Scalar.addi c0_i32_1809 v1044
  v1045.toNat
def k0_dev17 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v238 : BitVec 32 := Scalar.addi v2 c4_i32_257
  let c8_i32_258 : BitVec 32 := 8#32
  let v239 : BitVec 32 := Scalar.remsi v238 c8_i32_258
  let c1_i32_267 : BitVec 32 := 1#32
  let v240 : BitVec 32 := Scalar.muli v239 c1_i32_267
  let v241 : BitVec 32 := Scalar.addi c0_i32_268 v240
  v241.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v250 : BitVec 32 := Scalar.extui v3
  let c0_i32_281 : BitVec 32 := 0#32
  let v251 : BitVec 1 := Scalar.cmpi .ne v250 c0_i32_281
  v251

def k0_dev18 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v238 : BitVec 32 := Scalar.addi v2 c4_i32_257
  let c8_i32_258 : BitVec 32 := 8#32
  let v239 : BitVec 32 := Scalar.remsi v238 c8_i32_258
  let c1_i32_1808 : BitVec 32 := 1#32
  let v1044 : BitVec 32 := Scalar.muli v239 c1_i32_1808
  let v1045 : BitVec 32 := Scalar.addi c0_i32_1809 v1044
  v1045.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_282 : BitVec 1 := 1#1
  let v252 : BitVec 1 := Scalar.xori v3 true_282
  let v253 : BitVec 32 := Scalar.extui v252
  let c0_i32_291 : BitVec 32 := 0#32
  let v254 : BitVec 1 := Scalar.cmpi .ne v253 c0_i32_291
  v254

def k0_dev19 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v238 : BitVec 32 := Scalar.addi v2 c4_i32_257
  let c8_i32_258 : BitVec 32 := 8#32
  let v239 : BitVec 32 := Scalar.remsi v238 c8_i32_258
  let c1_i32_1808 : BitVec 32 := 1#32
  let v1044 : BitVec 32 := Scalar.muli v239 c1_i32_1808
  let v1045 : BitVec 32 := Scalar.addi c0_i32_1809 v1044
  v1045.toNat
def k0_dev20 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_292 : BitVec 32 := 5#32
  let v255 : BitVec 32 := Scalar.addi v2 c5_i32_292
  let c8_i32_293 : BitVec 32 := 8#32
  let v256 : BitVec 32 := Scalar.remsi v255 c8_i32_293
  let c1_i32_302 : BitVec 32 := 1#32
  let v257 : BitVec 32 := Scalar.muli v256 c1_i32_302
  let v258 : BitVec 32 := Scalar.addi c0_i32_303 v257
  v258.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v267 : BitVec 32 := Scalar.extui v3
  let c0_i32_316 : BitVec 32 := 0#32
  let v268 : BitVec 1 := Scalar.cmpi .ne v267 c0_i32_316
  v268

def k0_dev21 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_292 : BitVec 32 := 5#32
  let v255 : BitVec 32 := Scalar.addi v2 c5_i32_292
  let c8_i32_293 : BitVec 32 := 8#32
  let v256 : BitVec 32 := Scalar.remsi v255 c8_i32_293
  let c1_i32_1808 : BitVec 32 := 1#32
  let v1044 : BitVec 32 := Scalar.muli v256 c1_i32_1808
  let v1045 : BitVec 32 := Scalar.addi c0_i32_1809 v1044
  v1045.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_317 : BitVec 1 := 1#1
  let v269 : BitVec 1 := Scalar.xori v3 true_317
  let v270 : BitVec 32 := Scalar.extui v269
  let c0_i32_326 : BitVec 32 := 0#32
  let v271 : BitVec 1 := Scalar.cmpi .ne v270 c0_i32_326
  v271

def k0_dev22 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_292 : BitVec 32 := 5#32
  let v255 : BitVec 32 := Scalar.addi v2 c5_i32_292
  let c8_i32_293 : BitVec 32 := 8#32
  let v256 : BitVec 32 := Scalar.remsi v255 c8_i32_293
  let c1_i32_1808 : BitVec 32 := 1#32
  let v1044 : BitVec 32 := Scalar.muli v256 c1_i32_1808
  let v1045 : BitVec 32 := Scalar.addi c0_i32_1809 v1044
  v1045.toNat
def k0_dev23 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_327 : BitVec 32 := 6#32
  let v272 : BitVec 32 := Scalar.addi v2 c6_i32_327
  let c8_i32_328 : BitVec 32 := 8#32
  let v273 : BitVec 32 := Scalar.remsi v272 c8_i32_328
  let c1_i32_337 : BitVec 32 := 1#32
  let v274 : BitVec 32 := Scalar.muli v273 c1_i32_337
  let v275 : BitVec 32 := Scalar.addi c0_i32_338 v274
  v275.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v284 : BitVec 32 := Scalar.extui v3
  let c0_i32_351 : BitVec 32 := 0#32
  let v285 : BitVec 1 := Scalar.cmpi .ne v284 c0_i32_351
  v285

def k0_dev24 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_327 : BitVec 32 := 6#32
  let v272 : BitVec 32 := Scalar.addi v2 c6_i32_327
  let c8_i32_328 : BitVec 32 := 8#32
  let v273 : BitVec 32 := Scalar.remsi v272 c8_i32_328
  let c1_i32_1808 : BitVec 32 := 1#32
  let v1044 : BitVec 32 := Scalar.muli v273 c1_i32_1808
  let v1045 : BitVec 32 := Scalar.addi c0_i32_1809 v1044
  v1045.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_352 : BitVec 1 := 1#1
  let v286 : BitVec 1 := Scalar.xori v3 true_352
  let v287 : BitVec 32 := Scalar.extui v286
  let c0_i32_361 : BitVec 32 := 0#32
  let v288 : BitVec 1 := Scalar.cmpi .ne v287 c0_i32_361
  v288

def k0_dev25 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_327 : BitVec 32 := 6#32
  let v272 : BitVec 32 := Scalar.addi v2 c6_i32_327
  let c8_i32_328 : BitVec 32 := 8#32
  let v273 : BitVec 32 := Scalar.remsi v272 c8_i32_328
  let c1_i32_1808 : BitVec 32 := 1#32
  let v1044 : BitVec 32 := Scalar.muli v273 c1_i32_1808
  let v1045 : BitVec 32 := Scalar.addi c0_i32_1809 v1044
  v1045.toNat
def k0_dev26 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_362 : BitVec 32 := 7#32
  let v289 : BitVec 32 := Scalar.addi v2 c7_i32_362
  let c8_i32_363 : BitVec 32 := 8#32
  let v290 : BitVec 32 := Scalar.remsi v289 c8_i32_363
  let c1_i32_372 : BitVec 32 := 1#32
  let v291 : BitVec 32 := Scalar.muli v290 c1_i32_372
  let v292 : BitVec 32 := Scalar.addi c0_i32_373 v291
  v292.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v301 : BitVec 32 := Scalar.extui v3
  let c0_i32_386 : BitVec 32 := 0#32
  let v302 : BitVec 1 := Scalar.cmpi .ne v301 c0_i32_386
  v302

def k0_dev27 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_362 : BitVec 32 := 7#32
  let v289 : BitVec 32 := Scalar.addi v2 c7_i32_362
  let c8_i32_363 : BitVec 32 := 8#32
  let v290 : BitVec 32 := Scalar.remsi v289 c8_i32_363
  let c1_i32_1808 : BitVec 32 := 1#32
  let v1044 : BitVec 32 := Scalar.muli v290 c1_i32_1808
  let v1045 : BitVec 32 := Scalar.addi c0_i32_1809 v1044
  v1045.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_387 : BitVec 1 := 1#1
  let v303 : BitVec 1 := Scalar.xori v3 true_387
  let v304 : BitVec 32 := Scalar.extui v303
  let c0_i32_396 : BitVec 32 := 0#32
  let v305 : BitVec 1 := Scalar.cmpi .ne v304 c0_i32_396
  v305

def k0_dev28 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_362 : BitVec 32 := 7#32
  let v289 : BitVec 32 := Scalar.addi v2 c7_i32_362
  let c8_i32_363 : BitVec 32 := 8#32
  let v290 : BitVec 32 := Scalar.remsi v289 c8_i32_363
  let c1_i32_1808 : BitVec 32 := 1#32
  let v1044 : BitVec 32 := Scalar.muli v290 c1_i32_1808
  let v1045 : BitVec 32 := Scalar.addi c0_i32_1809 v1044
  v1045.toNat
def k0_dev29 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_453 : BitVec 32 := 1#32
  let v380 : BitVec 32 := Scalar.addi v2 c1_i32_453
  let c8_i32_454 : BitVec 32 := 8#32
  let v381 : BitVec 32 := Scalar.remsi v380 c8_i32_454
  let c1_i32_463 : BitVec 32 := 1#32
  let v382 : BitVec 32 := Scalar.muli v381 c1_i32_463
  let v383 : BitVec 32 := Scalar.addi c0_i32_464 v382
  v383.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v392 : BitVec 32 := Scalar.extui v3
  let c0_i32_477 : BitVec 32 := 0#32
  let v393 : BitVec 1 := Scalar.cmpi .ne v392 c0_i32_477
  v393

def k0_dev30 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_453 : BitVec 32 := 1#32
  let v380 : BitVec 32 := Scalar.addi v2 c1_i32_453
  let c8_i32_454 : BitVec 32 := 8#32
  let v381 : BitVec 32 := Scalar.remsi v380 c8_i32_454
  let c1_i32_1808 : BitVec 32 := 1#32
  let v1044 : BitVec 32 := Scalar.muli v381 c1_i32_1808
  let v1045 : BitVec 32 := Scalar.addi c0_i32_1809 v1044
  v1045.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_478 : BitVec 1 := 1#1
  let v394 : BitVec 1 := Scalar.xori v3 true_478
  let v395 : BitVec 32 := Scalar.extui v394
  let c0_i32_487 : BitVec 32 := 0#32
  let v396 : BitVec 1 := Scalar.cmpi .ne v395 c0_i32_487
  v396

def k0_dev31 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_453 : BitVec 32 := 1#32
  let v380 : BitVec 32 := Scalar.addi v2 c1_i32_453
  let c8_i32_454 : BitVec 32 := 8#32
  let v381 : BitVec 32 := Scalar.remsi v380 c8_i32_454
  let c1_i32_1808 : BitVec 32 := 1#32
  let v1044 : BitVec 32 := Scalar.muli v381 c1_i32_1808
  let v1045 : BitVec 32 := Scalar.addi c0_i32_1809 v1044
  v1045.toNat
def k0_dev32 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_488 : BitVec 32 := 2#32
  let v397 : BitVec 32 := Scalar.addi v2 c2_i32_488
  let c8_i32_489 : BitVec 32 := 8#32
  let v398 : BitVec 32 := Scalar.remsi v397 c8_i32_489
  let c1_i32_498 : BitVec 32 := 1#32
  let v399 : BitVec 32 := Scalar.muli v398 c1_i32_498
  let v400 : BitVec 32 := Scalar.addi c0_i32_499 v399
  v400.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v409 : BitVec 32 := Scalar.extui v3
  let c0_i32_512 : BitVec 32 := 0#32
  let v410 : BitVec 1 := Scalar.cmpi .ne v409 c0_i32_512
  v410

def k0_dev33 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_488 : BitVec 32 := 2#32
  let v397 : BitVec 32 := Scalar.addi v2 c2_i32_488
  let c8_i32_489 : BitVec 32 := 8#32
  let v398 : BitVec 32 := Scalar.remsi v397 c8_i32_489
  let c1_i32_1808 : BitVec 32 := 1#32
  let v1044 : BitVec 32 := Scalar.muli v398 c1_i32_1808
  let v1045 : BitVec 32 := Scalar.addi c0_i32_1809 v1044
  v1045.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_513 : BitVec 1 := 1#1
  let v411 : BitVec 1 := Scalar.xori v3 true_513
  let v412 : BitVec 32 := Scalar.extui v411
  let c0_i32_522 : BitVec 32 := 0#32
  let v413 : BitVec 1 := Scalar.cmpi .ne v412 c0_i32_522
  v413

def k0_dev34 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_488 : BitVec 32 := 2#32
  let v397 : BitVec 32 := Scalar.addi v2 c2_i32_488
  let c8_i32_489 : BitVec 32 := 8#32
  let v398 : BitVec 32 := Scalar.remsi v397 c8_i32_489
  let c1_i32_1808 : BitVec 32 := 1#32
  let v1044 : BitVec 32 := Scalar.muli v398 c1_i32_1808
  let v1045 : BitVec 32 := Scalar.addi c0_i32_1809 v1044
  v1045.toNat
def k0_dev35 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_523 : BitVec 32 := 3#32
  let v414 : BitVec 32 := Scalar.addi v2 c3_i32_523
  let c8_i32_524 : BitVec 32 := 8#32
  let v415 : BitVec 32 := Scalar.remsi v414 c8_i32_524
  let c1_i32_533 : BitVec 32 := 1#32
  let v416 : BitVec 32 := Scalar.muli v415 c1_i32_533
  let v417 : BitVec 32 := Scalar.addi c0_i32_534 v416
  v417.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v426 : BitVec 32 := Scalar.extui v3
  let c0_i32_547 : BitVec 32 := 0#32
  let v427 : BitVec 1 := Scalar.cmpi .ne v426 c0_i32_547
  v427

def k0_dev36 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_523 : BitVec 32 := 3#32
  let v414 : BitVec 32 := Scalar.addi v2 c3_i32_523
  let c8_i32_524 : BitVec 32 := 8#32
  let v415 : BitVec 32 := Scalar.remsi v414 c8_i32_524
  let c1_i32_1808 : BitVec 32 := 1#32
  let v1044 : BitVec 32 := Scalar.muli v415 c1_i32_1808
  let v1045 : BitVec 32 := Scalar.addi c0_i32_1809 v1044
  v1045.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_548 : BitVec 1 := 1#1
  let v428 : BitVec 1 := Scalar.xori v3 true_548
  let v429 : BitVec 32 := Scalar.extui v428
  let c0_i32_557 : BitVec 32 := 0#32
  let v430 : BitVec 1 := Scalar.cmpi .ne v429 c0_i32_557
  v430

def k0_dev37 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_523 : BitVec 32 := 3#32
  let v414 : BitVec 32 := Scalar.addi v2 c3_i32_523
  let c8_i32_524 : BitVec 32 := 8#32
  let v415 : BitVec 32 := Scalar.remsi v414 c8_i32_524
  let c1_i32_1808 : BitVec 32 := 1#32
  let v1044 : BitVec 32 := Scalar.muli v415 c1_i32_1808
  let v1045 : BitVec 32 := Scalar.addi c0_i32_1809 v1044
  v1045.toNat
def k0_dev38 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_558 : BitVec 32 := 4#32
  let v431 : BitVec 32 := Scalar.addi v2 c4_i32_558
  let c8_i32_559 : BitVec 32 := 8#32
  let v432 : BitVec 32 := Scalar.remsi v431 c8_i32_559
  let c1_i32_568 : BitVec 32 := 1#32
  let v433 : BitVec 32 := Scalar.muli v432 c1_i32_568
  let v434 : BitVec 32 := Scalar.addi c0_i32_569 v433
  v434.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v443 : BitVec 32 := Scalar.extui v3
  let c0_i32_582 : BitVec 32 := 0#32
  let v444 : BitVec 1 := Scalar.cmpi .ne v443 c0_i32_582
  v444

def k0_dev39 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_558 : BitVec 32 := 4#32
  let v431 : BitVec 32 := Scalar.addi v2 c4_i32_558
  let c8_i32_559 : BitVec 32 := 8#32
  let v432 : BitVec 32 := Scalar.remsi v431 c8_i32_559
  let c1_i32_1808 : BitVec 32 := 1#32
  let v1044 : BitVec 32 := Scalar.muli v432 c1_i32_1808
  let v1045 : BitVec 32 := Scalar.addi c0_i32_1809 v1044
  v1045.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_583 : BitVec 1 := 1#1
  let v445 : BitVec 1 := Scalar.xori v3 true_583
  let v446 : BitVec 32 := Scalar.extui v445
  let c0_i32_592 : BitVec 32 := 0#32
  let v447 : BitVec 1 := Scalar.cmpi .ne v446 c0_i32_592
  v447

def k0_dev40 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_558 : BitVec 32 := 4#32
  let v431 : BitVec 32 := Scalar.addi v2 c4_i32_558
  let c8_i32_559 : BitVec 32 := 8#32
  let v432 : BitVec 32 := Scalar.remsi v431 c8_i32_559
  let c1_i32_1808 : BitVec 32 := 1#32
  let v1044 : BitVec 32 := Scalar.muli v432 c1_i32_1808
  let v1045 : BitVec 32 := Scalar.addi c0_i32_1809 v1044
  v1045.toNat
def k0_dev41 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_593 : BitVec 32 := 5#32
  let v448 : BitVec 32 := Scalar.addi v2 c5_i32_593
  let c8_i32_594 : BitVec 32 := 8#32
  let v449 : BitVec 32 := Scalar.remsi v448 c8_i32_594
  let c1_i32_603 : BitVec 32 := 1#32
  let v450 : BitVec 32 := Scalar.muli v449 c1_i32_603
  let v451 : BitVec 32 := Scalar.addi c0_i32_604 v450
  v451.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v460 : BitVec 32 := Scalar.extui v3
  let c0_i32_617 : BitVec 32 := 0#32
  let v461 : BitVec 1 := Scalar.cmpi .ne v460 c0_i32_617
  v461

def k0_dev42 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_593 : BitVec 32 := 5#32
  let v448 : BitVec 32 := Scalar.addi v2 c5_i32_593
  let c8_i32_594 : BitVec 32 := 8#32
  let v449 : BitVec 32 := Scalar.remsi v448 c8_i32_594
  let c1_i32_1808 : BitVec 32 := 1#32
  let v1044 : BitVec 32 := Scalar.muli v449 c1_i32_1808
  let v1045 : BitVec 32 := Scalar.addi c0_i32_1809 v1044
  v1045.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_618 : BitVec 1 := 1#1
  let v462 : BitVec 1 := Scalar.xori v3 true_618
  let v463 : BitVec 32 := Scalar.extui v462
  let c0_i32_627 : BitVec 32 := 0#32
  let v464 : BitVec 1 := Scalar.cmpi .ne v463 c0_i32_627
  v464

def k0_dev43 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_593 : BitVec 32 := 5#32
  let v448 : BitVec 32 := Scalar.addi v2 c5_i32_593
  let c8_i32_594 : BitVec 32 := 8#32
  let v449 : BitVec 32 := Scalar.remsi v448 c8_i32_594
  let c1_i32_1808 : BitVec 32 := 1#32
  let v1044 : BitVec 32 := Scalar.muli v449 c1_i32_1808
  let v1045 : BitVec 32 := Scalar.addi c0_i32_1809 v1044
  v1045.toNat
def k0_dev44 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_628 : BitVec 32 := 6#32
  let v465 : BitVec 32 := Scalar.addi v2 c6_i32_628
  let c8_i32_629 : BitVec 32 := 8#32
  let v466 : BitVec 32 := Scalar.remsi v465 c8_i32_629
  let c1_i32_638 : BitVec 32 := 1#32
  let v467 : BitVec 32 := Scalar.muli v466 c1_i32_638
  let v468 : BitVec 32 := Scalar.addi c0_i32_639 v467
  v468.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v477 : BitVec 32 := Scalar.extui v3
  let c0_i32_652 : BitVec 32 := 0#32
  let v478 : BitVec 1 := Scalar.cmpi .ne v477 c0_i32_652
  v478

def k0_dev45 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_628 : BitVec 32 := 6#32
  let v465 : BitVec 32 := Scalar.addi v2 c6_i32_628
  let c8_i32_629 : BitVec 32 := 8#32
  let v466 : BitVec 32 := Scalar.remsi v465 c8_i32_629
  let c1_i32_1808 : BitVec 32 := 1#32
  let v1044 : BitVec 32 := Scalar.muli v466 c1_i32_1808
  let v1045 : BitVec 32 := Scalar.addi c0_i32_1809 v1044
  v1045.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_653 : BitVec 1 := 1#1
  let v479 : BitVec 1 := Scalar.xori v3 true_653
  let v480 : BitVec 32 := Scalar.extui v479
  let c0_i32_662 : BitVec 32 := 0#32
  let v481 : BitVec 1 := Scalar.cmpi .ne v480 c0_i32_662
  v481

def k0_dev46 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_628 : BitVec 32 := 6#32
  let v465 : BitVec 32 := Scalar.addi v2 c6_i32_628
  let c8_i32_629 : BitVec 32 := 8#32
  let v466 : BitVec 32 := Scalar.remsi v465 c8_i32_629
  let c1_i32_1808 : BitVec 32 := 1#32
  let v1044 : BitVec 32 := Scalar.muli v466 c1_i32_1808
  let v1045 : BitVec 32 := Scalar.addi c0_i32_1809 v1044
  v1045.toNat
def k0_dev47 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_663 : BitVec 32 := 7#32
  let v482 : BitVec 32 := Scalar.addi v2 c7_i32_663
  let c8_i32_664 : BitVec 32 := 8#32
  let v483 : BitVec 32 := Scalar.remsi v482 c8_i32_664
  let c1_i32_673 : BitVec 32 := 1#32
  let v484 : BitVec 32 := Scalar.muli v483 c1_i32_673
  let v485 : BitVec 32 := Scalar.addi c0_i32_674 v484
  v485.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let v494 : BitVec 32 := Scalar.extui v3
  let c0_i32_687 : BitVec 32 := 0#32
  let v495 : BitVec 1 := Scalar.cmpi .ne v494 c0_i32_687
  v495

def k0_dev48 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_663 : BitVec 32 := 7#32
  let v482 : BitVec 32 := Scalar.addi v2 c7_i32_663
  let c8_i32_664 : BitVec 32 := 8#32
  let v483 : BitVec 32 := Scalar.remsi v482 c8_i32_664
  let c1_i32_1808 : BitVec 32 := 1#32
  let v1044 : BitVec 32 := Scalar.muli v483 c1_i32_1808
  let v1045 : BitVec 32 := Scalar.addi c0_i32_1809 v1044
  v1045.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let true_688 : BitVec 1 := 1#1
  let v496 : BitVec 1 := Scalar.xori v3 true_688
  let v497 : BitVec 32 := Scalar.extui v496
  let c0_i32_697 : BitVec 32 := 0#32
  let v498 : BitVec 1 := Scalar.cmpi .ne v497 c0_i32_697
  v498

def k0_dev49 (d0 : Dev nD) : Nat :=
  let c0_i32_1809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_663 : BitVec 32 := 7#32
  let v482 : BitVec 32 := Scalar.addi v2 c7_i32_663
  let c8_i32_664 : BitVec 32 := 8#32
  let v483 : BitVec 32 := Scalar.remsi v482 c8_i32_664
  let c1_i32_1808 : BitVec 32 := 1#32
  let v1044 : BitVec 32 := Scalar.muli v483 c1_i32_1808
  let v1045 : BitVec 32 := Scalar.addi c0_i32_1809 v1044
  v1045.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S_ : Shape := ⟨0, ![]⟩
abbrev S2x4x128x1024 : Shape := ⟨4, ![2, 4, 128, 1024]⟩
abbrev S1x1x128x1024 : Shape := ⟨4, ![1, 1, 128, 1024]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 72
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x1024x4x64, .bf16⟩
  | .hbm, ⟨3, _⟩ => ⟨S2x1024x4x64, .bf16⟩
  | .hbm, ⟨4, _⟩ => ⟨S256x512, .bf16⟩
  | .hbm, ⟨5, _⟩ => ⟨S2x128x512, .f32⟩
  | .hbm, ⟨6, _⟩ => ⟨S512x256, .f32⟩
  | .hbm, ⟨7, _⟩ => ⟨S2x1024x4x64, .f32⟩
  | .hbm, ⟨8, _⟩ => ⟨S2x1024x4x64, .f32⟩
  | .hbm, ⟨9, _⟩ => ⟨S256x512, .f32⟩
  | .hbm, ⟨10, _⟩ => ⟨S2x128x256, .f32⟩
  | .hbm, ⟨11, _⟩ => ⟨S2x128x4x64, .f32⟩
  | .hbm, ⟨12, _⟩ => ⟨S128, .i32⟩
  | .hbm, ⟨13, _⟩ => ⟨S128x1, .i32⟩
  | .hbm, ⟨14, _⟩ => ⟨S1024, .i32⟩
  | .hbm, ⟨15, _⟩ => ⟨S1x1024, .i32⟩
  | .hbm, ⟨16, _⟩ => ⟨S128x1024, .i32⟩
  | .hbm, ⟨17, _⟩ => ⟨S128x1024, .i32⟩
  | .hbm, ⟨18, _⟩ => ⟨S128x1024, .i32⟩
  | .hbm, ⟨19, _⟩ => ⟨S128x1024, .i32⟩
  | .hbm, ⟨20, _⟩ => ⟨S_, .i32⟩
  | .hbm, ⟨21, _⟩ => ⟨S128x1024, .i32⟩
  | .hbm, ⟨22, _⟩ => ⟨S128x1024, .i1⟩
  | .hbm, ⟨23, _⟩ => ⟨S_, .i32⟩
  | .hbm, ⟨24, _⟩ => ⟨S1x1024, .i32⟩
  | .hbm, ⟨25, _⟩ => ⟨S1x1024, .i1⟩
  | .hbm, ⟨26, _⟩ => ⟨S_, .i32⟩
  | .hbm, ⟨27, _⟩ => ⟨S128x1, .i32⟩
  | .hbm, ⟨28, _⟩ => ⟨S128x1, .i1⟩
  | .hbm, ⟨29, _⟩ => ⟨S128x1024, .i1⟩
  | .hbm, ⟨30, _⟩ => ⟨S128x1024, .i1⟩
  | .hbm, ⟨31, _⟩ => ⟨S128x1024, .i1⟩
  | .hbm, ⟨32, _⟩ => ⟨S128x1024, .i1⟩
  | .hbm, ⟨33, _⟩ => ⟨S2x4x128x1024, .f32⟩
  | .hbm, ⟨34, _⟩ => ⟨S_, .f32⟩
  | .hbm, ⟨35, _⟩ => ⟨S2x4x128x1024, .f32⟩
  | .hbm, ⟨36, _⟩ => ⟨S2x4x128x1024, .f32⟩
  | .hbm, ⟨37, _⟩ => ⟨S1x1x128x1024, .i1⟩
  | .hbm, ⟨38, _⟩ => ⟨S_, .f32⟩
  | .hbm, ⟨39, _⟩ => ⟨S_, .f32⟩
  | .hbm, ⟨40, _⟩ => ⟨S2x4x128x1024, .i1⟩
  | .hbm, ⟨41, _⟩ => ⟨S2x4x128x1024, .f32⟩
  | .hbm, ⟨42, _⟩ => ⟨S2x4x128x1024, .f32⟩
  | .hbm, ⟨43, _⟩ => ⟨S_, .f32⟩
  | .hbm, ⟨44, _⟩ => ⟨S2x4x128, .f32⟩
  | .hbm, ⟨45, _⟩ => ⟨S2x4x128x1, .f32⟩
  | .hbm, ⟨46, _⟩ => ⟨S2x4x128x1024, .f32⟩
  | .hbm, ⟨47, _⟩ => ⟨S2x4x128x1024, .f32⟩
  | .hbm, ⟨48, _⟩ => ⟨S2x4x128x1024, .f32⟩
  | .hbm, ⟨49, _⟩ => ⟨S_, .i1⟩
  | .hbm, ⟨50, _⟩ => ⟨S128, .i1⟩
  | .hbm, ⟨51, _⟩ => ⟨S1x1x128x1, .i1⟩
  | .hbm, ⟨52, _⟩ => ⟨S_, .f32⟩
  | .hbm, ⟨53, _⟩ => ⟨S2x4x128, .f32⟩
  | .hbm, ⟨54, _⟩ => ⟨S2x4x128x1, .f32⟩
  | .hbm, ⟨55, _⟩ => ⟨S_, .f32⟩
  | .hbm, ⟨56, _⟩ => ⟨S_, .f32⟩
  | .hbm, ⟨57, _⟩ => ⟨S2x4x128x1, .i1⟩
  | .hbm, ⟨58, _⟩ => ⟨S2x4x128x1, .f32⟩
  | .hbm, ⟨59, _⟩ => ⟨S2x4x128x1, .f32⟩
  | .hbm, ⟨60, _⟩ => ⟨S2x4x128x1024, .f32⟩
  | .hbm, ⟨61, _⟩ => ⟨S2x4x128x1024, .f32⟩
  | .hbm, ⟨62, _⟩ => ⟨S1x1x128x1, .i1⟩
  | .hbm, ⟨63, _⟩ => ⟨S_, .f32⟩
  | .hbm, ⟨64, _⟩ => ⟨S_, .f32⟩
  | .hbm, ⟨65, _⟩ => ⟨S2x4x128x1024, .i1⟩
  | .hbm, ⟨66, _⟩ => ⟨S2x4x128x1024, .f32⟩
  | .hbm, ⟨67, _⟩ => ⟨S2x4x128x1024, .f32⟩
  | .hbm, ⟨68, _⟩ => ⟨S2x4x64x128, .f32⟩
  | .hbm, ⟨69, _⟩ => ⟨S2x128x4x64, .f32⟩
  | .hbm, ⟨70, _⟩ => ⟨S2x128x256, .f32⟩
  | .hbm, ⟨71, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.IdealCells.lean ====
/-
The cells and regions of the all-to-all exchange.

Eight devices. Slot `s` (1..7) of a device's two landing buffers, at batch `b`, is written by the device
`c - s`; the device sends, at index `s`, to the device `c + s`. Semaphores: the barrier, and four
arrays of DMA semaphores over (slot, batch).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Places -/

/-- The device `s` places after `c`, and `s` places before it. -/
def fwd (c : Dev nD) (s : Fin 8) : Dev nD := (⟨(c.val + s.val) % 8, Nat.mod_lt _ (by decide)⟩ : Fin 8)
def bwd (c : Dev nD) (s : Fin 8) : Dev nD := (⟨(c.val + 8 - s.val) % 8, Nat.mod_lt _ (by decide)⟩ : Fin 8)
/-- The index that leads back. -/
def neg (s : Fin 8) : Fin 8 := ⟨(8 - s.val) % 8, Nat.mod_lt _ (by decide)⟩

theorem bwd_fwd (c : Dev nD) (s : Fin 8) : bwd (fwd c s) s = c := by revert c s; decide
theorem fwd_bwd (c : Dev nD) (s : Fin 8) : fwd (bwd c s) s = c := by revert c s; decide
theorem fwd_neg (c : Dev nD) (s : Fin 8) : fwd (fwd c s) (neg s) = c := by revert c s; decide
theorem bwd_neg (c : Dev nD) (s : Fin 8) : bwd c (neg s) = fwd c s := by revert c s; decide
theorem neg_neg' (s : Fin 8) : neg (neg s) = s := by revert s; decide
theorem neg_ne (s : Fin 8) (h : s ≠ 0) : neg s ≠ 0 := by revert s; decide

/-- The devices whose whole 128 rows are sent: the first two. -/
def full (c : Dev nD) : Bool := decide (c.val < 2)

/-- The rows a device sends. -/
def rows (c : Dev nD) : Nat := if full c then 128 else 32

/-! ## Cells -/

/-- A DMA semaphore: which array (0: leaving `o`, 1: arriving `o`, 2: leaving stats, 3: arriving stats), slot, batch. -/
abbrev Ky : Type := Fin 4 × Fin 8 × Fin 2
/-- A semaphore of the exchange: the barrier, or a DMA semaphore. -/
abbrev CK : Type := Option Ky

abbrev barS : Sem sig := (SemArray.scalar (sig.barrier 0 rfl) : Sems sig S_).sem

def dsem (k : Ky) : DmaSem sig := (⟨6 + 16 * k.1.val + 2 * k.2.1.val + k.2.2.val, by
  have := k.1.isLt; have := k.2.1.isLt; have := k.2.2.isLt; omega⟩ : Fin 70)

def csem : CK → SemLoc sig
  | none => .reg barS
  | some k => .dma (dsem k)

/-- Which semaphore of the exchange a semaphore is. -/
def decode : SemLoc sig → Option CK
  | .reg _ => some none
  | .dma q => if 6 ≤ q.val then
      some (some (⟨((q.val - 6) / 16) % 4, Nat.mod_lt _ (by decide)⟩, ⟨((q.val - 6) % 16) / 2 % 8, Nat.mod_lt _ (by decide)⟩,
        ⟨(q.val - 6) % 2, Nat.mod_lt _ (by decide)⟩))
    else none

theorem decode_csem (k : CK) : decode (csem k) = some k := by
  rcases k with _ | ⟨a, s, b⟩
  · rfl
  · revert a s b; decide

theorem csem_injective : Function.Injective csem := fun a b h =>
  Option.some.inj ((decode_csem a).symm.trans ((congrArg decode h).trans (decode_csem b)))

abbrev kcell (x : Dev nD × CK) : GSem nD τ sig := ((x.1 : Thread nD τ), csem x.2)
/-- The cell of device `c`. -/
abbrev cel (c : Dev nD) (k : CK) : GSem nD τ sig := ((c : Thread nD τ), csem k)

/-- The printed semaphores are these. -/
abbrev sAt (A : DmaSems sig S8x2) (off : Fin 2 → Nat) (h : ∀ a, off a + S1x1.size a ≤ S8x2.size a) : DmaSem sig :=
  ((A.slice (Rect.unit (s := S8x2) off S1x1.size h)).squeeze S_ squeezes_S1x1_S_).sem

theorem sAt_val (A : DmaSems sig S8x2) (base : Nat) (hA : ∀ i, ((A.ix i : Fin 70) : Nat) = base + 2 * (i 0).val + (i 1).val)
    (off : Fin 2 → Nat) (h : ∀ a, off a + S1x1.size a ≤ S8x2.size a) : ((sAt A off h : Fin 70) : Nat) = base + 2 * off 0 + off 1 := by
  show ((A.ix _ : Fin 70) : Nat) = _
  rw [hA]
  have h0 : ∀ j : S1x1.Idx, (j 0).val = 0 := fun j => by have : (j 0).val < 1 := (j 0).isLt; omega
  have h1 : ∀ j : S1x1.Idx, (j 1).val = 0 := fun j => by have : (j 1).val < 1 := (j 1).isLt; omega
  simp only [Rect.emb_apply]
  rw [h0, h1]
  simp [Rect.unit]

theorem ix_cons (base : Nat) (h : base + S8x2.numel ≤ 70) (i : S8x2.Idx) :
    (((SemArray.consecutive (n := 70) base S8x2 h).ix i : Fin 70) : Nat) = base + 2 * (i 0).val + (i 1).val := by
  show base + (S8x2.rowMajor i).val = _
  rw [Shape.rowMajor_val_two]
  have : S8x2.size 1 = 2 := rfl
  simp only [show (![8, 2] : Fin 2 → Nat) 1 = 2 from rfl]
  omega

theorem sAt_osend (s : Fin 8) (b : Fin 2) (h) : sAt cc0_scratch2 ![s.val, b.val] h = dsem (0, s, b) :=
  Fin.ext ((sAt_val cc0_scratch2 6 (fun i => ix_cons _ _ i) _ h).trans (by simp [dsem]))
theorem sAt_orecv (s : Fin 8) (b : Fin 2) (h) : sAt cc0_scratch3 ![s.val, b.val] h = dsem (1, s, b) :=
  Fin.ext ((sAt_val cc0_scratch3 22 (fun i => ix_cons _ _ i) _ h).trans (by simp [dsem]))
theorem sAt_tsend (s : Fin 8) (b : Fin 2) (h) : sAt cc0_scratch4 ![s.val, b.val] h = dsem (2, s, b) :=
  Fin.ext ((sAt_val cc0_scratch4 38 (fun i => ix_cons _ _ i) _ h).trans (by simp [dsem]))
theorem sAt_trecv (s : Fin 8) (b : Fin 2) (h) : sAt cc0_scratch5 ![s.val, b.val] h = dsem (3, s, b) :=
  Fin.ext ((sAt_val cc0_scratch5 54 (fun i => ix_cons _ _ i) _ h).trans (by simp [dsem]))

end Cert.KernelIdealProof

end
-- ==== Proof.IdealSlots.lean ====
/-
The two landing buffers: their slots as sets of places, what the slots hold, and what a store or a copy
does to them.
-/
module

public import proofs.«01_k».proof.Proof.IdealCells
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The memrefs -/

abbrev oM : Memref sig .tc .vmem S8x2x128x256 .bf16 := Memref.whole cc0_scratch0
abbrev tM : Memref sig .tc .vmem S8x2x4x128 .f32 := Memref.whole cc0_scratch1

abbrev OIdx : Type := (cc0_scratch0 : Ref sig .tc).ty.Idx
abbrev TIdx : Type := (cc0_scratch1 : Ref sig .tc).ty.Idx

/-- An index from its four places. -/
def ix4 {d : Fin 4 → Nat} (a : Fin (d 0)) (b : Fin (d 1)) (r : Fin (d 2)) (k : Fin (d 3)) : (⟨4, d⟩ : Shape).Idx
  | 0 => a | 1 => b | 2 => r | 3 => k

theorem inbO (s : Fin 8) (b : Fin 2) : ∀ a, (![s.val, b.val, 0, 0] : Fin 4 → Nat) a + S1x1x128x256.size a ≤ S8x2x128x256.size a := by
  revert s b; decide
theorem inbO32 (s : Fin 8) (b : Fin 2) : ∀ a, (![s.val, b.val, 0, 0] : Fin 4 → Nat) a + S1x1x32x256.size a ≤ S8x2x128x256.size a := by
  revert s b; decide
theorem inbT (s : Fin 8) (b : Fin 2) : ∀ a, (![s.val, b.val, 0, 0] : Fin 4 → Nat) a + S1x1x4x128.size a ≤ S8x2x4x128.size a := by
  revert s b; decide

abbrev oRect (s : Fin 8) (b : Fin 2) : Rect S8x2x128x256 := Rect.unit (s := S8x2x128x256) ![s.val, b.val, 0, 0] S1x1x128x256.size (inbO s b)
abbrev oRect32 (s : Fin 8) (b : Fin 2) : Rect S8x2x128x256 := Rect.unit (s := S8x2x128x256) ![s.val, b.val, 0, 0] S1x1x32x256.size (inbO32 s b)
abbrev tRect (s : Fin 8) (b : Fin 2) : Rect S8x2x4x128 := Rect.unit (s := S8x2x4x128) ![s.val, b.val, 0, 0] S1x1x4x128.size (inbT s b)

/-- Slot `s`, batch `b`: all its rows, its first rows, its stats. -/
abbrev oAt (s : Fin 8) (b : Fin 2) : Memref sig .tc .vmem S128x256 .bf16 := (oM.slice (oRect s b) (fun _ => rfl)).squeeze S128x256 squeezes_S1x1x128x256_S128x256
abbrev oAt32 (s : Fin 8) (b : Fin 2) : Memref sig .tc .vmem S32x256 .bf16 := (oM.slice (oRect32 s b) (fun _ => rfl)).squeeze S32x256 squeezes_S1x1x32x256_S32x256
abbrev tAt (s : Fin 8) (b : Fin 2) : Memref sig .tc .vmem S4x128 .f32 := (tM.slice (tRect s b) (fun _ => rfl)).squeeze S4x128 squeezes_S1x1x4x128_S4x128

/-! ## The slots as sets -/

/-- Rows `lo ≤ r < hi` of slot `s`, batch `b`. -/
def oSet (lo hi : Nat) (s : Fin 8) (b : Fin 2) : Finset OIdx :=
  Finset.univ.filter fun i : S8x2x128x256.Idx => (i 0).val = s.val ∧ (i 1).val = b.val ∧ lo ≤ (i 2).val ∧ (i 2).val < hi
def tSet (s : Fin 8) (b : Fin 2) : Finset TIdx :=
  Finset.univ.filter fun i : S8x2x4x128.Idx => (i 0).val = s.val ∧ (i 1).val = b.val

theorem mem_oSet {lo hi : Nat} {s : Fin 8} {b : Fin 2} {i : S8x2x128x256.Idx} :
    (i : OIdx) ∈ oSet lo hi s b ↔ (i 0).val = s.val ∧ (i 1).val = b.val ∧ lo ≤ (i 2).val ∧ (i 2).val < hi :=
  ⟨fun h => (Finset.mem_filter.mp h).2, fun h => Finset.mem_filter.mpr ⟨Finset.mem_univ _, h⟩⟩
theorem mem_tSet {s : Fin 8} {b : Fin 2} {i : S8x2x4x128.Idx} : (i : TIdx) ∈ tSet s b ↔ (i 0).val = s.val ∧ (i 1).val = b.val :=
  ⟨fun h => (Finset.mem_filter.mp h).2, fun h => Finset.mem_filter.mpr ⟨Finset.mem_univ _, h⟩⟩

/-- A unit-stride rectangle's places: each coordinate from the offset on. -/
theorem mem_unit {S : Shape} {off size : Fin S.rank → Nat} {h : ∀ a, off a + size a ≤ S.size a} {i : S.Idx} :
    i ∈ (Rect.unit off size h).set ↔ ∀ a, off a ≤ (i a).val ∧ (i a).val < off a + size a := by
  rw [LoadRect.mem_set]
  refine forall_congr' fun a => ⟨?_, ?_⟩
  · rintro ⟨j, hj, e⟩
    have hj' : j < size a := hj
    have e' : (i a).val = off a + 1 * j := e
    omega
  · rintro ⟨h1, h2⟩
    exact ⟨(i a).val - off a, show (i a).val - off a < size a by omega, show (i a).val = off a + 1 * ((i a).val - off a) by omega⟩

theorem four {P : Fin 4 → Prop} (h0 : P 0) (h1 : P 1) (h2 : P 2) (h3 : P 3) : ∀ a, P a
  | 0 => h0 | 1 => h1 | 2 => h2 | 3 => h3

theorem oRect_set (s : Fin 8) (b : Fin 2) : (oRect s b).set = oSet 0 128 s b := by
  ext i
  rw [mem_unit]; refine Iff.trans ⟨fun h => ?_, fun h => ?_⟩ mem_oSet.symm
  · have h0 := h 0; have h1 := h 1; have h2 := h 2
    simp at h0 h1 h2; omega
  · have h2 : (i 2).val < 128 := (i 2).isLt
    have h3 : (i 3).val < 256 := (i 3).isLt
    refine four ?_ ?_ ?_ ?_ <;> simp <;> omega
theorem oRect32_set (s : Fin 8) (b : Fin 2) : (oRect32 s b).set = oSet 0 32 s b := by
  ext i
  rw [mem_unit]; refine Iff.trans ⟨fun h => ?_, fun h => ?_⟩ mem_oSet.symm
  · have h0 := h 0; have h1 := h 1; have h2 := h 2
    simp at h0 h1 h2; omega
  · have h3 : (i 3).val < 256 := (i 3).isLt
    refine four ?_ ?_ ?_ ?_ <;> simp <;> omega
theorem tRect_set (s : Fin 8) (b : Fin 2) : (tRect s b).set = tSet s b := by
  ext i
  rw [mem_unit]; refine Iff.trans ⟨fun h => ?_, fun h => ?_⟩ mem_tSet.symm
  · have h0 := h 0; have h1 := h 1
    simp at h0 h1; omega
  · have h2 : (i 2).val < 4 := (i 2).isLt
    have h3 : (i 3).val < 128 := (i 3).isLt
    refine four ?_ ?_ ?_ ?_ <;> simp <;> omega

theorem oAt_set (s : Fin 8) (b : Fin 2) : (oAt s b).view.set = oSet 0 128 s b :=
  (View.set_reshape _ _).trans ((View.set_slice_whole _ _).trans (oRect_set s b))
theorem oAt32_set (s : Fin 8) (b : Fin 2) : (oAt32 s b).view.set = oSet 0 32 s b :=
  (View.set_reshape _ _).trans ((View.set_slice_whole _ _).trans (oRect32_set s b))
theorem tAt_set (s : Fin 8) (b : Fin 2) : (tAt s b).view.set = tSet s b :=
  (View.set_reshape _ _).trans ((View.set_slice_whole _ _).trans (tRect_set s b))

theorem oSet_split (s : Fin 8) (b : Fin 2) : oSet 0 32 s b ∪ oSet 32 128 s b = oSet 0 128 s b := by
  ext i
  rw [Finset.mem_union, mem_oSet, mem_oSet, mem_oSet]; omega
theorem oSet_disj (s : Fin 8) (b : Fin 2) : Disjoint (oSet 0 32 s b) (oSet 32 128 s b) :=
  Finset.disjoint_left.mpr fun i h h' => by rw [mem_oSet] at h h'; omega

theorem oSet_cover : (Finset.univ : Finset (Fin 8 × Fin 2)).biUnion (fun x => oSet 0 128 x.1 x.2) = Finset.univ := by
  ext i
  refine ⟨fun _ => Finset.mem_univ _, fun _ => Finset.mem_biUnion.mpr ⟨(((i : S8x2x128x256.Idx) 0 : Fin 8), ((i : S8x2x128x256.Idx) 1 : Fin 2)), Finset.mem_univ _, mem_oSet.mpr ⟨rfl, rfl, Nat.zero_le _, ?_⟩⟩⟩
  exact ((i : S8x2x128x256.Idx) 2).isLt
theorem tSet_cover : (Finset.univ : Finset (Fin 8 × Fin 2)).biUnion (fun x => tSet x.1 x.2) = Finset.univ := by
  ext i
  exact ⟨fun _ => Finset.mem_univ _, fun _ => Finset.mem_biUnion.mpr ⟨(((i : S8x2x4x128.Idx) 0 : Fin 8), ((i : S8x2x4x128.Idx) 1 : Fin 2)), Finset.mem_univ _, mem_tSet.mpr ⟨rfl, rfl⟩⟩⟩
theorem oSet_pairwise : ∀ x ∈ (Finset.univ : Finset (Fin 8 × Fin 2)), ∀ y ∈ (Finset.univ : Finset (Fin 8 × Fin 2)), x ≠ y →
    Disjoint (oSet 0 128 x.1 x.2) (oSet 0 128 y.1 y.2) := fun x _ y _ hne =>
  Finset.disjoint_left.mpr fun i h h' => hne (by
    rw [mem_oSet] at h h'; exact Prod.ext (Fin.ext (h.1.symm.trans h'.1)) (Fin.ext (h.2.1.symm.trans h'.2.1)))
theorem tSet_pairwise : ∀ x ∈ (Finset.univ : Finset (Fin 8 × Fin 2)), ∀ y ∈ (Finset.univ : Finset (Fin 8 × Fin 2)), x ≠ y →
    Disjoint (tSet x.1 x.2) (tSet y.1 y.2) := fun x _ y _ hne =>
  Finset.disjoint_left.mpr fun i h h' => hne (by
    rw [mem_tSet] at h h'; exact Prod.ext (Fin.ext (h.1.symm.trans h'.1)) (Fin.ext (h.2.symm.trans h'.2)))

/-! ## What the devices compute -/

/-- What a device's five inputs hold. -/
structure In (F : FTy → Type) where
  x : Dev nD → Vec F S2x128x512 .bf16
  wq : Dev nD → Vec F S512x256 .bf16
  k : Dev nD → Vec F S2x128x4x64 .bf16
  v : Dev nD → Vec F S2x128x4x64 .bf16
  wo : Dev nD → Vec F S256x512 .bf16

variable (I : In F)

theorem inbK (b : Fin 2) : ∀ a, (![b.val, 0, 0, 0] : Fin 4 → Nat) a + S1x128x4x64.size a ≤ S2x128x4x64.size a := by
  revert b; decide

/-- A device's place as the kernel computes it. -/
abbrev w2 (c : Dev nD) : BitVec 32 := Scalar.remsi (Scalar.divsi (Dev.word c) 1#32) 8#32
abbrev w3 (c : Dev nD) : BitVec 1 := Scalar.cmpi .slt (w2 c) 2#32

/-- Batch `b` of the keys and of the values on device `c`. -/
def kAt (c : Dev nD) (b : Fin 2) : Vec F S1x128x4x64 .bf16 :=
  (Memref.whole cc0_stg2_0 : Memref sig .tc .vmem S2x128x4x64 .bf16).view.readAt (Elt F) (Rect.unit (s := S2x128x4x64) ![b.val, 0, 0, 0] S1x128x4x64.size (inbK b)).toLoadRect (I.k c)
def vAt (c : Dev nD) (b : Fin 2) : Vec F S1x128x4x64 .bf16 :=
  (Memref.whole cc0_stg3_0 : Memref sig .tc .vmem S2x128x4x64 .bf16).view.readAt (Elt F) (Rect.unit (s := S2x128x4x64) ![b.val, 0, 0, 0] S1x128x4x64.size (inbK b)).toLoadRect (I.v c)

/-- The mask, and the queries. -/
def mAt (c : Dev nD) : IVec S128x128 1 := k0_pay17 (w2 c)
def qAt (c : Dev nD) : FVec F S256x256 .bf16 := k0_pay18 (I.x c) (I.wq c)

/-- Head `h` of batch `b`'s weighted values, as stored. -/
def oHead (c : Dev nD) : Fin 2 → Fin 4 → FVec F S1x1x128x64 .bf16
  | 0, 0 => k0_pay22 (mAt c) (I.x c) (I.wq c) (kAt I c 0) (vAt I c 0)
  | 0, 1 => k0_pay26 (mAt c) (k0_pay19 (kAt I c 0)) (k0_pay20 (vAt I c 0)) (k0_pay24 (I.x c) (I.wq c))
  | 0, 2 => k0_pay29 (mAt c) (qAt I c) (k0_pay19 (kAt I c 0)) (k0_pay20 (vAt I c 0))
  | 0, 3 => k0_pay32 (mAt c) (qAt I c) (k0_pay19 (kAt I c 0)) (k0_pay20 (vAt I c 0))
  | 1, 0 => k0_pay37 (mAt c) (qAt I c) (kAt I c 1) (vAt I c 1)
  | 1, 1 => k0_pay42 (k0_pay41 (mAt c) (qAt I c) (kAt I c 1) (vAt I c 1))
  | 1, 2 => k0_pay45 (mAt c) (qAt I c) (k0_pay34 (kAt I c 1)) (k0_pay35 (vAt I c 1))
  | 1, 3 => k0_pay51 (k0_pay47 (k0_pay35 (vAt I c 1))) (k0_pay50 (mAt c) (qAt I c) (k0_pay34 (kAt I c 1))) (constant S128x64 .f32 0x00000000#32)

/-- Head `h` of batch `b`'s sums of weights, as stored. -/
def lHead (c : Dev nD) : Fin 2 → Fin 4 → FVec F S1x1x1x128 .f32
  | 0, 0 => k0_pay23 (mAt c) (I.x c) (I.wq c) (kAt I c 0)
  | 0, 1 => k0_pay27 (mAt c) (k0_pay19 (kAt I c 0)) (k0_pay24 (I.x c) (I.wq c))
  | 0, 2 => k0_pay30 (mAt c) (qAt I c) (k0_pay19 (kAt I c 0))
  | 0, 3 => k0_pay33 (mAt c) (qAt I c) (k0_pay19 (kAt I c 0))
  | 1, 0 => k0_pay38 (mAt c) (qAt I c) (kAt I c 1)
  | 1, 1 => k0_pay43 (k0_pay40 (mAt c) (qAt I c) (kAt I c 1))
  | 1, 2 => k0_pay46 (mAt c) (qAt I c) (k0_pay34 (kAt I c 1))
  | 1, 3 => k0_pay52 (k0_pay49 (mAt c) (qAt I c) (k0_pay34 (kAt I c 1)))

/-- A zero of the landing buffer. -/
def zro : Elt F .bf16 := (Scalar.ofBits .bf16 0x0000#16 : F .bf16)

/-- A device's own weighted values at row `r`, column `k`. -/
def oOwn (c : Dev nD) (b : Fin 2) (r : Fin 128) (k : Fin 256) : Elt F .bf16 :=
  oHead I c b ⟨k.val / 64, by have := k.isLt; omega⟩ (ix4 (d := ![1, 1, 128, 64]) (0 : Fin 1) (0 : Fin 1) r ⟨k.val % 64, Nat.mod_lt _ (by decide)⟩)

/-- What device `c`'s landing buffers hold once everything has arrived. -/
def oAll (c : Dev nD) : (cc0_scratch0 : Ref sig .tc).ty.Contents (Elt F) := fun (i : S8x2x128x256.Idx) =>
  if (i 0).val = 0 ∨ (i 2).val < rows (bwd c (i 0)) then oOwn I (bwd c (i 0)) (i 1) (i 2) (i 3) else zro
def tAll (c : Dev nD) : (cc0_scratch1 : Ref sig .tc).ty.Contents (Elt F) := fun (i : S8x2x4x128.Idx) =>
  lHead I (bwd c (i 0)) (i 1) (i 2) (ix4 (d := ![1, 1, 1, 128]) (0 : Fin 1) (0 : Fin 1) (0 : Fin 1) (i 3))

/-- What a load of slot `s`, batch `b` reads then. -/
def oSlot (c : Dev nD) (s : Fin 8) (b : Fin 2) : Vec F S1x1x128x256 .bf16 := oM.view.readAt (Elt F) (oRect s b).toLoadRect (oAll I c)
def tSlot (c : Dev nD) (s : Fin 8) (b : Fin 2) : Vec F S1x1x4x128 .f32 := tM.view.readAt (Elt F) (tRect s b).toLoadRect (tAll I c)

/-- Which head each column belongs to, as a table of zeros and ones. -/
def headMap : FVec F S4x256 .f32 :=
  k0_pay55 (iota .tc S4x256 32 [0] iota_S4x256_d0_w32) (iota .tc S4x256 32 [1] iota_S4x256_d1_w32) 64#32 k0_pay53 k0_pay54 (Scalar.extui (Scalar.cmpi .sgt 64#32 0#32))

/-- Batch 0's sums of weights over the devices, its sums of weighted values, its context; batch 1's. -/
def lSum0 (c : Dev nD) : FVec F S4x128 .f32 :=
  k0_pay56 (tSlot I c 0 0) (tSlot I c 1 0) (tSlot I c 2 0) (tSlot I c 3 0) (tSlot I c 4 0) (tSlot I c 5 0) (tSlot I c 6 0) (tSlot I c 7 0)
def oSum0 (c : Dev nD) : FVec F S128x256 .f32 :=
  k0_pay61 (k0_pay60 (k0_pay59 (k0_pay58 (k0_pay57 (oSlot I c 0 0) (oSlot I c 1 0)) (oSlot I c 2 0)) (oSlot I c 3 0) (oSlot I c 4 0)) (oSlot I c 5 0)) (oSlot I c 6 0) (oSlot I c 7 0)
def ctx0 (c : Dev nD) : FVec F S128x256 .bf16 :=
  k0_pay63 headMap (oSum0 I c) (k0_pay62 (lSum0 I c)) (constant S128x256 .f32 0x00000000#32)
def lSum1 (c : Dev nD) : FVec F S4x128 .f32 :=
  k0_pay65 (k0_pay64 (tSlot I c 0 1) (tSlot I c 1 1)) (tSlot I c 2 1) (tSlot I c 3 1) (tSlot I c 4 1) (tSlot I c 5 1) (tSlot I c 6 1) (tSlot I c 7 1)
def oSum1 (c : Dev nD) : FVec F S128x256 .f32 :=
  k0_pay70 (k0_pay69 (k0_pay68 (k0_pay67 (k0_pay66 (oSlot I c 0 1)) (oSlot I c 1 1)) (oSlot I c 2 1) (oSlot I c 3 1)) (oSlot I c 4 1)) (oSlot I c 5 1) (oSlot I c 6 1)
/-- What device `c` returns. -/
def outAt (c : Dev nD) : FVec F S2x128x512 .f32 :=
  k0_pay71 headMap (ctx0 I c) (lSum1 I c) (oSum1 I c) (oSlot I c 7 1) (I.wo c)

/-! ## Stores and copies -/

/-- A store through a rectangle of a whole buffer of the first kind: inside, the payload; outside, what was there. -/
theorem oWrite_in {off size : Fin 4 → Nat} {h : ∀ a, off a + size a ≤ S8x2x128x256.size a} (f : (cc0_scratch0 : Ref sig .tc).ty.Contents (Elt F))
    (w : (Rect.unit (s := S8x2x128x256) off size h).shape.Idx → Elt F .bf16) (j : (Rect.unit (s := S8x2x128x256) off size h).shape.Idx) (i : S8x2x128x256.Idx)
    (hi : ∀ a, (i a).val = off a + (j a).val) :
    (oM.access (Rect.unit (s := S8x2x128x256) off size h)).write (Elt F) f w Finset.univ i = w j := by
  have : i = (oM.access (Rect.unit (s := S8x2x128x256) off size h)).emb j := funext fun a => Fin.ext (by
    rw [hi a]; show _ = off a + 1 * (j a).val; omega)
  rw [this]
  exact View.write_emb_of_mem (v := (oM.access (Rect.unit (s := S8x2x128x256) off size h))) f w (Finset.mem_univ j)
theorem oWrite_out {off size : Fin 4 → Nat} {h : ∀ a, off a + size a ≤ S8x2x128x256.size a} (f : (cc0_scratch0 : Ref sig .tc).ty.Contents (Elt F))
    (w : (Rect.unit (s := S8x2x128x256) off size h).shape.Idx → Elt F .bf16) (i : S8x2x128x256.Idx) (a : Fin 4)
    (hi : (i a).val < off a ∨ off a + size a ≤ (i a).val) :
    (oM.access (Rect.unit (s := S8x2x128x256) off size h)).write (Elt F) f w Finset.univ i = f i := by
  refine View.write_of_not_mem (v := (oM.access (Rect.unit (s := S8x2x128x256) off size h))) f w Finset.univ fun hm => ?_
  have := (mem_unit.mp ((show (oM.access (Rect.unit (s := S8x2x128x256) off size h)).set = _ from View.set_slice_whole _ _) ▸ (show i ∈ (oM.access (Rect.unit (s := S8x2x128x256) off size h)).set from hm))) a
  omega
theorem tWrite_in {off size : Fin 4 → Nat} {h : ∀ a, off a + size a ≤ S8x2x4x128.size a} (f : (cc0_scratch1 : Ref sig .tc).ty.Contents (Elt F))
    (w : (Rect.unit (s := S8x2x4x128) off size h).shape.Idx → Elt F .f32) (j : (Rect.unit (s := S8x2x4x128) off size h).shape.Idx) (i : S8x2x4x128.Idx)
    (hi : ∀ a, (i a).val = off a + (j a).val) :
    (tM.access (Rect.unit (s := S8x2x4x128) off size h)).write (Elt F) f w Finset.univ i = w j := by
  have : i = (tM.access (Rect.unit (s := S8x2x4x128) off size h)).emb j := funext fun a => Fin.ext (by
    rw [hi a]; show _ = off a + 1 * (j a).val; omega)
  rw [this]
  exact View.write_emb_of_mem (v := (tM.access (Rect.unit (s := S8x2x4x128) off size h))) f w (Finset.mem_univ j)
theorem tWrite_out {off size : Fin 4 → Nat} {h : ∀ a, off a + size a ≤ S8x2x4x128.size a} (f : (cc0_scratch1 : Ref sig .tc).ty.Contents (Elt F))
    (w : (Rect.unit (s := S8x2x4x128) off size h).shape.Idx → Elt F .f32) (i : S8x2x4x128.Idx) (a : Fin 4)
    (hi : (i a).val < off a ∨ off a + size a ≤ (i a).val) :
    (tM.access (Rect.unit (s := S8x2x4x128) off size h)).write (Elt F) f w Finset.univ i = f i := by
  refine View.write_of_not_mem (v := (tM.access (Rect.unit (s := S8x2x4x128) off size h))) f w Finset.univ fun hm => ?_
  have := (mem_unit.mp ((show (tM.access (Rect.unit (s := S8x2x4x128) off size h)).set = _ from View.set_slice_whole _ _) ▸ (show i ∈ (tM.access (Rect.unit (s := S8x2x4x128) off size h)).set from hm))) a
  omega

/-- A copy of one slot's rows to another slot: each place takes the same row and column of the source. -/
theorem oCopy {s b : _} (fd fs : (cc0_scratch0 : Ref sig .tc).ty.Contents (Elt F)) (i : S8x2x128x256.Idx) (hi : (i : OIdx) ∈ oSet 0 128 s b) :
    (oAt s b).view.write (Elt F) fd ((oAt 0 b).view.read (Elt F) fs) Finset.univ i = fs (ix4 (d := ![8, 2, 128, 256]) (0 : Fin 8) b (i 2) (i 3)) := by
  rw [← oAt_set] at hi
  obtain ⟨x, -, rfl⟩ := Finset.mem_map.mp hi
  rw [View.write_emb_of_mem _ _ (Finset.mem_univ x)]
  show fs ((oAt 0 b).view.emb x) = _
  refine congrArg fs (funext fun a => Fin.ext ?_)
  revert a
  have hy : ∀ y : S1x1x128x256.Idx, (y 0).val = 0 ∧ (y 1).val = 0 := fun y => ⟨by have : (y 0).val < 1 := (y 0).isLt; omega, by have : (y 1).val < 1 := (y 1).isLt; omega⟩
  obtain ⟨h0, h1⟩ := hy (Shape.reshapeEquiv squeezes_S1x1x128x256_S128x256.numel_eq x)
  refine four ?_ ?_ ?_ ?_
  · show 0 + 1 * (Shape.reshapeEquiv squeezes_S1x1x128x256_S128x256.numel_eq x 0).val = 0
    omega
  · show b.val + 1 * (Shape.reshapeEquiv squeezes_S1x1x128x256_S128x256.numel_eq x 1).val = b.val
    omega
  · rfl
  · rfl
theorem oCopy32 {s b : _} (fd fs : (cc0_scratch0 : Ref sig .tc).ty.Contents (Elt F)) (i : S8x2x128x256.Idx) (hi : (i : OIdx) ∈ oSet 0 32 s b) :
    (oAt32 s b).view.write (Elt F) fd ((oAt32 0 b).view.read (Elt F) fs) Finset.univ i = fs (ix4 (d := ![8, 2, 128, 256]) (0 : Fin 8) b (i 2) (i 3)) := by
  rw [← oAt32_set] at hi
  obtain ⟨x, -, rfl⟩ := Finset.mem_map.mp hi
  rw [View.write_emb_of_mem _ _ (Finset.mem_univ x)]
  show fs ((oAt32 0 b).view.emb x) = _
  refine congrArg fs (funext fun a => Fin.ext ?_)
  revert a
  have hy : ∀ y : S1x1x32x256.Idx, (y 0).val = 0 ∧ (y 1).val = 0 := fun y => ⟨by have : (y 0).val < 1 := (y 0).isLt; omega, by have : (y 1).val < 1 := (y 1).isLt; omega⟩
  obtain ⟨h0, h1⟩ := hy (Shape.reshapeEquiv squeezes_S1x1x32x256_S32x256.numel_eq x)
  refine four ?_ ?_ ?_ ?_
  · show 0 + 1 * (Shape.reshapeEquiv squeezes_S1x1x32x256_S32x256.numel_eq x 0).val = 0
    omega
  · show b.val + 1 * (Shape.reshapeEquiv squeezes_S1x1x32x256_S32x256.numel_eq x 1).val = b.val
    omega
  · rfl
  · rfl
theorem tCopy {s b : _} (fd fs : (cc0_scratch1 : Ref sig .tc).ty.Contents (Elt F)) (i : S8x2x4x128.Idx) (hi : (i : TIdx) ∈ tSet s b) :
    (tAt s b).view.write (Elt F) fd ((tAt 0 b).view.read (Elt F) fs) Finset.univ i = fs (ix4 (d := ![8, 2, 4, 128]) (0 : Fin 8) b (i 2) (i 3)) := by
  rw [← tAt_set] at hi
  obtain ⟨x, -, rfl⟩ := Finset.mem_map.mp hi
  rw [View.write_emb_of_mem _ _ (Finset.mem_univ x)]
  show fs ((tAt 0 b).view.emb x) = _
  refine congrArg fs (funext fun a => Fin.ext ?_)
  revert a
  have hy : ∀ y : S1x1x4x128.Idx, (y 0).val = 0 ∧ (y 1).val = 0 := fun y => ⟨by have : (y 0).val < 1 := (y 0).isLt; omega, by have : (y 1).val < 1 := (y 1).isLt; omega⟩
  obtain ⟨h0, h1⟩ := hy (Shape.reshapeEquiv squeezes_S1x1x4x128_S4x128.numel_eq x)
  refine four ?_ ?_ ?_ ?_
  · show 0 + 1 * (Shape.reshapeEquiv squeezes_S1x1x4x128_S4x128.numel_eq x 0).val = 0
    omega
  · show b.val + 1 * (Shape.reshapeEquiv squeezes_S1x1x4x128_S4x128.numel_eq x 1).val = b.val
    omega
  · rfl
  · rfl

end Cert.KernelIdealProof

end
-- ==== Proof.IdealProto.lean ====
/-
The protocol: what each cell's round expects and hands over, what each device owes, and the pieces of
memory each phase of the body holds.
-/
module

public import proofs.«01_k».proof.Proof.IdealSlots
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Amounts -/

abbrev NO128 : ℕ := (oAt 0 0).view.dmaCredit
abbrev NO32 : ℕ := (oAt32 0 0).view.dmaCredit
abbrev NT : ℕ := (tAt 0 0).view.dmaCredit

/-- The credit of one batch's weighted values leaving device `c`. -/
def NO (c : Dev nD) : ℕ := if full c then NO128 else NO32

theorem NO_pos (c : Dev nD) : 0 < NO c := by
  unfold NO; split
  · exact View.dmaCredit_pos _ (by decide)
  · exact View.dmaCredit_pos _ (by decide)
theorem NT_pos : 0 < NT := View.dmaCredit_pos _ (by decide)

/-! ## Pieces of memory -/

/-- Rows `lo ≤ r < hi` of slot `s`, batch `b`, of device `c`'s first landing buffer; slot `s`, batch `b`, of its second. -/
def oPts (c : Dev nD) (lo hi : Nat) (s : Fin 8) (b : Fin 2) (q : PosShare TreeShare) (f : (cc0_scratch0 : Ref sig .tc).ty.Contents (Elt F)) : sProp 𝕄 :=
  oM.view.loc (c : Thread nD τ) ↦[oSet lo hi s b]{q} f
def tPts (c : Dev nD) (s : Fin 8) (b : Fin 2) (q : PosShare TreeShare) (f : (cc0_scratch1 : Ref sig .tc).ty.Contents (Elt F)) : sProp 𝕄 :=
  tM.view.loc (c : Thread nD τ) ↦[tSet s b]{q} f

omit [FloatOps F] [Named F] in
instance oPts_storable (c : Dev nD) (lo hi : Nat) (s b q f) : BI.Storable (upEmb : UEmb _ 𝕄) (oPts (F := F) c lo hi s b q f) := by unfold oPts; infer_instance
omit [FloatOps F] [Named F] in
instance tPts_storable (c : Dev nD) (s b q f) : BI.Storable (upEmb : UEmb _ 𝕄) (tPts (F := F) c s b q f) := by unfold tPts; infer_instance

theorem oSet_cut (s : Fin 8) (b : Fin 2) (n : Nat) (h : n ≤ 128) : oSet 0 n s b ∪ oSet n 128 s b = oSet 0 128 s b := by
  ext i
  rw [Finset.mem_union, mem_oSet, mem_oSet, mem_oSet]; omega
theorem oSet_cut_disj (s : Fin 8) (b : Fin 2) (n : Nat) : Disjoint (oSet 0 n s b) (oSet n 128 s b) :=
  Finset.disjoint_left.mpr fun i h h' => by rw [mem_oSet] at h h'; omega

omit [FloatOps F] [Named F] in
theorem oPts_cut (c : Dev nD) (s b q f) (n : Nat) (h : n ≤ 128) :
    oPts (F := F) c 0 128 s b q f ⊣⊢ iprop(oPts c 0 n s b q f ∗ oPts c n 128 s b q f) := by
  unfold oPts
  rw [← oSet_cut s b n h]
  exact pointsTo_union (oSet_cut_disj s b n)

theorem rows_le (c : Dev nD) : rows c ≤ 128 := by unfold rows; split <;> decide
theorem rows_ge (c : Dev nD) : 32 ≤ rows c := by unfold rows; split <;> decide

variable (I : In F)

/-! ## The schedule -/

/-- What device `q` is handed, at its barrier, by the device `e` places on: that device's landing places for what `q` sends it. -/
def barPay (q : Dev nD) (e : Fin 8) : sProp 𝕄 :=
  iprop((∃ f, oPts (fwd q e) 0 (rows q) e 0 fullShare f) ∗ (∃ f, oPts (fwd q e) 0 (rows q) e 1 fullShare f)
    ∗ (∃ f, tPts (fwd q e) e 0 fullShare f) ∗ (∃ f, tPts (fwd q e) e 1 fullShare f))

/-- What a DMA cell of device `c` hands over: the sent rows back; the rows arrived; the sent stats back; the stats arrived. -/
def dmaPay (c : Dev nD) : Ky → sProp 𝕄
  | (0, s, b) => oPts c 0 (rows c) 0 b (shareTok fullShare 8 s) (oAll I c)
  | (1, s, b) => oPts c 0 (rows (bwd c s)) s b fullShare (oAll I c)
  | (2, s, b) => tPts c 0 b (shareTok fullShare 8 s) (tAll I c)
  | (3, s, b) => tPts c s b fullShare (tAll I c)

def dutOf : Option CK → Finset (Fin 8)
  | none => ∅
  | some none => Finset.univ.erase 0
  | some (some k) => if k.2.1 = 0 then ∅ else {0}

def kAmt (c : Dev nD) : Ky → ℕ
  | (0, _, _) => NO c
  | (1, s, _) => NO (bwd c s)
  | (2, _, _) => NT
  | (3, _, _) => NT

def amtOf (c : Dev nD) : Option CK → ℕ
  | none => 1
  | some none => 1
  | some (some k) => kAmt c k

def payOf (c : Dev nD) : Option CK → Fin 8 → sProp 𝕄
  | none, _ => iprop(emp)
  | some none, e => barPay c e
  | some (some k), _ => dmaPay I c k

theorem kAmt_pos (c : Dev nD) : ∀ k, 0 < kAmt c k
  | (0, _, _) => NO_pos _
  | (1, _, _) => NO_pos _
  | (2, _, _) => NT_pos
  | (3, _, _) => NT_pos

theorem amtOf_pos (c : Dev nD) : ∀ k, 0 < amtOf c k
  | none => Nat.one_pos
  | some none => Nat.one_pos
  | some (some k) => kAmt_pos c k

instance dmaPay_storable (c : Dev nD) : ∀ k, BI.Storable (upEmb : UEmb _ 𝕄) (dmaPay I c k)
  | (0, s, b) => oPts_storable _ _ _ _ _ _ _
  | (1, s, b) => oPts_storable _ _ _ _ _ _ _
  | (2, s, b) => tPts_storable _ _ _ _ _
  | (3, s, b) => tPts_storable _ _ _ _ _

instance barPay_storable (q : Dev nD) (e : Fin 8) : BI.Storable (upEmb : UEmb _ 𝕄) (barPay (F := F) q e) := by unfold barPay; infer_instance

instance payOf_storable (c : Dev nD) (e : Fin 8) : ∀ k, BI.Storable (upEmb : UEmb _ 𝕄) (payOf I c k e)
  | none => by unfold payOf; infer_instance
  | some none => by unfold payOf; infer_instance
  | some (some k) => by unfold payOf; infer_instance

/-- One round per cell. The barrier of a device has a duty of one unit for each other device; a DMA cell one duty. -/
def Rd : Rounds.Schedule (GSem nD τ sig) (Fin 8) 𝕄 where
  duties g r := if r = 0 ∧ g.1.2 = .tc then dutOf (decode g.2) else ∅
  unitless _ := False
  amount g _ _ := amtOf g.1.1 (decode g.2)
  payload g _ d := payOf I g.1.1 (decode g.2) d
  amount_pos g _ _ _ := amtOf_pos _ _

instance Rd_storable (g : GSem nD τ sig) (r : ℕ) (d : Fin 8) : BI.Storable (upEmb : UEmb _ 𝕄) ((Rd I).payload g r d) :=
  payOf_storable I g.1.1 d (decode g.2)

theorem duties_at (c : Dev nD) (k : CK) : (Rd I).duties (cel c k) 0 = dutOf (some k) := by
  dsimp only [Rd]; rw [if_pos ⟨rfl, rfl⟩, decode_csem]
theorem duties_later (g : GSem nD τ sig) : ∀ r, 1 ≤ r → (Rd I).duties g r = ∅ :=
  fun r hr => by dsimp only [Rd]; exact if_neg fun h => by omega
theorem amount_at (c : Dev nD) (k : CK) (d : Fin 8) : (Rd I).amount (cel c k) 0 d = amtOf c (some k) := by
  dsimp only [Rd]; rw [decode_csem]
theorem payload_at (c : Dev nD) (k : CK) (d : Fin 8) : (Rd I).payload (cel c k) 0 d = payOf I c (some k) d := by
  dsimp only [Rd]; rw [decode_csem]

theorem expect_bar (c : Dev nD) : (Rd I).expect (cel c none) 0 = 7 := by
  unfold Schedule.expect Schedule.amountOf
  rw [duties_at, Finset.sum_congr rfl fun d _ => amount_at I c none d]
  show ∑ d ∈ Finset.univ.erase (0 : Fin 8), 1 = 7
  decide
theorem expect_dma (c : Dev nD) (k : Ky) (h : k.2.1 ≠ 0) : (Rd I).expect (cel c (some k)) 0 = kAmt c k := by
  unfold Schedule.expect Schedule.amountOf
  rw [duties_at, Finset.sum_congr rfl fun d _ => amount_at I c (some k) d]
  unfold dutOf; dsimp only
  rw [if_neg h, Finset.sum_singleton]; rfl
theorem rest_dma (c : Dev nD) (k : Ky) (h : k.2.1 ≠ 0) :
    bigSep ((Rd I).duties (cel c (some k)) 0 \ ∅) (fun d => (Rd I).payload (cel c (some k)) 0 d) = dmaPay I c k := by
  rw [Finset.sdiff_empty, duties_at]
  unfold dutOf; dsimp only
  rw [if_neg h, bigSep_singleton, payload_at]; rfl

/-- The indices, in the order in which the body goes through them. -/
abbrev D7 : List (Fin 8) := [1, 2, 3, 4, 5, 6, 7]

theorem rest_bar (c : Dev nD) :
    bigSep ((Rd I).duties (cel c none) 0 \ ∅) (fun d => (Rd I).payload (cel c none) 0 d) = bigSepL D7 (fun e => barPay c e) := by
  rw [Finset.sdiff_empty, duties_at, bigSep_congr (fun d _ => payload_at I c none d)]
  exact bigSep_eq_bigSepL_of_eq D7 (by decide) (by decide) _

/-! ## What a device owes -/

/-- Something a device does for another: the signal at index `s`; sending its stats; sending its weighted values. -/
inductive Item | sg (s : Fin 8) | st (s : Fin 8) (b : Fin 2) | ob (s : Fin 8) (b : Fin 2)
  deriving DecidableEq

def Item.cell (c : Dev nD) : Item → GSem nD τ sig
  | .sg s => cel (fwd c s) none
  | .st s b => cel (fwd c s) (some (3, s, b))
  | .ob s b => cel (fwd c s) (some (1, s, b))
def Item.amt (c : Dev nD) : Item → ℕ
  | .sg _ => 1
  | .st _ _ => NT
  | .ob _ _ => NO c

/-- What is owed for a list of them. -/
def owing (c : Dev nD) : List Item → CellTallies nD τ sig Unit
  | [] => 0
  | i :: l => owing c l + tallyAt (i.cell c) () (i.amt c)

abbrev sendItems (b : Fin 2) : List Item := D7.flatMap fun s => [.st s b, .ob s b]
abbrev allItems : List Item := D7.map .sg ++ (sendItems 0 ++ sendItems 1)

def L (g : GSem nD τ sig) : Finset Unit := if g.1.2 = .tc then {()} else ∅
def lvOf : Option CK → ℕ
  | none => 0
  | some none => 1
  | some (some k) => if k.1 = 1 ∨ k.1 = 3 then 2 else 0
/-- Barriers below arriving cells; everything else below both. -/
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl

theorem owing_pos {c : Dev nD} {g : GSem nD τ sig} {u : Unit} : ∀ {l : List Item}, 0 < owing c l g u → ∃ i ∈ l, g = i.cell c
  | [], h => absurd h (Nat.lt_irrefl 0)
  | i :: l, h => by
    unfold owing at h
    rw [Pi.add_apply, Finsupp.add_apply, tallyAt_apply] at h
    by_cases hg : g = i.cell c
    · exact ⟨i, List.mem_cons_self, hg⟩
    · rw [if_neg fun h' => hg h'.1, Nat.add_zero] at h
      obtain ⟨j, hj, e⟩ := owing_pos h
      exact ⟨j, List.mem_cons_of_mem _ hj, e⟩

def Item.isSend : Item → Bool
  | .sg _ => false
  | _ => true

theorem Item.lv_pos (c : Dev nD) (i : Item) : 0 < lv (i.cell c) () := by
  rcases i with s | ⟨s, b⟩ | ⟨s, b⟩ <;> (unfold lv Item.cell; rw [decode_csem])
  · exact Nat.one_pos
  · exact (by decide : 0 < 2)
  · exact (by decide : 0 < 2)
theorem Item.lv_send (c : Dev nD) (i : Item) (h : i.isSend = true) : 1 < lv (i.cell c) () := by
  rcases i with s | ⟨s, b⟩ | ⟨s, b⟩
  · cases h
  all_goals (unfold lv Item.cell; rw [decode_csem]; exact (by decide : 1 < 2))
theorem Item.L_cell (c : Dev nD) (i : Item) : L (i.cell c) = {()} := by rcases i with s | ⟨s, b⟩ | ⟨s, b⟩ <;> exact if_pos rfl

omit [FloatOps F] [Named F] in
/-- At a cell below everything owed, a device may wait. -/
theorem mayWait_below (c : Dev nD) (sm : SemLoc sig) (l : List Item) (h : ∀ i ∈ l, lvOf (decode sm) < lv (i.cell c) ()) :
    (levAts L lv : sProp 𝕄) ⊢ MayWait (c : Thread nD τ) sm () (owing c l) :=
  MayOwe.of_cut (L := L) (lev := lv) (lvOf (decode sm)) (fun p hp => by rw [Finset.mem_singleton.mp hp, L_tc]; exact Finset.mem_singleton_self _)
    (fun g u hg => by obtain ⟨i, -, rfl⟩ := owing_pos hg; rw [Item.L_cell]; exact Finset.mem_singleton_self _)
    (fun p hp => by rw [Finset.mem_singleton.mp hp]; exact le_refl _)
    (fun g u hg => by obtain ⟨i, hi, rfl⟩ := owing_pos hg; exact h i hi)

/-! ## The state of a device's body -/

abbrev 𝒱₀ : Variants := Variants.none

/-- Everything that stays true throughout: the cells' invariants, that each is at its round, the levels. -/
def env (K : Dev nD × CK → ℕ) : sProp 𝕄 :=
  iprop((bigSep Finset.univ fun x : Dev nD × CK => iprop(cellInv ER (Rd I) (K x) (kcell x) ∗ reached ER (kcell x) 0)) ∗ levAts L lv)

instance env_persistent (K : Dev nD × CK → ℕ) : BI.Persistent (env I K) := by unfold env; infer_instance

theorem env_at (K : Dev nD × CK → ℕ) (d : Dev nD) (k : CK) : env I K ⊢ iprop(cellInv ER (Rd I) (K (d, k)) (cel d k) ∗ reached ER (cel d k) 0) := by
  unfold env
  refine BIBase.Entails.trans ?_ (bigSep_elim (i := ((d, k) : Dev nD × CK)) (Finset.mem_univ _)
    (Φ := fun x : Dev nD × CK => iprop(cellInv ER (Rd I) (K x) (kcell x) ∗ reached ER (kcell x) 0)))
  iintro ⟨H, -⟩; iexact H
theorem env_lev (K : Dev nD × CK → ℕ) : env I K ⊢ (levAts L lv : sProp 𝕄) := by
  unfold env; iintro ⟨-, H⟩; iexact H

/-- What is still owed. -/
def ow (c : Dev nD) (l : List Item) : sProp 𝕄 := iprop(∃ W, owes (c : Thread nD τ) (owing c l) W)

/-- The staged operands, and what the region leaves in the result's. -/
def ins (c : Dev nD) : sProp 𝕄 :=
  iprop(((c : Thread nD τ).loc cc0_stg0_0 ↦{fullShare} I.x c) ∗ ((c : Thread nD τ).loc cc0_stg1_0 ↦{fullShare} I.wq c)
    ∗ ((c : Thread nD τ).loc cc0_stg2_0 ↦{fullShare} I.k c) ∗ ((c : Thread nD τ).loc cc0_stg3_0 ↦{fullShare} I.v c)
    ∗ ((c : Thread nD τ).loc cc0_stg4_0 ↦{fullShare} I.wo c))

/-- What is kept beside a transfer, to be joined with what comes back: for an arriving slot its last rows, all zero;
    for a leaving slot the rows that are not sent. -/
def beside (c : Dev nD) : Ky → sProp 𝕄
  | (0, s, b) => oPts c (rows c) 128 0 b (shareTok fullShare 8 s) (oAll I c)
  | (1, s, b) => oPts c (rows (bwd c s)) 128 s b fullShare (oAll I c)
  | (2, _, _) => iprop(emp)
  | (3, _, _) => iprop(emp)
/-- A transfer waited for: the whole slot. -/
def whole (c : Dev nD) : Ky → sProp 𝕄
  | (0, s, b) => oPts c 0 128 0 b (shareTok fullShare 8 s) (oAll I c)
  | (1, s, b) => oPts c 0 128 s b fullShare (oAll I c)
  | (2, s, b) => tPts c 0 b (shareTok fullShare 8 s) (tAll I c)
  | (3, s, b) => tPts c s b fullShare (tAll I c)

theorem whole_of (c : Dev nD) : ∀ k, iprop(dmaPay I c k ∗ beside I c k) ⊢ whole I c k
  | (0, s, b) => (oPts_cut c 0 b _ _ (rows c) (rows_le c)).2
  | (1, s, b) => (oPts_cut c s b _ _ (rows (bwd c s)) (rows_le _)).2
  | (2, s, b) => by unfold dmaPay beside whole; iintro ⟨H, -⟩; iexact H
  | (3, s, b) => by unfold dmaPay beside whole; iintro ⟨H, -⟩; iexact H

/-- Before a wait on a DMA cell, and after. -/
def wPre (c : Dev nD) (k : Ky) : sProp 𝕄 :=
  iprop(cred (tallyAt (cel c (some k)) () (kAmt c k)) ∗ atPos ER (cel c (some k)) 0 ∅ 0 ∗ beside I c k)
def wPost (c : Dev nD) (k : Ky) : sProp 𝕄 := iprop(semVal (cel c (some k)) 0 ∗ whole I c k)

/-- A landing slot not yet zeroed, and zeroed. -/
def zPre (c : Dev nD) (x : Fin 8 × Fin 2) : sProp 𝕄 := iprop(∃ f, oPts c 0 128 x.1 x.2 fullShare f)
def zPost (c : Dev nD) (x : Fin 8 × Fin 2) : sProp 𝕄 :=
  iprop(∃ f : (cc0_scratch0 : Ref sig .tc).ty.Contents (Elt F), ⌜∀ i ∈ oSet 32 128 x.1 x.2, f i = (zro : Elt F .bf16)⌝ ∗ oPts c 0 128 x.1 x.2 fullShare f)

/-- What the signal at index `s` takes besides the two zeroed slots: the duty's token, the stats' slots, and for the
    arrivals in those slots the credit and the position. -/
def sgPre (c : Dev nD) (s : Fin 8) : sProp 𝕄 :=
  iprop(dutyTok ER (cel (fwd c s) none) 0 (neg s)
    ∗ (∃ f, tPts c (neg s) 0 fullShare f) ∗ (∃ f, tPts c (neg s) 1 fullShare f)
    ∗ (cred (tallyAt (cel c (some (1, neg s, 0))) () (kAmt c (1, neg s, 0))) ∗ atPos ER (cel c (some (1, neg s, 0))) 0 ∅ 0)
    ∗ (cred (tallyAt (cel c (some (1, neg s, 1))) () (kAmt c (1, neg s, 1))) ∗ atPos ER (cel c (some (1, neg s, 1))) 0 ∅ 0))

/-- The device's own slot of batch `b`, after `n` stores: head by head, weighted values and then sums of weights. -/
def own (c : Dev nD) (b : Fin 2) (n : Nat) : sProp 𝕄 :=
  iprop((∃ f : (cc0_scratch0 : Ref sig .tc).ty.Contents (Elt F),
      ⌜∀ i : S8x2x128x256.Idx, (i : OIdx) ∈ oSet 0 128 0 b → (i 3).val < 64 * ((n + 1) / 2) → f i = oAll I c i⌝ ∗ oPts c 0 128 0 b fullShare f)
    ∗ (∃ f : (cc0_scratch1 : Ref sig .tc).ty.Contents (Elt F),
      ⌜∀ i : S8x2x4x128.Idx, (i : TIdx) ∈ tSet 0 b → (i 2).val < n / 2 → f i = tAll I c i⌝ ∗ tPts c 0 b fullShare f))

/-- What remains of it while its transfers are under way. -/
def ownR (c : Dev nD) (b : Fin 2) : sProp 𝕄 :=
  iprop((oPts c 0 128 0 b (shareDrop fullShare 8) (oAll I c) ∗ oPts c 0 128 0 b (shareTok fullShare 8 0) (oAll I c))
    ∗ (tPts c 0 b (shareDrop fullShare 8) (tAll I c) ∗ tPts c 0 b (shareTok fullShare 8 0) (tAll I c)))

/-- What sending one item takes: the source at a share, the place it lands in, the two duties' tokens, the position at
    the leaving cell. -/
def iPre (c : Dev nD) : Item → sProp 𝕄
  | .sg _ => iprop(emp)
  | .st s b => iprop(tPts c 0 b (shareTok fullShare 8 s) (tAll I c) ∗ (∃ f, tPts (fwd c s) s b fullShare f)
      ∗ dutyTok ER (cel c (some (2, s, b))) 0 0 ∗ dutyTok ER (cel (fwd c s) (some (3, s, b))) 0 0 ∗ atPos ER (cel c (some (2, s, b))) 0 ∅ 0)
  | .ob s b => iprop(oPts c 0 128 0 b (shareTok fullShare 8 s) (oAll I c) ∗ (∃ f, oPts (fwd c s) 0 (rows c) s b fullShare f)
      ∗ dutyTok ER (cel c (some (0, s, b))) 0 0 ∗ dutyTok ER (cel (fwd c s) (some (1, s, b))) 0 0 ∗ atPos ER (cel c (some (0, s, b))) 0 ∅ 0)

theorem iPre_st (c : Dev nD) (s : Fin 8) (b : Fin 2) : iPre I c (.st s b) =
    iprop(tPts c 0 b (shareTok fullShare 8 s) (tAll I c) ∗ (∃ f, tPts (fwd c s) s b fullShare f)
      ∗ dutyTok ER (cel c (some (2, s, b))) 0 0 ∗ dutyTok ER (cel (fwd c s) (some (3, s, b))) 0 0 ∗ atPos ER (cel c (some (2, s, b))) 0 ∅ 0) := rfl
theorem iPre_ob (c : Dev nD) (s : Fin 8) (b : Fin 2) : iPre I c (.ob s b) =
    iprop(oPts c 0 128 0 b (shareTok fullShare 8 s) (oAll I c) ∗ (∃ f, oPts (fwd c s) 0 (rows c) s b fullShare f)
      ∗ dutyTok ER (cel c (some (0, s, b))) 0 0 ∗ dutyTok ER (cel (fwd c s) (some (1, s, b))) 0 0 ∗ atPos ER (cel c (some (0, s, b))) 0 ∅ 0) := rfl
theorem wPre_eq (c : Dev nD) (k : Ky) : wPre I c k =
    iprop(cred (tallyAt (cel c (some k)) () (kAmt c k)) ∗ atPos ER (cel c (some k)) 0 ∅ 0 ∗ beside I c k) := rfl
theorem sgPre_eq (c : Dev nD) (s : Fin 8) : sgPre (F := F) c s =
    iprop(dutyTok ER (cel (fwd c s) none) 0 (neg s)
      ∗ (∃ f, tPts c (neg s) 0 fullShare f) ∗ (∃ f, tPts c (neg s) 1 fullShare f)
      ∗ (cred (tallyAt (cel c (some (1, neg s, 0))) () (kAmt c (1, neg s, 0))) ∗ atPos ER (cel c (some (1, neg s, 0))) 0 ∅ 0)
      ∗ (cred (tallyAt (cel c (some (1, neg s, 1))) () (kAmt c (1, neg s, 1))) ∗ atPos ER (cel c (some (1, neg s, 1))) 0 ∅ 0)) := rfl
theorem ow_intro (c : Dev nD) (l : List Item) (W : Waits sig Unit) : (owes (c : Thread nD τ) (owing c l) W : sProp 𝕄) ⊢ ow c l := by
  unfold ow; iintro H; iexists W; iexact H
theorem ow_elim (c : Dev nD) (l : List Item) : (ow c l : sProp 𝕄) ⊢ iprop(∃ W, owes (c : Thread nD τ) (owing c l) W) := .rfl

/-- The barrier before and after the wait. -/
def bPre (c : Dev nD) : sProp 𝕄 := iprop(cred (tallyAt (cel c none) () 7) ∗ atPos ER (cel c none) 0 ∅ 0)
def bPost (c : Dev nD) : sProp 𝕄 := iprop(semVal (cel c none) 0 ∗ bigSepL D7 (fun e => barPay c e))

def outPts (c : Dev nD) (f : (cc0_stg5_0 : Ref sig .tc).ty.Contents (Elt F)) : sProp 𝕄 := (c : Thread nD τ).loc cc0_stg5_0 ↦{fullShare} f

/-- The state: what holds throughout, what is owed, the operands, the transfers to wait for, those waited for, the
    piece being worked on, the rest. -/
def St (K : Dev nD × CK → ℕ) (c : Dev nD) (l : List Item) (wt wd : List Ky) (A R : sProp 𝕄) : sProp 𝕄 :=
  iprop(env I K ∗ ow c l ∗ ins I c ∗ bigSepL wt (wPre I c) ∗ bigSepL wd (wPost I c) ∗ A ∗ R)

/-- A program on device `c`'s TensorCore. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

end Cert.KernelIdealProof

end
-- ==== Proof.IdealSteps.lean ====
/-
The steps of the body: one lemma per kind of effect, from the state before it to the state after it.
-/
module

public import proofs.«01_k».proof.Proof.IdealProto
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

variable (I : In F) (K : Dev nD × CK → ℕ) (c : Dev nD)

/-! ## What the full contents are on a slot -/

theorem oAll_own (i : S8x2x128x256.Idx) (b : Fin 2) (h0 : (i 0).val = 0) (h1 : (i 1).val = b.val) :
    oAll I c i = oOwn I c b (i 2) (i 3) := by
  have e0 : @Eq (Fin 8) (i 0) 0 := Fin.ext h0
  have e1 : (i 1 : Fin 2) = b := Fin.ext h1
  have e : bwd c 0 = c := by revert c; decide
  unfold oAll
  rw [if_pos (Or.inl h0), e0, e1, e]

theorem tAll_own (i : S8x2x4x128.Idx) (b : Fin 2) (h0 : (i 0).val = 0) (h1 : (i 1).val = b.val) :
    tAll I c i = lHead I c b (i 2) (ix4 (d := ![1, 1, 1, 128]) (0 : Fin 1) (0 : Fin 1) (0 : Fin 1) (i 3)) := by
  have e0 : @Eq (Fin 8) (i 0) 0 := Fin.ext h0
  have e1 : (i 1 : Fin 2) = b := Fin.ext h1
  have e : bwd c 0 = c := by revert c; decide
  unfold tAll
  rw [e0, e1, e]

theorem oAll_sent (s : Fin 8) (b : Fin 2) (i : S8x2x128x256.Idx) (hi : (i : OIdx) ∈ oSet 0 (rows c) s b) :
    oAll I c (ix4 (d := ![8, 2, 128, 256]) (0 : Fin 8) b (i 2) (i 3)) = oAll I (fwd c s) i := by
  obtain ⟨h0, h1, -, h2⟩ := mem_oSet.mp hi
  have e0 : (i 0 : Fin 8) = s := Fin.ext h0
  have e1 : (i 1 : Fin 2) = b := Fin.ext h1
  rw [oAll_own I c _ b rfl rfl]
  unfold oAll
  rw [e0, bwd_fwd, if_pos (Or.inr h2), e1]; rfl

theorem tAll_sent (s : Fin 8) (b : Fin 2) (i : S8x2x4x128.Idx) (hi : (i : TIdx) ∈ tSet s b) :
    tAll I c (ix4 (d := ![8, 2, 4, 128]) (0 : Fin 8) b (i 2) (i 3)) = tAll I (fwd c s) i := by
  obtain ⟨h0, h1⟩ := mem_tSet.mp hi
  have e0 : (i 0 : Fin 8) = s := Fin.ext h0
  have e1 : (i 1 : Fin 2) = b := Fin.ext h1
  rw [tAll_own I c _ b rfl rfl]
  unfold tAll
  rw [e0, bwd_fwd, e1]; rfl

theorem oAll_rest (s : Fin 8) (b : Fin 2) (hs : s ≠ 0) (i : S8x2x128x256.Idx) (hi : (i : OIdx) ∈ oSet (rows (bwd c s)) 128 s b) :
    oAll I c i = (zro : Elt F .bf16) := by
  obtain ⟨h0, h1, h2, -⟩ := mem_oSet.mp hi
  have e0 : (i 0 : Fin 8) = s := Fin.ext h0
  unfold oAll
  rw [if_neg]
  rintro (h | h)
  · exact hs (e0.symm.trans (Fin.ext h))
  · rw [e0] at h; omega

/-- A zeroed slot: the rows to be written, and the rest, which holds what it will hold in the end. -/
theorem zPost_cut (s : Fin 8) (b : Fin 2) (hs : s ≠ 0) :
    zPost (F := F) c (s, b) ⊢ iprop((∃ f, oPts c 0 (rows (bwd c s)) s b fullShare f) ∗ oPts c (rows (bwd c s)) 128 s b fullShare (oAll I c)) := by
  unfold zPost
  iintro ⟨%f, %hf, H⟩
  ihave H := (oPts_cut c s b fullShare f (rows (bwd c s)) (rows_le _)).1 $$ H
  icases H with ⟨H1, H2⟩
  isplitl [H1]
  · iexists f; iexact H1
  · have e : oPts c (rows (bwd c s)) 128 s b fullShare f = oPts c (rows (bwd c s)) 128 s b fullShare (oAll I c) := by
      unfold oPts
      refine pointsTo_congr fun i hi => ?_
      rw [oAll_rest I c s b hs i hi]
      obtain ⟨h0, h1, h2, h3⟩ := mem_oSet.mp hi
      exact hf i (mem_oSet.mpr ⟨h0, h1, (rows_ge (bwd c s)).trans h2, h3⟩)
    rw [← e]; iexact H2

section Steps
variable {I K c}

theorem ret_step {α : Type} {Q : α → sProp 𝕄} {P : sProp 𝕄} {x : α} (h : P ⊢ Q x) : P ⊢ Wp (F := F) c (.ret x) Q := by
  unfold Wp; rw [wp_ret]; exact h.trans fupd_intro

theorem part_step {α : Type} {Q : α → sProp 𝕄} {β : Type} {P : sProp 𝕄} {p : Prog (TpuEff nD τ sig (Elt F) Λ₀ .tc) β} {f : β → Prog (TpuEff nD τ sig (Elt F) Λ₀ .tc) α}
    (h : P ⊢ Wp (F := F) c p (fun v => Wp (F := F) c (f v) Q)) : P ⊢ Wp (F := F) c (p.bind f) Q := by
  refine h.trans (Entails.of_eq ?_)
  exact (wp_bind frame (wpE (defs₀ (F := F)) 𝒱₀ (c : Thread nD τ) none) Set.univ p f Q).symm

/-! ### Loads -/

theorem load_step {α : Type} {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {P : sProp 𝕄} {S : Finset (Idx (m.view.loc (c : Thread nD τ)))}
    {q : PosShare TreeShare} (φ : Buf (Elt F) (m.view.loc (c : Thread nD τ)) → Prop) (hS : m.view.setOn r.set ⊆ S)
    (hget : P ⊢ iprop(∃ f, ⌜φ f⌝ ∗ (m.view.loc (c : Thread nD τ) ↦[S]{q} f) ∗ ((m.view.loc (c : Thread nD τ) ↦[S]{q} f) -∗ P)))
    (hk : ∀ f, φ f → P ⊢ Wp (F := F) c (k (m.view.readAt (Elt F) r f)) Q) : P ⊢ Wp (F := F) c (.op (.load m r hl) k) Q := by
  refine hget.trans ?_
  iintro ⟨%f, %hf, H, Hb⟩
  iapply (wp_load 𝒱₀ (c : Thread nD τ) none Set.univ hS) $$ H
  iintro H
  iapply (hk f hf)
  iapply Hb
  iexact H

/-- The places a load of the first landing buffer reads. -/
theorem oM_setOn (r : LoadRect S8x2x128x256) : oM.view.setOn r.set = r.set := by
  ext i; exact Finset.mem_map.trans ⟨fun ⟨x, hx, e⟩ => e ▸ hx, fun h => ⟨i, h, rfl⟩⟩
theorem tM_setOn (r : LoadRect S8x2x4x128) : tM.view.setOn r.set = r.set := by
  ext i; exact Finset.mem_map.trans ⟨fun ⟨x, hx, e⟩ => e ▸ hx, fun h => ⟨i, h, rfl⟩⟩

theorem o_sub {off size : Fin 4 → Nat} {h : ∀ a, off a + size a ≤ S8x2x128x256.size a} {s : Fin 8} {b : Fin 2}
    (h0 : off 0 = s.val) (s0 : size 0 = 1) (h1 : off 1 = b.val) (s1 : size 1 = 1) :
    (Rect.unit (s := S8x2x128x256) off size h).set ⊆ oSet 0 128 s b := fun i hi => by
  have h' := mem_unit.mp hi
  have a0 := h' 0; have a1 := h' 1
  refine mem_oSet.mpr ⟨by omega, by omega, Nat.zero_le _, (i 2).isLt⟩
theorem t_sub {off size : Fin 4 → Nat} {h : ∀ a, off a + size a ≤ S8x2x4x128.size a} {s : Fin 8} {b : Fin 2}
    (h0 : off 0 = s.val) (s0 : size 0 = 1) (h1 : off 1 = b.val) (s1 : size 1 = 1) :
    (Rect.unit (s := S8x2x4x128) off size h).set ⊆ tSet s b := fun i hi => by
  have h' := mem_unit.mp hi
  have a0 := h' 0; have a1 := h' 1
  exact mem_tSet.mpr ⟨by omega, by omega⟩

/-- One of a list's pieces, and the way to put it back. -/
theorem bigSepL_take {ι : Type} {x : ι} (Φ : ι → sProp 𝕄) : ∀ {l : List ι}, x ∈ l → bigSepL l Φ ⊢ iprop(Φ x ∗ (Φ x -∗ bigSepL l Φ))
  | [], h => by cases h
  | y :: l, h => by
    rw [bigSepL_cons']
    rcases List.mem_cons.mp h with rfl | h
    · iintro ⟨H, Hl⟩
      isplitl [H]; · iexact H
      iintro H; isplitl [H] <;> iassumption
    · iintro ⟨Hy, Hl⟩
      ihave Hl := (bigSepL_take Φ h) $$ Hl
      icases Hl with ⟨H, Hb⟩
      isplitl [H]; · iexact H
      iintro H
      isplitl [Hy]; · iexact Hy
      iapply Hb; iexact H

/-! ### Zeroing the landing slots -/

/-- The landing slots: those to be zeroed and those zeroed. -/
abbrev Zs (c : Dev nD) (zs zd : List (Fin 8 × Fin 2)) : sProp 𝕄 := iprop(bigSepL zs (zPre c) ∗ bigSepL zd (zPost c))

theorem z_load {α : Type} {Q : α → sProp 𝕄} {l : List Item} {wt wd : List Ky} {R : sProp 𝕄} {zs zd : List (Fin 8 × Fin 2)} (s : Fin 8) (b : Fin 2) {h} {hl} {k}
    (hk : ∀ v, St I K c l wt wd (Zs c ((s, b) :: zs) zd) R ⊢ Wp (F := F) c (k v) Q) :
    St I K c l wt wd (Zs c ((s, b) :: zs) zd) R
      ⊢ Wp (F := F) c (.op (.load oM (Rect.unit (s := S8x2x128x256) ![s.val, b.val, 32, 0] S1x1x96x256.size h).toLoadRect hl) k) Q := by
  refine load_step (S := oSet 0 128 s b) (q := fullShare) (fun _ => True) (by rw [oM_setOn]; exact o_sub rfl rfl rfl rfl) ?_ (fun f _ => hk _)
  unfold St Zs
  rw [bigSepL_cons']
  iintro ⟨HE, HO, HI, Hwt, Hwd, ⟨⟨Hz, Hzs⟩, Hzd⟩, HR⟩
  ihave Hz := (show zPre (F := F) c (s, b) ⊢ iprop(∃ f, oPts c 0 128 s b fullShare f) from .rfl) $$ Hz
  unfold oPts
  icases Hz with ⟨%f, Hz⟩
  iexists f
  isplitr; · ipureintro; trivial
  isplitl [Hz]; · iexact Hz
  iintro Hz
  isplitl [HE]; · iexact HE
  isplitl [HO]; · iexact HO
  isplitl [HI]; · iexact HI
  isplitl [Hwt]; · iexact Hwt
  isplitl [Hwd]; · iexact Hwd
  isplitr [HR]
  · isplitr [Hzd]
    · isplitl [Hz]
      · unfold zPre oPts; iexists f; iexact Hz
      · iexact Hzs
    · iexact Hzd
  · iexact HR

theorem z_store {α : Type} {Q : α → sProp 𝕄} {l : List Item} {wt wd : List Ky} {R : sProp 𝕄} {zs zd : List (Fin 8 × Fin 2)} (s : Fin 8) (b : Fin 2) {h} {w} (hw : ∀ j, w j = (zro : Elt F .bf16)) {hx hm} {k}
    (hk : St I K c l wt wd (Zs c zs ((s, b) :: zd)) R ⊢ Wp (F := F) c (k ⟨⟩) Q) :
    St I K c l wt wd (Zs c ((s, b) :: zs) zd) R
      ⊢ Wp (F := F) c (.op (.store oM (Rect.unit (s := S8x2x128x256) ![s.val, b.val, 32, 0] S1x1x96x256.size h) w Finset.univ hx hm) k) Q := by
  unfold St Zs at *
  rw [bigSepL_cons'] at hk ⊢
  iintro ⟨HE, HO, HI, Hwt, Hwd, ⟨⟨Hz, Hzs⟩, Hzd⟩, HR⟩
  ihave Hz := (show zPre (F := F) c (s, b) ⊢ iprop(∃ f, oPts c 0 128 s b fullShare f) from .rfl) $$ Hz
  unfold oPts
  icases Hz with ⟨%f, Hz⟩
  iapply (wp_store 𝒱₀ (c : Thread nD τ) none Set.univ (m := oM)
    (r := Rect.unit (s := S8x2x128x256) ![s.val, b.val, 32, 0] S1x1x96x256.size h) (Mk := Finset.univ) (S := oSet 0 128 s b)
    (show (oM.access (Rect.unit (s := S8x2x128x256) ![s.val, b.val, 32, 0] S1x1x96x256.size h)).set ⊆ _ from
      (View.set_slice_whole _ _).trans_subset (o_sub rfl rfl rfl rfl))) $$ Hz
  iintro Hz
  iapply hk
  isplitl [HE]; · iexact HE
  isplitl [HO]; · iexact HO
  isplitl [HI]; · iexact HI
  isplitl [Hwt]; · iexact Hwt
  isplitl [Hwd]; · iexact Hwd
  isplitr [HR]
  · isplitl [Hzs]; · iexact Hzs
    isplitl [Hz]
    · unfold zPost oPts
      iexists _
      isplitr
      rotate_left
      · iexact Hz
      · ipureintro
        intro i hi
        obtain ⟨h0, h1, h2, h3⟩ := mem_oSet.mp hi
        refine (oWrite_in f w (ix4 (d := ![1, 1, 96, 256]) (0 : Fin 1) (0 : Fin 1) ⟨(i 2).val - 32, show (i 2).val - 32 < 96 by omega⟩ (i 3)) i ?_).trans (hw _)
        refine four ?_ ?_ ?_ ?_
        · show (i 0).val = s.val + 0; exact h0
        · show (i 1).val = b.val + 0; exact h1
        · show (i 2).val = 32 + ((i 2).val - 32); omega
        · show (i 3).val = 0 + (i 3).val; omega
    · iexact Hzd
  · iexact HR

/-! ### Signals -/

theorem sg_step {α : Type} {Q : α → sProp 𝕄} {l : List Item} {wt wd : List Ky} {R : sProp 𝕄} {zd : List (Fin 8 × Fin 2)} (s : Fin 8) (hs : s ≠ 0) {n : Dev nD} (hn : n = fwd c s) {kk : Nat} (hkk : kk = 1) {sg : List (Fin 8)} {k}
    (hk : St I K c l ((1, neg s, 0) :: (1, neg s, 1) :: wt) wd iprop(bigSepL zd (zPost c) ∗ bigSepL sg (sgPre c)) R ⊢ Wp (F := F) c (k ⟨⟩) Q) :
    St I K c (.sg s :: l) wt wd iprop(bigSepL ((neg s, 1) :: (neg s, 0) :: zd) (zPost c) ∗ bigSepL (s :: sg) (sgPre c)) R
      ⊢ Wp (F := F) c (.op (.semSignal (Dev.tc n : Thread nD τ) barS kk) k) Q := by
  subst hn hkk
  unfold St at *
  rw [bigSepL_cons', bigSepL_cons'] at hk
  rw [bigSepL_cons', bigSepL_cons', bigSepL_cons']
  iintro ⟨#HE, HO, HI, Hwt, Hwd, ⟨⟨Hz1, Hz0, Hzd⟩, Hs, Hsg⟩, HR⟩
  ihave #Hq := (env_at I K (fwd c s) none) $$ HE
  icases Hq with ⟨#Hinv, #Hre⟩
  ihave Hz1 := (zPost_cut I c (neg s) 1 (neg_ne s hs)) $$ Hz1
  ihave Hz0 := (zPost_cut I c (neg s) 0 (neg_ne s hs)) $$ Hz0
  icases Hz1 with ⟨⟨%f1, Hz1⟩, Hb1⟩
  icases Hz0 with ⟨⟨%f0, Hz0⟩, Hb0⟩
  ihave HO := (ow_elim c _) $$ HO
  icases HO with ⟨%W, HO⟩
  ihave Hs := (Entails.of_eq (sgPre_eq c s)) $$ Hs
  icases Hs with ⟨Htok, ⟨%g0, Ht0⟩, ⟨%g1, Ht1⟩, ⟨Hc0, Ha0⟩, ⟨Hc1, Ha1⟩⟩
  iapply (Rounds.wp_signal 𝒱₀ ER (Rd I) (c : Thread nD τ) none (dst := (fwd c s : Thread nD τ)) (κ := K (fwd c s, none))
      (d := neg s) (by rw [show ((fwd c s : Thread nD τ), SemLoc.reg barS) = cel (fwd c s) none from rfl, duties_at]; exact Finset.mem_erase.mpr ⟨neg_ne s hs, Finset.mem_univ _⟩) (amount_at I (fwd c s) none (neg s)) () (owing c l) rfl)
    $$ [HO Htok Hz0 Hz1 Ht0 Ht1]
  · isplitr; · iexact Hinv
    isplitl [HO]; · iexact HO
    isplitl [Htok]; · iexact Htok
    isplitl [Hz0 Hz1 Ht0 Ht1]
    · rw [show ((fwd c s : Thread nD τ), SemLoc.reg barS) = cel (fwd c s) none from rfl, payload_at,
        show payOf I (fwd c s) (some none) (neg s) = barPay (fwd c s) (neg s) from rfl]
      unfold barPay
      rw [fwd_neg, bwd_neg]
      isplitl [Hz0]; · iexists f0; iexact Hz0
      isplitl [Hz1]; · iexists f1; iexact Hz1
      isplitl [Ht0]; · iexists g0; iexact Ht0
      iexists g1; iexact Ht1
    iexact Hre
  iintro HO
  iapply hk
  isplitr; · iexact HE
  isplitl [HO]; · iapply (ow_intro c _ _); iexact HO
  isplitl [HI]; · iexact HI
  isplitl [Hwt Hb0 Hb1 Hc0 Hc1 Ha0 Ha1]
  · isplitl [Hb0 Hc0 Ha0]
    · unfold wPre beside
      isplitl [Hc0]; · iexact Hc0
      isplitl [Ha0] <;> iassumption
    isplitl [Hb1 Hc1 Ha1]
    · unfold wPre beside
      isplitl [Hc1]; · iexact Hc1
      isplitl [Ha1] <;> iassumption
    iexact Hwt
  isplitl [Hwd]; · iexact Hwd
  isplitr [HR]
  · isplitl [Hzd] <;> iassumption
  · iexact HR

/-! ### The barrier -/

theorem bar_step {α : Type} {Q : α → sProp 𝕄} {l : List Item} {wt wd : List Ky} {R : sProp 𝕄} (hl : ∀ i ∈ l, Item.isSend i = true) {kk : Nat} (hkk : kk = 7) {k}
    (hk : St I K c l wt wd (bPost c) R ⊢ Wp (F := F) c (k ⟨⟩) Q) :
    St I K c l wt wd (bPre c) R ⊢ Wp (F := F) c (.op (.semWait barS kk) k) Q := by
  subst hkk
  unfold St at *
  iintro ⟨#HE, HO, HI, Hwt, Hwd, HA, HR⟩
  ihave #Hq := (env_at I K c none) $$ HE
  icases Hq with ⟨#Hinv, #Hre⟩
  ihave #Hlev := (env_lev I K) $$ HE
  ihave HO := (ow_elim c _) $$ HO
  unfold bPre
  icases HO with ⟨%W, HO⟩
  icases HA with ⟨Hc, Ha⟩
  iapply (Rounds.wp_wait_rest_token 𝒱₀ ER (Rd I) (c : Thread nD τ) none (κ := K (c, none))
      (wpE_semWait_eq 𝒱₀ (c : Thread nD τ) none Set.univ) (Set.mem_univ _) () (O := owing c l) (W := W) (R := 0) (m := 0) (T := ∅)
      (by rw [show ((c : Thread nD τ), SemLoc.reg barS) = cel c none from rfl, expect_bar])) $$ [Hc HO Ha]
  · isplitr; · iexact Hinv
    isplitl [Hc]; · iexact Hc
    isplitl [HO]; · iexact HO
    isplitr
    · iapply (mayWait_below c (csem none) l (fun i hi => by
        rw [decode_csem]; exact Item.lv_send c i (hl i hi)))
      iexact Hlev
    iexact Ha
  iintro ⟨HO, Ha, -, Hp⟩
  ihave Hp := (Entails.of_eq (show bigSep ((Rd I).duties ((c : Thread nD τ), SemLoc.reg barS) 0 \ ∅) (fun d => (Rd I).payload ((c : Thread nD τ), SemLoc.reg barS) 0 d) = _ from rest_bar I c)) $$ Hp
  imod (Rounds.cell_close ER (Rd I) (Set.mem_univ (K (c, none))) (fun h => h) (R := 0 + 1) (duties_later I (cel c none))) $$ [Ha] with Hz
  · isplitr; · iexact Hinv
    iexact Ha
  iapply hk
  isplitr; · iexact HE
  isplitl [HO]; · iapply (ow_intro c _ _); iexact HO
  isplitl [HI]; · iexact HI
  isplitl [Hwt]; · iexact Hwt
  isplitl [Hwd]; · iexact Hwd
  isplitr [HR]
  · unfold bPost; isplitl [Hz] <;> iassumption
  · iexact HR

/-! ### Waits on DMA cells -/

theorem wait_step {α : Type} {Q : α → sProp 𝕄} {wt wd : List Ky} {R : sProp 𝕄} {A : sProp 𝕄} (x : Ky) (hx : x.2.1 ≠ 0) {sem : DmaSem sig} (hsem : sem = dsem x) {cs cs' : CoreSpace} {s s' : Shape} {e : EltTy}
    {src : Memref sig .tc cs s e} {dst : Memref sig .tc cs' s' e} {h1 h2} (hN : dst.view.dmaCredit = kAmt c x) {k}
    (hk : St I K c [] wt (x :: wd) A R ⊢ Wp (F := F) c (k ⟨⟩) Q) :
    St I K c [] (x :: wt) wd A R ⊢ Wp (F := F) c (.op (.waitDma2 sem src dst h1 h2) k) Q := by
  subst hsem
  unfold St at *
  rw [bigSepL_cons'] at hk ⊢
  iintro ⟨#HE, HO, HI, ⟨Hw, Hwt⟩, Hwd, HA, HR⟩
  ihave #Hq := (env_at I K c (some x)) $$ HE
  icases Hq with ⟨#Hinv, #Hre⟩
  ihave HO := (ow_elim c _) $$ HO
  icases HO with ⟨%W, HO⟩
  ihave Hw := (Entails.of_eq (wPre_eq I c x)) $$ Hw
  icases Hw with ⟨Hc, Ha, Hb⟩
  iapply (Rounds.wp_wait_rest_token 𝒱₀ ER (Rd I) (c : Thread nD τ) none (κ := K (c, some x))
      (wpE_waitDma2_eq 𝒱₀ (c : Thread nD τ) none Set.univ) (Set.mem_univ _) () (O := 0) (W := W) (R := 0) (m := 0) (T := ∅)
      (by rw [show ((c : Thread nD τ), SemLoc.dma (dsem x)) = cel c (some x) from rfl, expect_dma I c x hx, Nat.zero_add, hN])) $$ [Hc HO Ha]
  · isplitr; · iexact Hinv
    isplitl [Hc]; · rw [hN]; iexact Hc
    isplitl [HO]; · iexact HO
    isplitr; · rw [MayWait_zero]; iempintro
    iexact Ha
  iintro ⟨HO, Ha, -, Hp⟩
  ihave Hp := (Entails.of_eq (show bigSep ((Rd I).duties ((c : Thread nD τ), SemLoc.dma (dsem x)) 0 \ ∅) (fun d => (Rd I).payload ((c : Thread nD τ), SemLoc.dma (dsem x)) 0 d) = _ from rest_dma I c x hx)) $$ Hp
  imod (Rounds.cell_close ER (Rd I) (Set.mem_univ (K (c, some x))) (fun h => h) (R := 0 + 1) (duties_later I (cel c (some x)))) $$ [Ha] with Hz
  · isplitr; · iexact Hinv
    iexact Ha
  iapply hk
  isplitr; · iexact HE
  isplitl [HO]; · iapply (ow_intro c _ _); iexact HO
  isplitl [HI]; · iexact HI
  isplitl [Hwt]; · iexact Hwt
  isplitl [Hwd Hz Hp Hb]
  · isplitl [Hz Hp Hb]
    · unfold wPost
      isplitl [Hz]; · iexact Hz
      iapply (whole_of I c x)
      isplitl [Hp] <;> iassumption
    · iexact Hwd
  isplitl [HA] <;> iassumption

/-! ### Sends -/

theorem st_step {α : Type} {Q : α → sProp 𝕄} {l : List Item} {wt wd : List Ky} {R : sProp 𝕄} (s : Fin 8) (b : Fin 2) (hs : s ≠ 0) {n : Dev nD} (hn : n = fwd c s) {sS rS : DmaSem sig} (hS : sS = dsem (2, s, b)) (hR : rS = dsem (3, s, b))
    {it : List Item} {hsc h1 h2 h3 k}
    (hk : St I K c l ((2, s, b) :: wt) wd (bigSepL it (iPre I c)) R ⊢ Wp (F := F) c (k ⟨⟩) Q) :
    St I K c (.st s b :: l) wt wd (bigSepL (.st s b :: it) (iPre I c)) R
      ⊢ Wp (F := F) c (.op (.enqueueDma (tAt 0 b) (.remote (Dev.tc n : Thread nD τ) (tAt s b) (.dma sS) hsc) (.dma rS) h1 h2 h3) k) Q := by
  subst hn hS hR
  unfold St at *
  rw [bigSepL_cons'] at hk ⊢
  iintro ⟨#HE, HO, HI, Hwt, Hwd, ⟨Hi, Hit⟩, HR⟩
  ihave #Hq := (env_at I K c (some (2, s, b))) $$ HE
  icases Hq with ⟨#Hinv, #Hre⟩
  ihave #Hq' := (env_at I K (fwd c s) (some (3, s, b))) $$ HE
  icases Hq' with ⟨#Hinv', #Hre'⟩
  ihave HO := (ow_elim c _) $$ HO
  icases HO with ⟨%W, HO⟩
  ihave Hi := (Entails.of_eq (iPre_st I c s b)) $$ Hi
  icases Hi with ⟨Hs, ⟨%fd, Hd⟩, Ht, Ht', Ha⟩
  unfold tPts
  rw [← tAt_set 0 b, ← tAt_set s b]
  iapply (Rounds.wp_send_pointsTo 𝒱₀ ER (Rd I) (c : Thread nD τ) none (c' := (fwd c s : Thread nD τ)) (src := tAt 0 b) (dst := tAt s b)
      (sS := .dma (dsem (2, s, b))) (sem := .dma (dsem (3, s, b))) (κ₁ := K (c, some (2, s, b))) (κ₂ := K (fwd c s, some (3, s, b)))
      (r₁ := 0) (r₂ := 0) (d₁ := 0) (d₂ := 0) (fd := fd)
      (by rw [show ((c : Thread nD τ), SemLoc.dma (dsem (2, s, b))) = cel c (some (2, s, b)) from rfl, duties_at]; unfold dutOf; dsimp only; rw [if_neg hs]; exact Finset.mem_singleton_self _)
      (by rw [show ((fwd c s : Thread nD τ), SemLoc.dma (dsem (3, s, b))) = cel (fwd c s) (some (3, s, b)) from rfl, duties_at]; unfold dutOf; dsimp only; rw [if_neg hs]; exact Finset.mem_singleton_self _)
      () () NT rfl (amount_at I c (some (2, s, b)) 0) (amount_at I (fwd c s) (some (3, s, b)) 0) (owing c l) rfl (W := W)
      (by rw [show ((c : Thread nD τ), SemLoc.dma (dsem (2, s, b))) = cel c (some (2, s, b)) from rfl, payload_at]
          show _ ⊢ tPts c 0 b (shareTok fullShare 8 s) (tAll I c)
          unfold tPts; rw [← tAt_set 0 b])
      (by rw [show ((fwd c s : Thread nD τ), SemLoc.dma (dsem (3, s, b))) = cel (fwd c s) (some (3, s, b)) from rfl, payload_at]
          show _ ⊢ tPts (fwd c s) s b fullShare (tAll I (fwd c s))
          unfold tPts; rw [← tAt_set s b]
          exact Entails.of_eq (pointsTo_congr fun i hi => by
            rw [tAt_set] at hi
            exact (tCopy fd (tAll I c) i hi).trans (tAll_sent I c s b i hi))))
    $$ [Hs Hd HO Ht Ht']
  · isplitr; · iexact Hinv
    isplitr; · iexact Hinv'
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply hk
  isplitr; · iexact HE
  isplitl [HO]; · iapply (ow_intro c _ _); iexact HO
  isplitl [HI]; · iexact HI
  isplitl [Hwt Hc Ha]
  · isplitl [Hc Ha]
    · unfold wPre beside
      isplitl [Hc]; · iexact Hc
      isplitl [Ha]; · iexact Ha
      iempintro
    · iexact Hwt
  isplitl [Hwd]; · iexact Hwd
  isplitl [Hit] <;> iassumption

theorem ob_step_full {α : Type} {Q : α → sProp 𝕄} {l : List Item} {wt wd : List Ky} {R : sProp 𝕄} (hf : full c = true) (s : Fin 8) (b : Fin 2) (hs : s ≠ 0) {n : Dev nD} (hn : n = fwd c s) {sS rS : DmaSem sig} (hS : sS = dsem (0, s, b)) (hR : rS = dsem (1, s, b))
    {it : List Item} {hsc h1 h2 h3 k}
    (hk : St I K c l ((0, s, b) :: wt) wd (bigSepL it (iPre I c)) R ⊢ Wp (F := F) c (k ⟨⟩) Q) :
    St I K c (.ob s b :: l) wt wd (bigSepL (.ob s b :: it) (iPre I c)) R
      ⊢ Wp (F := F) c (.op (.enqueueDma (oAt 0 b) (.remote (Dev.tc n : Thread nD τ) (oAt s b) (.dma sS) hsc) (.dma rS) h1 h2 h3) k) Q := by
  subst hn hS hR
  have hr : rows c = 128 := by unfold rows; rw [if_pos hf]
  have hN : NO c = NO128 := by unfold NO; rw [if_pos hf]
  unfold St at *
  rw [bigSepL_cons'] at hk ⊢
  iintro ⟨#HE, HO, HI, Hwt, Hwd, ⟨Hi, Hit⟩, HR⟩
  ihave #Hq := (env_at I K c (some (0, s, b))) $$ HE
  icases Hq with ⟨#Hinv, #Hre⟩
  ihave #Hq' := (env_at I K (fwd c s) (some (1, s, b))) $$ HE
  icases Hq' with ⟨#Hinv', #Hre'⟩
  ihave HO := (ow_elim c _) $$ HO
  icases HO with ⟨%W, HO⟩
  ihave Hi := (Entails.of_eq (iPre_ob I c s b)) $$ Hi
  icases Hi with ⟨Hs, ⟨%fd, Hd⟩, Ht, Ht', Ha⟩
  ihave Hs := (oPts_cut c 0 b _ (oAll I c) (rows c) (rows_le c)).1 $$ Hs
  icases Hs with ⟨Hs, Hb⟩
  unfold oPts
  rw [hr, ← oAt_set 0 b, ← oAt_set s b]
  iapply (Rounds.wp_send_pointsTo 𝒱₀ ER (Rd I) (c : Thread nD τ) none (c' := (fwd c s : Thread nD τ)) (src := oAt 0 b) (dst := oAt s b)
      (sS := .dma (dsem (0, s, b))) (sem := .dma (dsem (1, s, b))) (κ₁ := K (c, some (0, s, b))) (κ₂ := K (fwd c s, some (1, s, b)))
      (r₁ := 0) (r₂ := 0) (d₁ := 0) (d₂ := 0) (fd := fd)
      (by rw [show ((c : Thread nD τ), SemLoc.dma (dsem (0, s, b))) = cel c (some (0, s, b)) from rfl, duties_at]; unfold dutOf; dsimp only; rw [if_neg hs]; exact Finset.mem_singleton_self _)
      (by rw [show ((fwd c s : Thread nD τ), SemLoc.dma (dsem (1, s, b))) = cel (fwd c s) (some (1, s, b)) from rfl, duties_at]; unfold dutOf; dsimp only; rw [if_neg hs]; exact Finset.mem_singleton_self _)
      () () NO128 rfl ((amount_at I c (some (0, s, b)) 0).trans hN)
      ((amount_at I (fwd c s) (some (1, s, b)) 0).trans ((congrArg NO (bwd_fwd c s)).trans hN)) (owing c l)
      (by rw [← hN]) (W := W)
      (by rw [show ((c : Thread nD τ), SemLoc.dma (dsem (0, s, b))) = cel c (some (0, s, b)) from rfl, payload_at]
          show _ ⊢ oPts c 0 (rows c) 0 b (shareTok fullShare 8 s) (oAll I c)
          unfold oPts; rw [hr, ← oAt_set 0 b])
      (by rw [show ((fwd c s : Thread nD τ), SemLoc.dma (dsem (1, s, b))) = cel (fwd c s) (some (1, s, b)) from rfl, payload_at]
          show _ ⊢ oPts (fwd c s) 0 (rows (bwd (fwd c s) s)) s b fullShare (oAll I (fwd c s))
          unfold oPts; rw [bwd_fwd, hr, ← oAt_set s b]
          exact Entails.of_eq (pointsTo_congr fun i hi => by
            rw [oAt_set] at hi
            exact (oCopy fd (oAll I c) i hi).trans (oAll_sent I c s b i (by rw [hr]; exact hi)))))
    $$ [Hs Hd HO Ht Ht']
  · isplitr; · iexact Hinv
    isplitr; · iexact Hinv'
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply hk
  isplitr; · iexact HE
  isplitl [HO]; · iapply (ow_intro c _ _); iexact HO
  isplitl [HI]; · iexact HI
  isplitl [Hwt Hc Ha Hb]
  · isplitl [Hc Ha Hb]
    · unfold wPre beside oPts
      isplitl [Hc]; · rw [← hN]; iexact Hc
      isplitl [Ha]; · iexact Ha
      rw [hr]; iexact Hb
    · iexact Hwt
  isplitl [Hwd]; · iexact Hwd
  isplitl [Hit] <;> iassumption

theorem ob_step_small {α : Type} {Q : α → sProp 𝕄} {l : List Item} {wt wd : List Ky} {R : sProp 𝕄} (hf : ¬ full c = true) (s : Fin 8) (b : Fin 2) (hs : s ≠ 0) {n : Dev nD} (hn : n = fwd c s) {sS rS : DmaSem sig} (hS : sS = dsem (0, s, b)) (hR : rS = dsem (1, s, b))
    {it : List Item} {hsc h1 h2 h3 k}
    (hk : St I K c l ((0, s, b) :: wt) wd (bigSepL it (iPre I c)) R ⊢ Wp (F := F) c (k ⟨⟩) Q) :
    St I K c (.ob s b :: l) wt wd (bigSepL (.ob s b :: it) (iPre I c)) R
      ⊢ Wp (F := F) c (.op (.enqueueDma (oAt32 0 b) (.remote (Dev.tc n : Thread nD τ) (oAt32 s b) (.dma sS) hsc) (.dma rS) h1 h2 h3) k) Q := by
  subst hn hS hR
  have hr : rows c = 32 := by unfold rows; rw [if_neg hf]
  have hN : NO c = NO32 := by unfold NO; rw [if_neg hf]
  unfold St at *
  rw [bigSepL_cons'] at hk ⊢
  iintro ⟨#HE, HO, HI, Hwt, Hwd, ⟨Hi, Hit⟩, HR⟩
  ihave #Hq := (env_at I K c (some (0, s, b))) $$ HE
  icases Hq with ⟨#Hinv, #Hre⟩
  ihave #Hq' := (env_at I K (fwd c s) (some (1, s, b))) $$ HE
  icases Hq' with ⟨#Hinv', #Hre'⟩
  ihave HO := (ow_elim c _) $$ HO
  icases HO with ⟨%W, HO⟩
  ihave Hi := (Entails.of_eq (iPre_ob I c s b)) $$ Hi
  icases Hi with ⟨Hs, ⟨%fd, Hd⟩, Ht, Ht', Ha⟩
  ihave Hs := (oPts_cut c 0 b _ (oAll I c) (rows c) (rows_le c)).1 $$ Hs
  icases Hs with ⟨Hs, Hb⟩
  unfold oPts
  rw [hr, ← oAt32_set 0 b, ← oAt32_set s b]
  iapply (Rounds.wp_send_pointsTo 𝒱₀ ER (Rd I) (c : Thread nD τ) none (c' := (fwd c s : Thread nD τ)) (src := oAt32 0 b) (dst := oAt32 s b)
      (sS := .dma (dsem (0, s, b))) (sem := .dma (dsem (1, s, b))) (κ₁ := K (c, some (0, s, b))) (κ₂ := K (fwd c s, some (1, s, b)))
      (r₁ := 0) (r₂ := 0) (d₁ := 0) (d₂ := 0) (fd := fd)
      (by rw [show ((c : Thread nD τ), SemLoc.dma (dsem (0, s, b))) = cel c (some (0, s, b)) from rfl, duties_at]; unfold dutOf; dsimp only; rw [if_neg hs]; exact Finset.mem_singleton_self _)
      (by rw [show ((fwd c s : Thread nD τ), SemLoc.dma (dsem (1, s, b))) = cel (fwd c s) (some (1, s, b)) from rfl, duties_at]; unfold dutOf; dsimp only; rw [if_neg hs]; exact Finset.mem_singleton_self _)
      () () NO32 rfl ((amount_at I c (some (0, s, b)) 0).trans hN)
      ((amount_at I (fwd c s) (some (1, s, b)) 0).trans ((congrArg NO (bwd_fwd c s)).trans hN)) (owing c l)
      (by rw [← hN]) (W := W)
      (by rw [show ((c : Thread nD τ), SemLoc.dma (dsem (0, s, b))) = cel c (some (0, s, b)) from rfl, payload_at]
          show _ ⊢ oPts c 0 (rows c) 0 b (shareTok fullShare 8 s) (oAll I c)
          unfold oPts; rw [hr, ← oAt32_set 0 b])
      (by rw [show ((fwd c s : Thread nD τ), SemLoc.dma (dsem (1, s, b))) = cel (fwd c s) (some (1, s, b)) from rfl, payload_at]
          show _ ⊢ oPts (fwd c s) 0 (rows (bwd (fwd c s) s)) s b fullShare (oAll I (fwd c s))
          unfold oPts; rw [bwd_fwd, hr, ← oAt32_set s b]
          exact Entails.of_eq (pointsTo_congr fun i hi => by
            rw [oAt32_set] at hi
            exact (oCopy32 fd (oAll I c) i hi).trans (oAll_sent I c s b i (by rw [hr]; exact hi)))))
    $$ [Hs Hd HO Ht Ht']
  · isplitr; · iexact Hinv
    isplitr; · iexact Hinv'
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply hk
  isplitr; · iexact HE
  isplitl [HO]; · iapply (ow_intro c _ _); iexact HO
  isplitl [HI]; · iexact HI
  isplitl [Hwt Hc Ha Hb]
  · isplitl [Hc Ha Hb]
    · unfold wPre beside oPts
      isplitl [Hc]; · rw [← hN]; iexact Hc
      isplitl [Ha]; · iexact Ha
      rw [hr]; iexact Hb
    · iexact Hwt
  isplitl [Hwd]; · iexact Hwd
  isplitl [Hit] <;> iassumption

/-! ### Computing the own slot -/

theorem own_load_o {α : Type} {Q : α → sProp 𝕄} {l : List Item} {wt wd : List Ky} {R : sProp 𝕄} {n : Nat} (b : Fin 2) (o3 : Nat) {h} {hl} {k}
    (hk : ∀ v, St I K c l wt wd (own I c b n) R ⊢ Wp (F := F) c (k v) Q) :
    St I K c l wt wd (own I c b n) R
      ⊢ Wp (F := F) c (.op (.load oM (Rect.unit (s := S8x2x128x256) ![0, b.val, 0, o3] S1x1x128x64.size h).toLoadRect hl) k) Q := by
  refine load_step (S := oSet 0 128 0 b) (q := fullShare) (fun _ => True) (by rw [oM_setOn]; exact o_sub rfl rfl rfl rfl) ?_ (fun f _ => hk _)
  unfold St own oPts
  iintro ⟨HE, HO, HI, Hwt, Hwd, ⟨⟨%f, %hf, Hf⟩, Hg⟩, HR⟩
  iexists f
  isplitr; · ipureintro; trivial
  isplitl [Hf]; · iexact Hf
  iintro Hf
  isplitl [HE]; · iexact HE
  isplitl [HO]; · iexact HO
  isplitl [HI]; · iexact HI
  isplitl [Hwt]; · iexact Hwt
  isplitl [Hwd]; · iexact Hwd
  isplitr [HR]
  · isplitl [Hf]
    · iexists f
      isplitr; · ipureintro; exact hf
      iexact Hf
    · iexact Hg
  · iexact HR

theorem own_load_t {α : Type} {Q : α → sProp 𝕄} {l : List Item} {wt wd : List Ky} {R : sProp 𝕄} {n : Nat} (b : Fin 2) (o2 : Nat) {h} {hl} {k}
    (hk : ∀ v, St I K c l wt wd (own I c b n) R ⊢ Wp (F := F) c (k v) Q) :
    St I K c l wt wd (own I c b n) R
      ⊢ Wp (F := F) c (.op (.load tM (Rect.unit (s := S8x2x4x128) ![0, b.val, o2, 0] S1x1x1x128.size h).toLoadRect hl) k) Q := by
  refine load_step (S := tSet 0 b) (q := fullShare) (fun _ => True) (by rw [tM_setOn]; exact t_sub rfl rfl rfl rfl) ?_ (fun f _ => hk _)
  unfold St own tPts
  iintro ⟨HE, HO, HI, Hwt, Hwd, ⟨Hf, ⟨%g, %hg, Hg⟩⟩, HR⟩
  iexists g
  isplitr; · ipureintro; trivial
  isplitl [Hg]; · iexact Hg
  iintro Hg
  isplitl [HE]; · iexact HE
  isplitl [HO]; · iexact HO
  isplitl [HI]; · iexact HI
  isplitl [Hwt]; · iexact Hwt
  isplitl [Hwd]; · iexact Hwd
  isplitr [HR]
  · isplitl [Hf]; · iexact Hf
    iexists g
    isplitr; · ipureintro; exact hg
    iexact Hg
  · iexact HR

theorem own_store_o {α : Type} {Q : α → sProp 𝕄} {l : List Item} {wt wd : List Ky} {R : sProp 𝕄} (b : Fin 2) (hd : Fin 4) (n : Nat) (hn : n = 2 * hd.val) (o3 : Nat) (ho : o3 = 64 * hd.val)
    {h} {w : FVec F S1x1x128x64 .bf16} (hw : w = oHead I c b hd) {hx hm} {k}
    (hk : St I K c l wt wd (own I c b (n + 1)) R ⊢ Wp (F := F) c (k ⟨⟩) Q) :
    St I K c l wt wd (own I c b n) R
      ⊢ Wp (F := F) c (.op (.store oM (Rect.unit (s := S8x2x128x256) ![0, b.val, 0, o3] S1x1x128x64.size h) w Finset.univ hx hm) k) Q := by
  subst hn ho hw
  unfold St at *
  iintro ⟨HE, HO, HI, Hwt, Hwd, HA, HR⟩
  ihave HA := (show own I c b (2 * hd.val) ⊢ iprop((∃ f : (cc0_scratch0 : Ref sig .tc).ty.Contents (Elt F),
      ⌜∀ i : S8x2x128x256.Idx, (i : OIdx) ∈ oSet 0 128 0 b → (i 3).val < 64 * ((2 * hd.val + 1) / 2) → f i = oAll I c i⌝ ∗ oPts c 0 128 0 b fullShare f)
    ∗ (∃ f : (cc0_scratch1 : Ref sig .tc).ty.Contents (Elt F),
      ⌜∀ i : S8x2x4x128.Idx, (i : TIdx) ∈ tSet 0 b → (i 2).val < 2 * hd.val / 2 → f i = tAll I c i⌝ ∗ tPts c 0 b fullShare f)) from .rfl) $$ HA
  unfold oPts
  icases HA with ⟨⟨%f, %hf, Hf⟩, ⟨%g, %hg, Hg⟩⟩
  iapply (wp_store 𝒱₀ (c : Thread nD τ) none Set.univ (m := oM)
    (r := Rect.unit (s := S8x2x128x256) ![0, b.val, 0, 64 * hd.val] S1x1x128x64.size h) (Mk := Finset.univ) (S := oSet 0 128 0 b)
    (show (oM.access (Rect.unit (s := S8x2x128x256) ![0, b.val, 0, 64 * hd.val] S1x1x128x64.size h)).set ⊆ _ from
      (View.set_slice_whole _ _).trans_subset (o_sub rfl rfl rfl rfl))) $$ Hf
  iintro Hf
  iapply hk
  isplitl [HE]; · iexact HE
  isplitl [HO]; · iexact HO
  isplitl [HI]; · iexact HI
  isplitl [Hwt]; · iexact Hwt
  isplitl [Hwd]; · iexact Hwd
  isplitr [HR]
  · unfold own oPts
    isplitl [Hf]
    · iexists _
      isplitr
      rotate_left
      · iexact Hf
      · ipureintro
        intro i hi hlt
        obtain ⟨h0, h1, -, h2⟩ := mem_oSet.mp hi
        by_cases hc : (i 3).val < 64 * hd.val
        · exact (oWrite_out f _ i 3 (Or.inl hc)).trans (hf i hi (by omega))
        · have hlt' : (i 3).val < 64 * (hd.val + 1) := by omega
          refine (oWrite_in f (oHead I c b hd) (ix4 (d := ![1, 1, 128, 64]) (0 : Fin 1) (0 : Fin 1) (i 2) ⟨(i 3).val - 64 * hd.val, show (i 3).val - 64 * hd.val < 64 by omega⟩) i ?_).trans ?_
          · refine four ?_ ?_ ?_ ?_
            · show (i 0).val = 0 + 0; exact h0
            · show (i 1).val = b.val + 0; exact h1
            · show (i 2).val = 0 + (i 2).val; omega
            · show (i 3).val = 64 * hd.val + ((i 3).val - 64 * hd.val); omega
          · rw [oAll_own I c i b h0 h1]
            unfold oOwn
            have e1 : (⟨(i 3).val / 64, by have : (i 3).val < 256 := (i 3).isLt; omega⟩ : Fin 4) = hd := Fin.ext (by show (i 3).val / 64 = hd.val; omega)
            have e2 : (⟨(i 3).val % 64, Nat.mod_lt _ (by decide)⟩ : Fin 64) = ⟨(i 3).val - 64 * hd.val, by omega⟩ := Fin.ext (by show (i 3).val % 64 = (i 3).val - 64 * hd.val; omega)
            rw [e1]
            exact congrArg (fun z : Fin 64 => oHead I c b hd (ix4 (d := ![1, 1, 128, 64]) (0 : Fin 1) (0 : Fin 1) (i 2) z)) e2.symm
    · iexists g
      isplitr
      · ipureintro
        intro i hi hlt; exact hg i hi (by omega)
      · iexact Hg
  · iexact HR

theorem own_store_t {α : Type} {Q : α → sProp 𝕄} {l : List Item} {wt wd : List Ky} {R : sProp 𝕄} (b : Fin 2) (hd : Fin 4) (n : Nat) (hn : n = 2 * hd.val + 1) (o2 : Nat) (ho : o2 = hd.val)
    {h} {w : FVec F S1x1x1x128 .f32} (hw : w = lHead I c b hd) {hx hm} {k}
    (hk : St I K c l wt wd (own I c b (n + 1)) R ⊢ Wp (F := F) c (k ⟨⟩) Q) :
    St I K c l wt wd (own I c b n) R
      ⊢ Wp (F := F) c (.op (.store tM (Rect.unit (s := S8x2x4x128) ![0, b.val, o2, 0] S1x1x1x128.size h) w Finset.univ hx hm) k) Q := by
  subst hn ho hw
  unfold St at *
  iintro ⟨HE, HO, HI, Hwt, Hwd, HA, HR⟩
  ihave HA := (show own I c b (2 * hd.val + 1) ⊢ iprop((∃ f : (cc0_scratch0 : Ref sig .tc).ty.Contents (Elt F),
      ⌜∀ i : S8x2x128x256.Idx, (i : OIdx) ∈ oSet 0 128 0 b → (i 3).val < 64 * ((2 * hd.val + 1 + 1) / 2) → f i = oAll I c i⌝ ∗ oPts c 0 128 0 b fullShare f)
    ∗ (∃ f : (cc0_scratch1 : Ref sig .tc).ty.Contents (Elt F),
      ⌜∀ i : S8x2x4x128.Idx, (i : TIdx) ∈ tSet 0 b → (i 2).val < (2 * hd.val + 1) / 2 → f i = tAll I c i⌝ ∗ tPts c 0 b fullShare f)) from .rfl) $$ HA
  unfold tPts
  icases HA with ⟨⟨%f, %hf, Hf⟩, ⟨%g, %hg, Hg⟩⟩
  iapply (wp_store 𝒱₀ (c : Thread nD τ) none Set.univ (m := tM)
    (r := Rect.unit (s := S8x2x4x128) ![0, b.val, hd.val, 0] S1x1x1x128.size h) (Mk := Finset.univ) (S := tSet 0 b)
    (show (tM.access (Rect.unit (s := S8x2x4x128) ![0, b.val, hd.val, 0] S1x1x1x128.size h)).set ⊆ _ from
      (View.set_slice_whole _ _).trans_subset (t_sub rfl rfl rfl rfl))) $$ Hg
  iintro Hg
  iapply hk
  isplitl [HE]; · iexact HE
  isplitl [HO]; · iexact HO
  isplitl [HI]; · iexact HI
  isplitl [Hwt]; · iexact Hwt
  isplitl [Hwd]; · iexact Hwd
  isplitr [HR]
  · unfold own tPts
    isplitl [Hf]
    · iexists f
      isplitr
      · ipureintro
        intro i hi hlt; exact hf i hi (by omega)
      · iexact Hf
    · iexists _
      isplitr
      rotate_left
      · iexact Hg
      · ipureintro
        intro i hi hlt
        obtain ⟨h0, h1⟩ := mem_tSet.mp hi
        by_cases hc : (i 2).val < hd.val
        · exact (tWrite_out g _ i 2 (Or.inl hc)).trans (hg i hi (by omega))
        · have e : (i 2).val = hd.val := by omega
          refine (tWrite_in g (lHead I c b hd) (ix4 (d := ![1, 1, 1, 128]) (0 : Fin 1) (0 : Fin 1) (0 : Fin 1) (i 3)) i ?_).trans ?_
          · refine four ?_ ?_ ?_ ?_
            · show (i 0).val = 0 + 0; exact h0
            · show (i 1).val = b.val + 0; exact h1
            · show (i 2).val = hd.val + 0; exact e
            · show (i 3).val = 0 + (i 3).val; omega
          · rw [tAll_own I c i b h0 h1]
            have e1 : @Eq (Fin 4) (i 2) hd := Fin.ext e
            rw [e1]
  · iexact HR

/-! ### Loads of the operands -/

/-- A load of a staged operand leaves the state as it is. -/
theorem ins_load {α : Type} {Q : α → sProp 𝕄} {l : List Item} {wt wd : List Ky} {A R : sProp 𝕄}
    {S : Shape} {e : EltTy} (B : Memref sig .tc .vmem S e) {r : LoadRect S} {hl : B.view.LoadsAt r}
    {k : (r.shape.Idx → Elt F e) → Prog (TpuEff nD τ sig (Elt F) Λ₀ .tc) α} (X : Buf (Elt F) (B.view.loc (c : Thread nD τ)))
    (hB : ins I c ⊢ iprop((B.view.loc (c : Thread nD τ) ↦{fullShare} X) ∗ ((B.view.loc (c : Thread nD τ) ↦{fullShare} X) -∗ ins I c)))
    {Y} (hY : B.view.readAt (Elt F) r X = Y) (hk : St I K c l wt wd A R ⊢ Wp (F := F) c (k Y) Q) :
    St I K c l wt wd A R ⊢ Wp (F := F) c (.op (.load B r hl) k) Q := by
  refine load_step (S := Finset.univ) (q := fullShare) (fun f => f = X) (Finset.subset_univ _) ?_ (fun f e => by rw [e, hY]; exact hk)
  unfold St
  iintro ⟨HE, HO, HI, Hwt, Hwd, HA, HR⟩
  ihave HI := hB $$ HI
  icases HI with ⟨Hx, Hb⟩
  iexists X
  isplitr; · ipureintro; rfl
  isplitl [Hx]; · iexact Hx
  iintro Hx
  isplitl [HE]; · iexact HE
  isplitl [HO]; · iexact HO
  isplitl [Hx Hb]; · iapply Hb; iexact Hx
  isplitl [Hwt]; · iexact Hwt
  isplitl [Hwd]; · iexact Hwd
  isplitl [HA] <;> iassumption

variable (I K c) in
theorem ins0 : ins I c ⊢ iprop(((c : Thread nD τ).loc cc0_stg0_0 ↦{fullShare} I.x c) ∗ (((c : Thread nD τ).loc cc0_stg0_0 ↦{fullShare} I.x c) -∗ ins I c)) := by
  unfold ins
  iintro ⟨H0, H1, H2, H3, H4⟩
  isplitl [H0]; · iexact H0
  iintro H0
  isplitl [H0]; · iexact H0
  isplitl [H1]; · iexact H1
  isplitl [H2]; · iexact H2
  isplitl [H3] <;> iassumption
variable (I K c) in
theorem ins1 : ins I c ⊢ iprop(((c : Thread nD τ).loc cc0_stg1_0 ↦{fullShare} I.wq c) ∗ (((c : Thread nD τ).loc cc0_stg1_0 ↦{fullShare} I.wq c) -∗ ins I c)) := by
  unfold ins
  iintro ⟨H0, H1, H2, H3, H4⟩
  isplitl [H1]; · iexact H1
  iintro H1
  isplitl [H0]; · iexact H0
  isplitl [H1]; · iexact H1
  isplitl [H2]; · iexact H2
  isplitl [H3] <;> iassumption
variable (I K c) in
theorem ins2 : ins I c ⊢ iprop(((c : Thread nD τ).loc cc0_stg2_0 ↦{fullShare} I.k c) ∗ (((c : Thread nD τ).loc cc0_stg2_0 ↦{fullShare} I.k c) -∗ ins I c)) := by
  unfold ins
  iintro ⟨H0, H1, H2, H3, H4⟩
  isplitl [H2]; · iexact H2
  iintro H2
  isplitl [H0]; · iexact H0
  isplitl [H1]; · iexact H1
  isplitl [H2]; · iexact H2
  isplitl [H3] <;> iassumption
variable (I K c) in
theorem ins3 : ins I c ⊢ iprop(((c : Thread nD τ).loc cc0_stg3_0 ↦{fullShare} I.v c) ∗ (((c : Thread nD τ).loc cc0_stg3_0 ↦{fullShare} I.v c) -∗ ins I c)) := by
  unfold ins
  iintro ⟨H0, H1, H2, H3, H4⟩
  isplitl [H3]; · iexact H3
  iintro H3
  isplitl [H0]; · iexact H0
  isplitl [H1]; · iexact H1
  isplitl [H2]; · iexact H2
  isplitl [H3] <;> iassumption
variable (I K c) in
theorem ins4 : ins I c ⊢ iprop(((c : Thread nD τ).loc cc0_stg4_0 ↦{fullShare} I.wo c) ∗ (((c : Thread nD τ).loc cc0_stg4_0 ↦{fullShare} I.wo c) -∗ ins I c)) := by
  unfold ins
  iintro ⟨H0, H1, H2, H3, H4⟩
  isplitl [H4]; · iexact H4
  iintro H4
  isplitl [H0]; · iexact H0
  isplitl [H1]; · iexact H1
  isplitl [H2]; · iexact H2
  isplitl [H3] <;> iassumption

/-! ### Loads of the landing slots -/

theorem slot_o {α : Type} {Q : α → sProp 𝕄} {l : List Item} {wt wd : List Ky} {A R : sProp 𝕄} (s : Fin 8) (b : Fin 2)
    (hm : ((1, s, b) : Ky) ∈ wd) {hl} {k} (hk : St I K c l wt wd A R ⊢ Wp (F := F) c (k (oSlot I c s b)) Q) :
    St I K c l wt wd A R ⊢ Wp (F := F) c (.op (.load oM (oRect s b).toLoadRect hl) k) Q := by
  refine load_step (S := oSet 0 128 s b) (q := fullShare) (fun f => f = oAll I c) (by rw [oM_setOn]; exact o_sub rfl rfl rfl rfl) ?_ (fun f e => by rw [e]; exact hk)
  unfold St
  iintro ⟨HE, HO, HI, Hwt, Hwd, HA, HR⟩
  ihave Hwd := (bigSepL_take (wPost I c) hm) $$ Hwd
  icases Hwd with ⟨Hx, Hb⟩
  ihave Hx := (show wPost I c (1, s, b) ⊢ iprop(semVal (cel c (some (1, s, b))) 0 ∗ oPts c 0 128 s b fullShare (oAll I c)) from .rfl) $$ Hx
  unfold oPts
  icases Hx with ⟨Hz, Hx⟩
  iexists (oAll I c)
  isplitr; · ipureintro; rfl
  isplitl [Hx]; · iexact Hx
  iintro Hx
  isplitl [HE]; · iexact HE
  isplitl [HO]; · iexact HO
  isplitl [HI]; · iexact HI
  isplitl [Hwt]; · iexact Hwt
  isplitl [Hz Hx Hb]
  · iapply Hb
    unfold wPost whole oPts
    isplitl [Hz] <;> iassumption
  isplitl [HA] <;> iassumption

theorem slot_t {α : Type} {Q : α → sProp 𝕄} {l : List Item} {wt wd : List Ky} {A R : sProp 𝕄} (s : Fin 8) (b : Fin 2)
    (hm : ((3, s, b) : Ky) ∈ wd) {hl} {k} (hk : St I K c l wt wd A R ⊢ Wp (F := F) c (k (tSlot I c s b)) Q) :
    St I K c l wt wd A R ⊢ Wp (F := F) c (.op (.load tM (tRect s b).toLoadRect hl) k) Q := by
  refine load_step (S := tSet s b) (q := fullShare) (fun f => f = tAll I c) (by rw [tM_setOn]; exact t_sub rfl rfl rfl rfl) ?_ (fun f e => by rw [e]; exact hk)
  unfold St
  iintro ⟨HE, HO, HI, Hwt, Hwd, HA, HR⟩
  ihave Hwd := (bigSepL_take (wPost I c) hm) $$ Hwd
  icases Hwd with ⟨Hx, Hb⟩
  ihave Hx := (show wPost I c (3, s, b) ⊢ iprop(semVal (cel c (some (3, s, b))) 0 ∗ tPts c s b fullShare (tAll I c)) from .rfl) $$ Hx
  unfold tPts
  icases Hx with ⟨Hz, Hx⟩
  iexists (tAll I c)
  isplitr; · ipureintro; rfl
  isplitl [Hx]; · iexact Hx
  iintro Hx
  isplitl [HE]; · iexact HE
  isplitl [HO]; · iexact HO
  isplitl [HI]; · iexact HI
  isplitl [Hwt]; · iexact Hwt
  isplitl [Hz Hx Hb]
  · iapply Hb
    unfold wPost whole tPts
    isplitl [Hz] <;> iassumption
  isplitl [HA] <;> iassumption

/-- What remains of both own slots, as a function of the batch. -/
theorem ownR_take (b : Fin 2) : iprop(ownR I c 0 ∗ ownR I c 1) ⊢ iprop(ownR I c b ∗ (ownR I c b -∗ (ownR I c 0 ∗ ownR I c 1))) := by
  rcases b with ⟨_ | _ | b, hb⟩
  · iintro ⟨H0, H1⟩
    isplitl [H0]; · iexact H0
    iintro H0; isplitl [H0]; · iexact H0
    iexact H1
  · iintro ⟨H0, H1⟩
    isplitl [H1]; · iexact H1
    iintro H1; isplitl [H0]; · iexact H0
    iexact H1
  · exact absurd hb (by omega)

theorem own_slot_o {α : Type} {Q : α → sProp 𝕄} {l : List Item} {wt wd : List Ky} {R : sProp 𝕄} (b : Fin 2)
    {hl} {k} (hk : St I K c l wt wd iprop(ownR I c 0 ∗ ownR I c 1) R ⊢ Wp (F := F) c (k (oSlot I c 0 b)) Q) :
    St I K c l wt wd iprop(ownR I c 0 ∗ ownR I c 1) R ⊢ Wp (F := F) c (.op (.load oM (oRect 0 b).toLoadRect hl) k) Q := by
  refine load_step (S := oSet 0 128 0 b) (q := shareDrop fullShare 8) (fun f => f = oAll I c) (by rw [oM_setOn]; exact o_sub rfl rfl rfl rfl) ?_ (fun f e => by rw [e]; exact hk)
  unfold St
  iintro ⟨HE, HO, HI, Hwt, Hwd, HA, HR⟩
  ihave HA := (ownR_take b) $$ HA
  icases HA with ⟨Hx, Hb⟩
  ihave Hx := (show ownR I c b ⊢ iprop((oPts c 0 128 0 b (shareDrop fullShare 8) (oAll I c) ∗ oPts c 0 128 0 b (shareTok fullShare 8 0) (oAll I c))
    ∗ (tPts c 0 b (shareDrop fullShare 8) (tAll I c) ∗ tPts c 0 b (shareTok fullShare 8 0) (tAll I c))) from .rfl) $$ Hx
  icases Hx with ⟨⟨Hx, Hy⟩, Hz⟩
  unfold oPts
  iexists (oAll I c)
  isplitr; · ipureintro; rfl
  isplitl [Hx]; · iexact Hx
  iintro Hx
  isplitl [HE]; · iexact HE
  isplitl [HO]; · iexact HO
  isplitl [HI]; · iexact HI
  isplitl [Hwt]; · iexact Hwt
  isplitl [Hwd]; · iexact Hwd
  isplitr [HR]
  · iapply Hb
    unfold ownR oPts
    isplitr [Hz]
    · isplitl [Hx] <;> iassumption
    · iexact Hz
  · iexact HR

theorem own_slot_t {α : Type} {Q : α → sProp 𝕄} {l : List Item} {wt wd : List Ky} {R : sProp 𝕄} (b : Fin 2)
    {hl} {k} (hk : St I K c l wt wd iprop(ownR I c 0 ∗ ownR I c 1) R ⊢ Wp (F := F) c (k (tSlot I c 0 b)) Q) :
    St I K c l wt wd iprop(ownR I c 0 ∗ ownR I c 1) R ⊢ Wp (F := F) c (.op (.load tM (tRect 0 b).toLoadRect hl) k) Q := by
  refine load_step (S := tSet 0 b) (q := shareDrop fullShare 8) (fun f => f = tAll I c) (by rw [tM_setOn]; exact t_sub rfl rfl rfl rfl) ?_ (fun f e => by rw [e]; exact hk)
  unfold St
  iintro ⟨HE, HO, HI, Hwt, Hwd, HA, HR⟩
  ihave HA := (ownR_take b) $$ HA
  icases HA with ⟨Hx, Hb⟩
  ihave Hx := (show ownR I c b ⊢ iprop((oPts c 0 128 0 b (shareDrop fullShare 8) (oAll I c) ∗ oPts c 0 128 0 b (shareTok fullShare 8 0) (oAll I c))
    ∗ (tPts c 0 b (shareDrop fullShare 8) (tAll I c) ∗ tPts c 0 b (shareTok fullShare 8 0) (tAll I c))) from .rfl) $$ Hx
  icases Hx with ⟨Hz, ⟨Hx, Hy⟩⟩
  unfold tPts
  iexists (tAll I c)
  isplitr; · ipureintro; rfl
  isplitl [Hx]; · iexact Hx
  iintro Hx
  isplitl [HE]; · iexact HE
  isplitl [HO]; · iexact HO
  isplitl [HI]; · iexact HI
  isplitl [Hwt]; · iexact Hwt
  isplitl [Hwd]; · iexact Hwd
  isplitr [HR]
  · iapply Hb
    unfold ownR tPts
    isplitl [Hz]; · iexact Hz
    isplitl [Hx] <;> iassumption
  · iexact HR

/-! ### The result -/

theorem out_load {α : Type} {Q : α → sProp 𝕄} {l : List Item} {wt wd : List Ky} {A R : sProp 𝕄} {r} {hl} {k}
    (hk : ∀ v, St I K c l wt wd A iprop((∃ f, outPts c f) ∗ R) ⊢ Wp (F := F) c (k v) Q) :
    St I K c l wt wd A iprop((∃ f, outPts c f) ∗ R)
      ⊢ Wp (F := F) c (.op (.load (Memref.whole cc0_stg5_0 : Memref sig .tc .vmem S2x128x512 .f32) r hl) k) Q := by
  refine load_step (S := Finset.univ) (q := fullShare) (fun f => True) (Finset.subset_univ _) ?_ (fun f e => hk _)
  unfold St outPts
  iintro ⟨HE, HO, HI, Hwt, Hwd, HA, ⟨⟨%f, Hx⟩, HR⟩⟩
  iexists f
  isplitr; · ipureintro; trivial
  isplitl [Hx]; · iexact Hx
  iintro Hx
  isplitl [HE]; · iexact HE
  isplitl [HO]; · iexact HO
  isplitl [HI]; · iexact HI
  isplitl [Hwt]; · iexact Hwt
  isplitl [Hwd]; · iexact Hwd
  isplitl [HA]; · iexact HA
  isplitl [Hx]; · iexists f; iexact Hx
  iexact HR

theorem out_store {α : Type} {Q : α → sProp 𝕄} {l : List Item} {wt wd : List Ky} {A R : sProp 𝕄} {r : Rect S2x128x512} {w hx hm} {k}
    {X : (cc0_stg5_0 : Ref sig .tc).ty.Contents (Elt F)}
    (hX : ∀ f, ((Memref.whole cc0_stg5_0 : Memref sig .tc .vmem S2x128x512 .f32).access r).write (Elt F) f w Finset.univ = X)
    (hk : St I K c l wt wd A iprop(outPts c X ∗ R) ⊢ Wp (F := F) c (k ⟨⟩) Q) :
    St I K c l wt wd A iprop((∃ f, outPts c f) ∗ R)
      ⊢ Wp (F := F) c (.op (.store (Memref.whole cc0_stg5_0 : Memref sig .tc .vmem S2x128x512 .f32) r w Finset.univ hx hm) k) Q := by
  unfold St outPts at *
  iintro ⟨HE, HO, HI, Hwt, Hwd, HA, ⟨⟨%f, Hx⟩, HR⟩⟩
  iapply (wp_store 𝒱₀ (c : Thread nD τ) none Set.univ (m := (Memref.whole cc0_stg5_0 : Memref sig .tc .vmem S2x128x512 .f32))
    (r := r) (Mk := Finset.univ) (S := Finset.univ) (Finset.subset_univ _)) $$ Hx
  iintro Hx
  rw [hX f]
  iapply hk
  isplitl [HE]; · iexact HE
  isplitl [HO]; · iexact HO
  isplitl [HI]; · iexact HI
  isplitl [Hwt]; · iexact Hwt
  isplitl [Hwd]; · iexact Hwd
  isplitl [HA]; · iexact HA
  isplitl [Hx] <;> iassumption

end Steps

end Cert.KernelIdealProof

end
-- ==== Proof.IdealPartsA.lean ====
/-
The printed body's parts, one after another: what each takes the device's state from and to.  First the zeroed landing
slots, the signals, the own slots of both batches, the sends of batch 0.
-/
module

public import proofs.«01_k».proof.Proof.IdealSteps
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

variable {I : In F} {K : Dev nD × CK → ℕ} {c : Dev nD}

/-! ## A device's place, as the printed conditions state it -/

theorem cond_full (c : Dev nD) : Scalar.cmpi .ne (Scalar.extui (w3 c) : BitVec 32) 0#32 = 1#1 ↔ full c = true := by revert c; decide
theorem cond_small (c : Dev nD) : Scalar.cmpi .ne (Scalar.extui (Scalar.xori (w3 c) 1#1) : BitVec 32) 0#32 = 1#1 ↔ ¬ full c = true := by revert c; decide
theorem recv_w3 (c : Dev nD) (s : Fin 8) (k : BitVec 32) (hk : k = BitVec.ofNat 32 s.val) :
    Scalar.cmpi .slt (Scalar.remsi (Scalar.addi (Scalar.subi (w2 c) k) 8#32) 8#32) 2#32 = w3 (bwd c s) := by
  subst hk; revert c s; decide
theorem NO_full {c : Dev nD} (h : full c = true) : NO128 = NO c := by unfold NO; rw [if_pos h]
theorem NO_small {c : Dev nD} (h : ¬ full c = true) : NO32 = NO c := by unfold NO; rw [if_neg h]

/-- Between the two branches of one transfer: done if the first is the device's, to be done if the second is. -/
def Mid (d : Dev nD) (P P' : sProp 𝕄) : sProp 𝕄 := if full d = true then P' else P
theorem Mid_pos {d : Dev nD} (h : full d = true) {P P' : sProp 𝕄} : Mid d P P' = P' := if_pos h
theorem Mid_neg {d : Dev nD} (h : ¬ full d = true) {P P' : sProp 𝕄} : Mid d P P' = P := if_neg h
theorem mid_pos {d : Dev nD} (h : full d = true) {P P' X : sProp 𝕄} (hk : Mid d P P' ⊢ X) : P' ⊢ X := by rw [Mid_pos h] at hk; exact hk
theorem mid_neg {d : Dev nD} (h : ¬ full d = true) {P P' X : sProp 𝕄} (hk : Mid d P P' ⊢ X) : P ⊢ X := by rw [Mid_neg h] at hk; exact hk

/-! ## From one piece to the next -/

theorem swap_A {l : List Item} {wt wd : List Ky} {A B R : sProp 𝕄} : St I K c l wt wd A iprop(B ∗ R) ⊢ St I K c l wt wd B iprop(A ∗ R) := by
  unfold St
  iintro ⟨HE, HO, HI, Hwt, Hwd, HA, HB, HR⟩
  isplitl [HE]; · iexact HE
  isplitl [HO]; · iexact HO
  isplitl [HI]; · iexact HI
  isplitl [Hwt]; · iexact Hwt
  isplitl [Hwd]; · iexact Hwd
  isplitl [HB]; · iexact HB
  isplitl [HA] <;> iassumption

theorem zs_sg {l : List Item} {wt wd : List Ky} {R B : sProp 𝕄} (zd : List (Fin 8 × Fin 2)) :
    St I K c l wt wd (Zs c [] zd) iprop(B ∗ R) ⊢ St I K c l wt wd iprop(bigSepL zd (zPost c) ∗ B) R := by
  unfold St Zs
  iintro ⟨HE, HO, HI, Hwt, Hwd, ⟨-, Hzd⟩, HB, HR⟩
  isplitl [HE]; · iexact HE
  isplitl [HO]; · iexact HO
  isplitl [HI]; · iexact HI
  isplitl [Hwt]; · iexact Hwt
  isplitl [Hwd]; · iexact Hwd
  isplitr [HR]
  · isplitl [Hzd] <;> iassumption
  · iexact HR

/-- What sending takes besides the own slot's share. -/
def iTok (c : Dev nD) : Item → sProp 𝕄
  | .sg _ => iprop(emp)
  | .st s b => iprop((∃ f, tPts (fwd c s) s b fullShare f)
      ∗ dutyTok ER (cel c (some (2, s, b))) 0 0 ∗ dutyTok ER (cel (fwd c s) (some (3, s, b))) 0 0 ∗ atPos ER (cel c (some (2, s, b))) 0 ∅ 0)
  | .ob s b => iprop((∃ f, oPts (fwd c s) 0 (rows c) s b fullShare f)
      ∗ dutyTok ER (cel c (some (0, s, b))) 0 0 ∗ dutyTok ER (cel (fwd c s) (some (1, s, b))) 0 0 ∗ atPos ER (cel c (some (0, s, b))) 0 ∅ 0)

theorem iTok_st (s : Fin 8) (b : Fin 2) : iTok (F := F) c (.st s b) = iprop((∃ f, tPts (fwd c s) s b fullShare f)
      ∗ dutyTok ER (cel c (some (2, s, b))) 0 0 ∗ dutyTok ER (cel (fwd c s) (some (3, s, b))) 0 0 ∗ atPos ER (cel c (some (2, s, b))) 0 ∅ 0) := rfl
theorem iTok_ob (s : Fin 8) (b : Fin 2) : iTok (F := F) c (.ob s b) = iprop((∃ f, oPts (fwd c s) 0 (rows c) s b fullShare f)
      ∗ dutyTok ER (cel c (some (0, s, b))) 0 0 ∗ dutyTok ER (cel (fwd c s) (some (1, s, b))) 0 0 ∗ atPos ER (cel c (some (0, s, b))) 0 ∅ 0) := rfl

def sendTok (c : Dev nD) (b : Fin 2) : sProp 𝕄 := bigSepL (sendItems b) (iTok c)

theorem oPts_toks (b : Fin 2) : oPts c 0 128 0 b fullShare (oAll I c) ⊢
    iprop(oPts c 0 128 0 b (shareDrop fullShare 8) (oAll I c) ∗ oPts c 0 128 0 b (shareTok fullShare 8 0) (oAll I c)
      ∗ bigSepL D7 (fun s => oPts c 0 128 0 b (shareTok fullShare 8 s) (oAll I c))) := by
  unfold oPts
  refine (Transfers.pointsTo_toks_split fullShare 8).trans ?_
  rw [bigSep_eq_bigSepL_of_eq (0 :: D7) (by decide) (by decide), bigSepL_cons']
theorem tPts_toks (b : Fin 2) : tPts c 0 b fullShare (tAll I c) ⊢
    iprop(tPts c 0 b (shareDrop fullShare 8) (tAll I c) ∗ tPts c 0 b (shareTok fullShare 8 0) (tAll I c)
      ∗ bigSepL D7 (fun s => tPts c 0 b (shareTok fullShare 8 s) (tAll I c))) := by
  unfold tPts
  refine (Transfers.pointsTo_toks_split fullShare 8).trans ?_
  rw [bigSep_eq_bigSepL_of_eq (0 :: D7) (by decide) (by decide), bigSepL_cons']

/-- The own slot once all is stored. -/
theorem own_done (b : Fin 2) : own I c b 8 ⊢ iprop(oPts c 0 128 0 b fullShare (oAll I c) ∗ tPts c 0 b fullShare (tAll I c)) := by
  unfold own
  iintro ⟨⟨%f, %hf, Hf⟩, ⟨%g, %hg, Hg⟩⟩
  have ef : oPts c 0 128 0 b fullShare f = oPts c 0 128 0 b fullShare (oAll I c) := by
    unfold oPts
    refine pointsTo_congr fun i hi => hf i hi ?_
    have : (i (3 : Fin 4)).val < 256 := (i (3 : Fin 4)).isLt
    omega
  have eg : tPts c 0 b fullShare g = tPts c 0 b fullShare (tAll I c) := by
    unfold tPts
    refine pointsTo_congr fun i hi => hg i hi ?_
    have : (i (2 : Fin 4)).val < 4 := (i (2 : Fin 4)).isLt
    omega
  isplitl [Hf]
  · rw [← ef]; iexact Hf
  · rw [← eg]; iexact Hg

theorem sends_ready (b : Fin 2) : ∀ ss : List (Fin 8),
    iprop(bigSepL ss (fun s => oPts c 0 128 0 b (shareTok fullShare 8 s) (oAll I c)) ∗ bigSepL ss (fun s => tPts c 0 b (shareTok fullShare 8 s) (tAll I c))
      ∗ bigSepL (ss.flatMap fun s => [.st s b, .ob s b]) (iTok c)) ⊢ bigSepL (ss.flatMap fun s => [.st s b, .ob s b]) (iPre I c)
  | [] => by iintro ⟨-, -, H⟩; iexact H
  | s :: ss => by
    have ih := sends_ready b ss
    show iprop(bigSepL (s :: ss) (fun s => oPts c 0 128 0 b (shareTok fullShare 8 s) (oAll I c)) ∗ bigSepL (s :: ss) (fun s => tPts c 0 b (shareTok fullShare 8 s) (tAll I c))
      ∗ bigSepL (.st s b :: .ob s b :: ss.flatMap fun s => [.st s b, .ob s b]) (iTok c)) ⊢ bigSepL (.st s b :: .ob s b :: ss.flatMap fun s => [.st s b, .ob s b]) (iPre I c)
    rw [bigSepL_cons', bigSepL_cons', bigSepL_cons', bigSepL_cons', bigSepL_cons', bigSepL_cons']
    iintro ⟨⟨Ho, Hos⟩, ⟨Ht, Hts⟩, H1, H2, Hs⟩
    isplitl [Ht H1]
    · rw [iPre_st]; isplitl [Ht]; · iexact Ht
      ihave H1 := (Entails.of_eq (iTok_st s b)) $$ H1
      iexact H1
    isplitl [Ho H2]
    · rw [iPre_ob]; isplitl [Ho]; · iexact Ho
      ihave H2 := (Entails.of_eq (iTok_ob s b)) $$ H2
      iexact H2
    iapply ih
    isplitl [Hos]; · iexact Hos
    isplitl [Hts] <;> iassumption

theorem own_ready (b : Fin 2) : iprop(own I c b 8 ∗ sendTok c b) ⊢ iprop(bigSepL (sendItems b) (iPre I c) ∗ ownR I c b) := by
  iintro ⟨H, Hk⟩
  ihave H := (own_done b) $$ H
  icases H with ⟨Ho, Ht⟩
  ihave Ho := (oPts_toks b) $$ Ho
  ihave Ht := (tPts_toks b) $$ Ht
  icases Ho with ⟨Ho1, Ho2, Ho3⟩
  icases Ht with ⟨Ht1, Ht2, Ht3⟩
  isplitl [Ho3 Ht3 Hk]
  · iapply (sends_ready b D7)
    isplitl [Ho3]; · iexact Ho3
    isplitl [Ht3]; · iexact Ht3
    unfold sendTok; iexact Hk
  · unfold ownR
    isplitl [Ho1 Ho2]
    · isplitl [Ho1] <;> iassumption
    · isplitl [Ht1] <;> iassumption

theorem own_to_items (b : Fin 2) {l : List Item} {wt wd : List Ky} {R : sProp 𝕄} :
    St I K c l wt wd (own I c b 8) iprop(sendTok c b ∗ R) ⊢ St I K c l wt wd (bigSepL (sendItems b) (iPre I c)) iprop(ownR I c b ∗ R) := by
  unfold St
  iintro ⟨HE, HO, HI, Hwt, Hwd, HA, HB, HR⟩
  ihave H := (own_ready b) $$ [HA HB]
  · isplitl [HA] <;> iassumption
  icases H with ⟨H1, H2⟩
  isplitl [HE]; · iexact HE
  isplitl [HO]; · iexact HO
  isplitl [HI]; · iexact HI
  isplitl [Hwt]; · iexact Hwt
  isplitl [Hwd]; · iexact Hwd
  isplitl [H1]; · iexact H1
  isplitl [H2] <;> iassumption

/-! ## The parts -/

theorem part1 {Q : (Σ' (d0 : Dev nD) (v2 : BitVec 32) (v3 : BitVec 1), FVec F S96x256 .bf16) → sProp 𝕄} {wt wd : List Ky} {zs zd : List (Fin 8 × Fin 2)} {l : List Item} {R : sProp 𝕄}
    (hk : St I K c l wt wd (Zs c zs ((3, 0) :: (2, 1) :: (2, 0) :: (1, 1) :: (1, 0) :: zd)) R ⊢ Q ⟨c, (w2 c), (w3 c), k0_pay6⟩) :
    St I K c l wt wd (Zs c ((1, 0) :: (1, 1) :: (2, 0) :: (2, 1) :: (3, 0) :: zs) zd) R
      ⊢ Wp (F := F) c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5) Q := by
  rw [k0_part1_eq_skeleton]; unfold k0_part1_skel
  simp only [semSignalWord, semWaitWord, Prog.lift, Prog.bind_op, Prog.bind_ret, Prog.pure_eq_ret, Prog.bind_assoc, wp_deviceId]
  refine z_load 1 0 fun _ => ?_
  refine z_store 1 0 (fun _ => rfl) ?_
  refine z_load 1 1 fun _ => ?_
  refine z_store 1 1 (fun _ => rfl) ?_
  refine z_load 2 0 fun _ => ?_
  refine z_store 2 0 (fun _ => rfl) ?_
  refine z_load 2 1 fun _ => ?_
  refine z_store 2 1 (fun _ => rfl) ?_
  refine z_load 3 0 fun _ => ?_
  refine z_store 3 0 (fun _ => rfl) ?_
  exact ret_step hk

theorem part2 {Q : (FVec F S96x256 .bf16) → sProp 𝕄} {wt wd : List Ky} {zs zd : List (Fin 8 × Fin 2)} {l : List Item} {R : sProp 𝕄}
    (hk : St I K c l wt wd (Zs c zs ((6, 0) :: (5, 1) :: (5, 0) :: (4, 1) :: (4, 0) :: (3, 1) :: zd)) R ⊢ Q (k0_pay13)) :
    St I K c l wt wd (Zs c ((3, 1) :: (4, 0) :: (4, 1) :: (5, 0) :: (5, 1) :: (6, 0) :: zs) zd) R
      ⊢ Wp (F := F) c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 k0_pay6) Q := by
  rw [k0_part2_eq_skeleton]; unfold k0_part2_skel
  simp only [semSignalWord, semWaitWord, Prog.lift, Prog.bind_op, Prog.bind_ret, Prog.pure_eq_ret, Prog.bind_assoc]
  refine z_load 3 1 fun _ => ?_
  refine z_store 3 1 (fun _ => rfl) ?_
  refine z_load 4 0 fun _ => ?_
  refine z_store 4 0 (fun _ => rfl) ?_
  refine z_load 4 1 fun _ => ?_
  refine z_store 4 1 (fun _ => rfl) ?_
  refine z_load 5 0 fun _ => ?_
  refine z_store 5 0 (fun _ => rfl) ?_
  refine z_load 5 1 fun _ => ?_
  refine z_store 5 1 (fun _ => rfl) ?_
  refine z_load 6 0 fun _ => ?_
  refine z_store 6 0 (fun _ => rfl) ?_
  exact ret_step hk

theorem part3 {Q : (Σ' (v60 : Sems sig S_), BitVec 32) → sProp 𝕄} {wt wd : List Ky} {l : List Item} {R : sProp 𝕄}
    (hk : ∀ c4_i32, St I K c l ((1, 5, 0) :: (1, 5, 1) :: (1, 6, 0) :: (1, 6, 1) :: (1, 7, 0) :: (1, 7, 1) :: wt) wd iprop(bigSepL [(4, 1), (4, 0), (3, 1), (3, 0), (2, 1), (2, 0), (1, 1), (1, 0)] (zPost c) ∗ bigSepL [4, 5, 6, 7] (sgPre c)) R ⊢ Q ⟨(SemArray.scalar (sig.barrier 0 rfl)), c4_i32⟩) :
    St I K c (.sg 1 :: .sg 2 :: .sg 3 :: l) wt wd (Zs c [(6, 1), (7, 0), (7, 1)] [(6, 0), (5, 1), (5, 0), (4, 1), (4, 0), (3, 1), (3, 0), (2, 1), (2, 0), (1, 1), (1, 0)]) iprop(bigSepL D7 (sgPre c) ∗ R)
      ⊢ Wp (F := F) c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (k0_pay13)) Q := by
  rw [k0_part3_eq_skeleton]; unfold k0_part3_skel
  simp only [semSignalWord, semWaitWord, Prog.lift, Prog.bind_op, Prog.bind_ret, Prog.pure_eq_ret, Prog.bind_assoc]
  refine z_load 6 1 fun _ => ?_
  refine z_store 6 1 (fun _ => rfl) ?_
  refine z_load 7 0 fun _ => ?_
  refine z_store 7 0 (fun _ => rfl) ?_
  refine z_load 7 1 fun _ => ?_
  refine z_store 7 1 (fun _ => rfl) ?_
  refine (zs_sg _).trans ?_
  refine sg_step 1 (by decide) (Fin.ext (k0_dev1_eq c)) rfl ?_
  refine sg_step 2 (by decide) (Fin.ext (k0_dev2_eq c)) rfl ?_
  refine sg_step 3 (by decide) (Fin.ext (k0_dev3_eq c)) rfl ?_
  exact ret_step (hk _)

theorem part4 {Q : (IVec S128x128 1) → sProp 𝕄} {wt wd : List Ky} {l : List Item} {R : sProp 𝕄} {c4_i32 : BitVec 32}
    (hk : St I K c l ((1, 1, 0) :: (1, 1, 1) :: (1, 2, 0) :: (1, 2, 1) :: (1, 3, 0) :: (1, 3, 1) :: (1, 4, 0) :: (1, 4, 1) :: wt) wd iprop(bigSepL [] (zPost c) ∗ bigSepL [] (sgPre c)) R ⊢ Q (mAt c)) :
    St I K c (.sg 4 :: .sg 5 :: .sg 6 :: .sg 7 :: l) wt wd iprop(bigSepL [(4, 1), (4, 0), (3, 1), (3, 0), (2, 1), (2, 0), (1, 1), (1, 0)] (zPost c) ∗ bigSepL [4, 5, 6, 7] (sgPre c)) R
      ⊢ Wp (F := F) c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (SemArray.scalar (sig.barrier 0 rfl)) c4_i32) Q := by
  rw [k0_part4_eq_skeleton]; unfold k0_part4_skel
  simp only [semSignalWord, semWaitWord, Prog.lift, Prog.bind_op, Prog.bind_ret, Prog.pure_eq_ret, Prog.bind_assoc]
  refine sg_step 4 (by decide) (Fin.ext (k0_dev4_eq c)) rfl ?_
  refine sg_step 5 (by decide) (Fin.ext (k0_dev5_eq c)) rfl ?_
  refine sg_step 6 (by decide) (Fin.ext (k0_dev6_eq c)) rfl ?_
  refine sg_step 7 (by decide) (Fin.ext (k0_dev7_eq c)) rfl ?_
  exact ret_step hk

theorem part5 {Q : (Σ' (v112 : FVec F S256x256 .bf16) (v115 : FVec F S128x256 .bf16) (v118 : FVec F S128x256 .bf16), FVec F S128x64 .bf16) → sProp 𝕄} {wt wd : List Ky} {l : List Item} {R : sProp 𝕄}
    (hk : St I K c l wt wd (own I c 0 2) R ⊢ Q ⟨(qAt I c), (k0_pay19 (kAt I c 0)), (k0_pay20 (vAt I c 0)), (k0_pay24 (I.x c) (I.wq c))⟩) :
    St I K c l wt wd (own I c 0 0) R
      ⊢ Wp (F := F) c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (mAt c)) Q := by
  rw [k0_part5_eq_skeleton]; unfold k0_part5_skel
  simp only [semSignalWord, semWaitWord, Prog.lift, Prog.bind_op, Prog.bind_ret, Prog.pure_eq_ret, Prog.bind_assoc]
  refine ins_load _ (I.x c) (ins0 I c) (Memref.readAt_unit_zero (Elt F) cc0_stg0_0 (by decide) _ _) ?_
  refine ins_load _ (I.wq c) (ins1 I c) (Memref.readAt_unit_zero (Elt F) cc0_stg1_0 (by decide) _ _) ?_
  refine ins_load _ (I.k c) (ins2 I c) (Y := kAt I c 0) rfl ?_
  refine ins_load _ (I.v c) (ins3 I c) (Y := vAt I c 0) rfl ?_
  refine own_load_o 0 0 fun _ => ?_
  refine own_store_o 0 0 0 rfl 0 rfl rfl ?_
  refine own_load_t 0 0 fun _ => ?_
  refine own_store_t 0 0 1 rfl 0 rfl rfl ?_
  exact ret_step hk

theorem part6 {Q : (FVec F S1x1x1x128 .f32) → sProp 𝕄} {wt wd : List Ky} {l : List Item} {R : sProp 𝕄}
    (hk : St I K c l wt wd (own I c 0 5) R ⊢ Q (k0_pay30 (mAt c) (qAt I c) (k0_pay19 (kAt I c 0)))) :
    St I K c l wt wd (own I c 0 2) R
      ⊢ Wp (F := F) c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (mAt c) (qAt I c) (k0_pay19 (kAt I c 0)) (k0_pay20 (vAt I c 0)) (k0_pay24 (I.x c) (I.wq c))) Q := by
  rw [k0_part6_eq_skeleton]; unfold k0_part6_skel
  simp only [semSignalWord, semWaitWord, Prog.lift, Prog.bind_op, Prog.bind_ret, Prog.pure_eq_ret, Prog.bind_assoc]
  refine own_load_o 0 64 fun _ => ?_
  refine own_store_o 0 1 2 rfl 64 rfl rfl ?_
  refine own_load_t 0 1 fun _ => ?_
  refine own_store_t 0 1 3 rfl 1 rfl rfl ?_
  refine own_load_o 0 128 fun _ => ?_
  refine own_store_o 0 2 4 rfl 128 rfl rfl ?_
  refine own_load_t 0 2 fun _ => ?_
  exact ret_step hk

theorem part7 {Q : (BitVec 32) → sProp 𝕄} {wt wd : List Ky} {R : sProp 𝕄}
    (hk : ∀ v188, St I K c (sendItems 0 ++ sendItems 1) wt wd (bPost c) iprop(own I c 0 8 ∗ R) ⊢ Q v188) :
    St I K c (sendItems 0 ++ sendItems 1) wt wd (own I c 0 5) iprop(bPre c ∗ R)
      ⊢ Wp (F := F) c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) (SemArray.scalar (sig.barrier 0 rfl)) (mAt c) (qAt I c) (k0_pay19 (kAt I c 0)) (k0_pay20 (vAt I c 0)) (k0_pay30 (mAt c) (qAt I c) (k0_pay19 (kAt I c 0)))) Q := by
  rw [k0_part7_eq_skeleton]; unfold k0_part7_skel
  simp only [semSignalWord, semWaitWord, Prog.lift, Prog.bind_op, Prog.bind_ret, Prog.pure_eq_ret, Prog.bind_assoc]
  refine own_store_t 0 2 5 rfl 2 rfl rfl ?_
  refine own_load_o 0 192 fun _ => ?_
  refine own_store_o 0 3 6 rfl 192 rfl rfl ?_
  refine own_load_t 0 3 fun _ => ?_
  refine own_store_t 0 3 7 rfl 3 rfl rfl ?_
  refine swap_A.trans ?_
  refine bar_step (by decide) rfl ?_
  exact ret_step (hk _)

theorem part8 {Q : (Σ' (v205 : BitVec 32), BitVec 32) → sProp 𝕄} {wt wd : List Ky} {l it : List Item} {R : sProp 𝕄} {v188 : BitVec 32}
    (hk : ∀ v205 v216, St I K c l ((2, 2, 0) :: (0, 1, 0) :: (2, 1, 0) :: wt) wd (bigSepL it (iPre I c)) R ⊢ Q ⟨v205, v216⟩) :
    St I K c (.st 1 0 :: .ob 1 0 :: .st 2 0 :: l) wt wd (bigSepL (.st 1 0 :: .ob 1 0 :: .st 2 0 :: it) (iPre I c)) R
      ⊢ Wp (F := F) c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v188) Q := by
  rw [k0_part8_eq_skeleton]; unfold k0_part8_skel
  by_cases hf0 : full c = true
  · have k0_h1 : k0_cond1 c = 1#1 := (cond_full c).mpr hf0
    have k0_h2 : ¬ k0_cond2 c = 1#1 := fun h => (cond_small c).mp h hf0
    simp only [dif_pos k0_h1, dif_neg k0_h2, semSignalWord, semWaitWord, Prog.lift, Prog.bind_op, Prog.bind_ret, Prog.pure_eq_ret, Prog.bind_assoc]
    refine st_step 1 0 (by decide) (Fin.ext (k0_dev8_eq c)) (sAt_tsend 1 0 _) (sAt_trecv 1 0 _) ?_
    refine ob_step_full hf0 1 0 (by decide) (Fin.ext (k0_dev9_eq c)) (sAt_osend 1 0 _) (sAt_orecv 1 0 _) ?_
    refine st_step 2 0 (by decide) (Fin.ext (k0_dev11_eq c)) (sAt_tsend 2 0 _) (sAt_trecv 2 0 _) ?_
    exact ret_step (hk _ _)
  · have k0_h1 : ¬ k0_cond1 c = 1#1 := fun h => hf0 ((cond_full c).mp h)
    have k0_h2 : k0_cond2 c = 1#1 := (cond_small c).mpr hf0
    simp only [dif_neg k0_h1, dif_pos k0_h2, semSignalWord, semWaitWord, Prog.lift, Prog.bind_op, Prog.bind_ret, Prog.pure_eq_ret, Prog.bind_assoc]
    refine st_step 1 0 (by decide) (Fin.ext (k0_dev8_eq c)) (sAt_tsend 1 0 _) (sAt_trecv 1 0 _) ?_
    refine ob_step_small hf0 1 0 (by decide) (Fin.ext (k0_dev10_eq c)) (sAt_osend 1 0 _) (sAt_orecv 1 0 _) ?_
    refine st_step 2 0 (by decide) (Fin.ext (k0_dev11_eq c)) (sAt_tsend 2 0 _) (sAt_trecv 2 0 _) ?_
    exact ret_step (hk _ _)

theorem part9 {Q : (Σ' (v222 : BitVec 32), BitVec 32) → sProp 𝕄} {wt wd : List Ky} {l it : List Item} {R : sProp 𝕄} {v205 : BitVec 32} {v216 : BitVec 32}
    (hk : ∀ v222 v233, St I K c l ((2, 3, 0) :: (0, 2, 0) :: wt) wd (bigSepL it (iPre I c)) R ⊢ Q ⟨v222, v233⟩) :
    St I K c (.ob 2 0 :: .st 3 0 :: l) wt wd (bigSepL (.ob 2 0 :: .st 3 0 :: it) (iPre I c)) R
      ⊢ Wp (F := F) c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v205 v216) Q := by
  rw [k0_part9_eq_skeleton]; unfold k0_part9_skel
  by_cases hf0 : full c = true
  · have k0_h3 : k0_cond3 c = 1#1 := (cond_full c).mpr hf0
    have k0_h4 : ¬ k0_cond4 c = 1#1 := fun h => (cond_small c).mp h hf0
    simp only [dif_pos k0_h3, dif_neg k0_h4, semSignalWord, semWaitWord, Prog.lift, Prog.bind_op, Prog.bind_ret, Prog.pure_eq_ret, Prog.bind_assoc]
    refine ob_step_full hf0 2 0 (by decide) (Fin.ext (k0_dev12_eq c)) (sAt_osend 2 0 _) (sAt_orecv 2 0 _) ?_
    refine st_step 3 0 (by decide) (Fin.ext (k0_dev14_eq c)) (sAt_tsend 3 0 _) (sAt_trecv 3 0 _) ?_
    exact ret_step (hk _ _)
  · have k0_h3 : ¬ k0_cond3 c = 1#1 := fun h => hf0 ((cond_full c).mp h)
    have k0_h4 : k0_cond4 c = 1#1 := (cond_small c).mpr hf0
    simp only [dif_neg k0_h3, dif_pos k0_h4, semSignalWord, semWaitWord, Prog.lift, Prog.bind_op, Prog.bind_ret, Prog.pure_eq_ret, Prog.bind_assoc]
    refine ob_step_small hf0 2 0 (by decide) (Fin.ext (k0_dev13_eq c)) (sAt_osend 2 0 _) (sAt_orecv 2 0 _) ?_
    refine st_step 3 0 (by decide) (Fin.ext (k0_dev14_eq c)) (sAt_tsend 3 0 _) (sAt_trecv 3 0 _) ?_
    exact ret_step (hk _ _)

theorem part10 {Q : (BitVec 32) → sProp 𝕄} {wt wd : List Ky} {l it : List Item} {R : sProp 𝕄} {v222 : BitVec 32} {v233 : BitVec 32}
    (hk : ∀ v239, St I K c l ((2, 4, 0) :: (0, 3, 0) :: wt) wd (bigSepL it (iPre I c)) R ⊢ Q v239) :
    St I K c (.ob 3 0 :: .st 4 0 :: l) wt wd (bigSepL (.ob 3 0 :: .st 4 0 :: it) (iPre I c)) R
      ⊢ Wp (F := F) c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v222 v233) Q := by
  rw [k0_part10_eq_skeleton]; unfold k0_part10_skel
  by_cases hf0 : full c = true
  · have k0_h5 : k0_cond5 c = 1#1 := (cond_full c).mpr hf0
    have k0_h6 : ¬ k0_cond6 c = 1#1 := fun h => (cond_small c).mp h hf0
    simp only [dif_pos k0_h5, dif_neg k0_h6, semSignalWord, semWaitWord, Prog.lift, Prog.bind_op, Prog.bind_ret, Prog.pure_eq_ret, Prog.bind_assoc]
    refine ob_step_full hf0 3 0 (by decide) (Fin.ext (k0_dev15_eq c)) (sAt_osend 3 0 _) (sAt_orecv 3 0 _) ?_
    refine st_step 4 0 (by decide) (Fin.ext (k0_dev17_eq c)) (sAt_tsend 4 0 _) (sAt_trecv 4 0 _) ?_
    exact ret_step (hk _)
  · have k0_h5 : ¬ k0_cond5 c = 1#1 := fun h => hf0 ((cond_full c).mp h)
    have k0_h6 : k0_cond6 c = 1#1 := (cond_small c).mpr hf0
    simp only [dif_neg k0_h5, dif_pos k0_h6, semSignalWord, semWaitWord, Prog.lift, Prog.bind_op, Prog.bind_ret, Prog.pure_eq_ret, Prog.bind_assoc]
    refine ob_step_small hf0 3 0 (by decide) (Fin.ext (k0_dev16_eq c)) (sAt_osend 3 0 _) (sAt_orecv 3 0 _) ?_
    refine st_step 4 0 (by decide) (Fin.ext (k0_dev17_eq c)) (sAt_tsend 4 0 _) (sAt_trecv 4 0 _) ?_
    exact ret_step (hk _)

theorem part11 {Q : (Σ' (v256 : BitVec 32), BitVec 32) → sProp 𝕄} {wt wd : List Ky} {l it : List Item} {R : sProp 𝕄} {v239 : BitVec 32}
    (hk : ∀ v256 v270, Mid c (St I K c (.ob 5 0 :: l) ((2, 5, 0) :: (0, 4, 0) :: wt) wd (bigSepL (.ob 5 0 :: it) (iPre I c)) R) (St I K c l ((0, 5, 0) :: (2, 5, 0) :: (0, 4, 0) :: wt) wd (bigSepL it (iPre I c)) R) ⊢ Q ⟨v256, v270⟩) :
    St I K c (.ob 4 0 :: .st 5 0 :: .ob 5 0 :: l) wt wd (bigSepL (.ob 4 0 :: .st 5 0 :: .ob 5 0 :: it) (iPre I c)) R
      ⊢ Wp (F := F) c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v239) Q := by
  rw [k0_part11_eq_skeleton]; unfold k0_part11_skel
  by_cases hf0 : full c = true
  · have k0_h7 : k0_cond7 c = 1#1 := (cond_full c).mpr hf0
    have k0_h8 : ¬ k0_cond8 c = 1#1 := fun h => (cond_small c).mp h hf0
    have k0_h9 : k0_cond9 c = 1#1 := (cond_full c).mpr hf0
    simp only [dif_pos k0_h7, dif_neg k0_h8, dif_pos k0_h9, semSignalWord, semWaitWord, Prog.lift, Prog.bind_op, Prog.bind_ret, Prog.pure_eq_ret, Prog.bind_assoc]
    refine ob_step_full hf0 4 0 (by decide) (Fin.ext (k0_dev18_eq c)) (sAt_osend 4 0 _) (sAt_orecv 4 0 _) ?_
    refine st_step 5 0 (by decide) (Fin.ext (k0_dev20_eq c)) (sAt_tsend 5 0 _) (sAt_trecv 5 0 _) ?_
    refine ob_step_full hf0 5 0 (by decide) (Fin.ext (k0_dev21_eq c)) (sAt_osend 5 0 _) (sAt_orecv 5 0 _) ?_
    exact ret_step (mid_pos hf0 (hk _ _))
  · have k0_h7 : ¬ k0_cond7 c = 1#1 := fun h => hf0 ((cond_full c).mp h)
    have k0_h8 : k0_cond8 c = 1#1 := (cond_small c).mpr hf0
    have k0_h9 : ¬ k0_cond9 c = 1#1 := fun h => hf0 ((cond_full c).mp h)
    simp only [dif_neg k0_h7, dif_pos k0_h8, dif_neg k0_h9, semSignalWord, semWaitWord, Prog.lift, Prog.bind_op, Prog.bind_ret, Prog.pure_eq_ret, Prog.bind_assoc]
    refine ob_step_small hf0 4 0 (by decide) (Fin.ext (k0_dev19_eq c)) (sAt_osend 4 0 _) (sAt_orecv 4 0 _) ?_
    refine st_step 5 0 (by decide) (Fin.ext (k0_dev20_eq c)) (sAt_tsend 5 0 _) (sAt_trecv 5 0 _) ?_
    exact ret_step (mid_neg hf0 (hk _ _))

theorem part12 {Q : (Σ' (v273 : BitVec 32), BitVec 32) → sProp 𝕄} {wt wd : List Ky} {l it : List Item} {R : sProp 𝕄} {v256 : BitVec 32} {v270 : BitVec 32}
    (hk : ∀ v273 v287, Mid c (St I K c (.ob 6 0 :: l) ((2, 6, 0) :: (0, 5, 0) :: wt) wd (bigSepL (.ob 6 0 :: it) (iPre I c)) R) (St I K c l ((0, 6, 0) :: (2, 6, 0) :: (0, 5, 0) :: wt) wd (bigSepL it (iPre I c)) R) ⊢ Q ⟨v273, v287⟩) :
    Mid c (St I K c (.ob 5 0 :: .st 6 0 :: .ob 6 0 :: l) wt wd (bigSepL (.ob 5 0 :: .st 6 0 :: .ob 6 0 :: it) (iPre I c)) R) (St I K c (.st 6 0 :: .ob 6 0 :: l) ((0, 5, 0) :: wt) wd (bigSepL (.st 6 0 :: .ob 6 0 :: it) (iPre I c)) R)
      ⊢ Wp (F := F) c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v256 v270) Q := by
  rw [k0_part12_eq_skeleton]; unfold k0_part12_skel
  by_cases hf0 : full c = true
  · have k0_h10 : ¬ k0_cond10 c = 1#1 := fun h => (cond_small c).mp h hf0
    have k0_h11 : k0_cond11 c = 1#1 := (cond_full c).mpr hf0
    simp only [dif_neg k0_h10, dif_pos k0_h11, semSignalWord, semWaitWord, Prog.lift, Prog.bind_op, Prog.bind_ret, Prog.pure_eq_ret, Prog.bind_assoc]
    rw [Mid_pos hf0]
    refine st_step 6 0 (by decide) (Fin.ext (k0_dev23_eq c)) (sAt_tsend 6 0 _) (sAt_trecv 6 0 _) ?_
    refine ob_step_full hf0 6 0 (by decide) (Fin.ext (k0_dev24_eq c)) (sAt_osend 6 0 _) (sAt_orecv 6 0 _) ?_
    exact ret_step (mid_pos hf0 (hk _ _))
  · have k0_h10 : k0_cond10 c = 1#1 := (cond_small c).mpr hf0
    have k0_h11 : ¬ k0_cond11 c = 1#1 := fun h => hf0 ((cond_full c).mp h)
    simp only [dif_pos k0_h10, dif_neg k0_h11, semSignalWord, semWaitWord, Prog.lift, Prog.bind_op, Prog.bind_ret, Prog.pure_eq_ret, Prog.bind_assoc]
    rw [Mid_neg hf0]
    refine ob_step_small hf0 5 0 (by decide) (Fin.ext (k0_dev22_eq c)) (sAt_osend 5 0 _) (sAt_orecv 5 0 _) ?_
    refine st_step 6 0 (by decide) (Fin.ext (k0_dev23_eq c)) (sAt_tsend 6 0 _) (sAt_trecv 6 0 _) ?_
    exact ret_step (mid_neg hf0 (hk _ _))

theorem part13 {Q : (BitVec 32) → sProp 𝕄} {wt wd : List Ky} {l it : List Item} {R : sProp 𝕄} {v273 : BitVec 32} {v287 : BitVec 32}
    (hk : ∀ v290, St I K c l ((0, 7, 0) :: (2, 7, 0) :: (0, 6, 0) :: wt) wd (bigSepL it (iPre I c)) R ⊢ Q v290) :
    Mid c (St I K c (.ob 6 0 :: .st 7 0 :: .ob 7 0 :: l) wt wd (bigSepL (.ob 6 0 :: .st 7 0 :: .ob 7 0 :: it) (iPre I c)) R) (St I K c (.st 7 0 :: .ob 7 0 :: l) ((0, 6, 0) :: wt) wd (bigSepL (.st 7 0 :: .ob 7 0 :: it) (iPre I c)) R)
      ⊢ Wp (F := F) c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v273 v287) Q := by
  rw [k0_part13_eq_skeleton]; unfold k0_part13_skel
  by_cases hf0 : full c = true
  · have k0_h12 : ¬ k0_cond12 c = 1#1 := fun h => (cond_small c).mp h hf0
    have k0_h13 : k0_cond13 c = 1#1 := (cond_full c).mpr hf0
    have k0_h14 : ¬ k0_cond14 c = 1#1 := fun h => (cond_small c).mp h hf0
    simp only [dif_neg k0_h12, dif_pos k0_h13, dif_neg k0_h14, semSignalWord, semWaitWord, Prog.lift, Prog.bind_op, Prog.bind_ret, Prog.pure_eq_ret, Prog.bind_assoc]
    rw [Mid_pos hf0]
    refine st_step 7 0 (by decide) (Fin.ext (k0_dev26_eq c)) (sAt_tsend 7 0 _) (sAt_trecv 7 0 _) ?_
    refine ob_step_full hf0 7 0 (by decide) (Fin.ext (k0_dev27_eq c)) (sAt_osend 7 0 _) (sAt_orecv 7 0 _) ?_
    exact ret_step (hk _)
  · have k0_h12 : k0_cond12 c = 1#1 := (cond_small c).mpr hf0
    have k0_h13 : ¬ k0_cond13 c = 1#1 := fun h => hf0 ((cond_full c).mp h)
    have k0_h14 : k0_cond14 c = 1#1 := (cond_small c).mpr hf0
    simp only [dif_pos k0_h12, dif_neg k0_h13, dif_pos k0_h14, semSignalWord, semWaitWord, Prog.lift, Prog.bind_op, Prog.bind_ret, Prog.pure_eq_ret, Prog.bind_assoc]
    rw [Mid_neg hf0]
    refine ob_step_small hf0 6 0 (by decide) (Fin.ext (k0_dev25_eq c)) (sAt_osend 6 0 _) (sAt_orecv 6 0 _) ?_
    refine st_step 7 0 (by decide) (Fin.ext (k0_dev26_eq c)) (sAt_tsend 7 0 _) (sAt_trecv 7 0 _) ?_
    refine ob_step_small hf0 7 0 (by decide) (Fin.ext (k0_dev28_eq c)) (sAt_osend 7 0 _) (sAt_orecv 7 0 _) ?_
    exact ret_step (hk _)

theorem part14 {Q : (Σ' (v308 : FVec F S128x256 .bf16) (v311 : FVec F S128x256 .bf16) (v336 : FVec F S128 .f32), FVec F S128x64 .bf16) → sProp 𝕄} {wt wd : List Ky} {l : List Item} {R : sProp 𝕄}
    (hk : St I K c l wt wd (own I c 1 2) R ⊢ Q ⟨(k0_pay34 (kAt I c 1)), (k0_pay35 (vAt I c 1)), (k0_pay40 (mAt c) (qAt I c) (kAt I c 1)), (k0_pay41 (mAt c) (qAt I c) (kAt I c 1) (vAt I c 1))⟩) :
    St I K c l wt wd (own I c 1 0) R
      ⊢ Wp (F := F) c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (mAt c) (qAt I c)) Q := by
  rw [k0_part14_eq_skeleton]; unfold k0_part14_skel
  simp only [semSignalWord, semWaitWord, Prog.lift, Prog.bind_op, Prog.bind_ret, Prog.pure_eq_ret, Prog.bind_assoc]
  refine ins_load _ (I.k c) (ins2 I c) (Y := kAt I c 1) rfl ?_
  refine ins_load _ (I.v c) (ins3 I c) (Y := vAt I c 1) rfl ?_
  refine own_load_o 1 0 fun _ => ?_
  refine own_store_o 1 0 0 rfl 0 rfl rfl ?_
  refine own_load_t 1 0 fun _ => ?_
  refine own_store_t 1 0 1 rfl 0 rfl rfl ?_
  exact ret_step hk

theorem part15 {Q : (Σ' (v365 : FVec F S128x64 .bf16) (v370 : FVec F S128 .f32) (v371 : FVec F S128x128 .bf16), FVec F S128x64 .f32) → sProp 𝕄} {wt wd : List Ky} {l : List Item} {R : sProp 𝕄}
    (hk : St I K c l wt wd (own I c 1 6) R ⊢ Q ⟨(k0_pay47 (k0_pay35 (vAt I c 1))), (k0_pay49 (mAt c) (qAt I c) (k0_pay34 (kAt I c 1))), (k0_pay50 (mAt c) (qAt I c) (k0_pay34 (kAt I c 1))), (constant S128x64 .f32 0x00000000#32)⟩) :
    St I K c l wt wd (own I c 1 2) R
      ⊢ Wp (F := F) c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (mAt c) (qAt I c) (k0_pay34 (kAt I c 1)) (k0_pay35 (vAt I c 1)) (k0_pay40 (mAt c) (qAt I c) (kAt I c 1)) (k0_pay41 (mAt c) (qAt I c) (kAt I c 1) (vAt I c 1))) Q := by
  rw [k0_part15_eq_skeleton]; unfold k0_part15_skel
  simp only [semSignalWord, semWaitWord, Prog.lift, Prog.bind_op, Prog.bind_ret, Prog.pure_eq_ret, Prog.bind_assoc]
  refine own_load_o 1 64 fun _ => ?_
  refine own_store_o 1 1 2 rfl 64 rfl rfl ?_
  refine own_load_t 1 1 fun _ => ?_
  refine own_store_t 1 1 3 rfl 1 rfl rfl ?_
  refine own_load_o 1 128 fun _ => ?_
  refine own_store_o 1 2 4 rfl 128 rfl rfl ?_
  refine own_load_t 1 2 fun _ => ?_
  refine own_store_t 1 2 5 rfl 2 rfl rfl ?_
  exact ret_step hk

theorem part16 {Q : (Σ' (v381 : BitVec 32), BitVec 1) → sProp 𝕄} {wt wd : List Ky} {R : sProp 𝕄}
    (hk : ∀ v381 true_478, Mid c (St I K c [.ob 1 1, .st 2 1, .ob 2 1, .st 3 1, .ob 3 1, .st 4 1, .ob 4 1, .st 5 1, .ob 5 1, .st 6 1, .ob 6 1, .st 7 1, .ob 7 1] ((2, 1, 1) :: wt) wd (bigSepL [.ob 1 1, .st 2 1, .ob 2 1, .st 3 1, .ob 3 1, .st 4 1, .ob 4 1, .st 5 1, .ob 5 1, .st 6 1, .ob 6 1, .st 7 1, .ob 7 1] (iPre I c)) iprop(ownR I c 1 ∗ R)) (St I K c [.st 2 1, .ob 2 1, .st 3 1, .ob 3 1, .st 4 1, .ob 4 1, .st 5 1, .ob 5 1, .st 6 1, .ob 6 1, .st 7 1, .ob 7 1] ((0, 1, 1) :: (2, 1, 1) :: wt) wd (bigSepL [.st 2 1, .ob 2 1, .st 3 1, .ob 3 1, .st 4 1, .ob 4 1, .st 5 1, .ob 5 1, .st 6 1, .ob 6 1, .st 7 1, .ob 7 1] (iPre I c)) iprop(ownR I c 1 ∗ R)) ⊢ Q ⟨v381, true_478⟩) :
    St I K c (sendItems 1) wt wd (own I c 1 6) iprop(sendTok c 1 ∗ R)
      ⊢ Wp (F := F) c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) (k0_pay47 (k0_pay35 (vAt I c 1))) (k0_pay49 (mAt c) (qAt I c) (k0_pay34 (kAt I c 1))) (k0_pay50 (mAt c) (qAt I c) (k0_pay34 (kAt I c 1))) (constant S128x64 .f32 0x00000000#32)) Q := by
  rw [k0_part16_eq_skeleton]; unfold k0_part16_skel
  by_cases hf0 : full c = true
  · have k0_h15 : k0_cond15 c = 1#1 := (cond_full c).mpr hf0
    simp only [dif_pos k0_h15, semSignalWord, semWaitWord, Prog.lift, Prog.bind_op, Prog.bind_ret, Prog.pure_eq_ret, Prog.bind_assoc]
    refine own_load_o 1 192 fun _ => ?_
    refine own_store_o 1 3 6 rfl 192 rfl rfl ?_
    refine own_load_t 1 3 fun _ => ?_
    refine own_store_t 1 3 7 rfl 3 rfl rfl ?_
    refine (own_to_items 1).trans ?_
    refine st_step 1 1 (by decide) (Fin.ext (k0_dev29_eq c)) (sAt_tsend 1 1 _) (sAt_trecv 1 1 _) ?_
    refine ob_step_full hf0 1 1 (by decide) (Fin.ext (k0_dev30_eq c)) (sAt_osend 1 1 _) (sAt_orecv 1 1 _) ?_
    exact ret_step (mid_pos hf0 (hk _ _))
  · have k0_h15 : ¬ k0_cond15 c = 1#1 := fun h => hf0 ((cond_full c).mp h)
    simp only [dif_neg k0_h15, semSignalWord, semWaitWord, Prog.lift, Prog.bind_op, Prog.bind_ret, Prog.pure_eq_ret, Prog.bind_assoc]
    refine own_load_o 1 192 fun _ => ?_
    refine own_store_o 1 3 6 rfl 192 rfl rfl ?_
    refine own_load_t 1 3 fun _ => ?_
    refine own_store_t 1 3 7 rfl 3 rfl rfl ?_
    refine (own_to_items 1).trans ?_
    refine st_step 1 1 (by decide) (Fin.ext (k0_dev29_eq c)) (sAt_tsend 1 1 _) (sAt_trecv 1 1 _) ?_
    exact ret_step (mid_neg hf0 (hk _ _))

end Cert.KernelIdealProof

end
-- ==== Proof.IdealPartsB.lean ====
/-
The printed body's parts, continued: the sends of batch 1 and the waits of batch 0.
-/
module

public import proofs.«01_k».proof.Proof.IdealPartsA
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

set_option maxHeartbeats 1000000

variable {I : In F} {K : Dev nD × CK → ℕ} {c : Dev nD}

theorem part17 {Q : (Σ' (v398 : BitVec 32), BitVec 32) → sProp 𝕄} {wt wd : List Ky} {l it : List Item} {R : sProp 𝕄} {v381 : BitVec 32} {true_478 : BitVec 1}
    (hk : ∀ v398 v412, Mid c (St I K c (.ob 2 1 :: l) ((2, 2, 1) :: (0, 1, 1) :: wt) wd (bigSepL (.ob 2 1 :: it) (iPre I c)) R) (St I K c l ((0, 2, 1) :: (2, 2, 1) :: (0, 1, 1) :: wt) wd (bigSepL it (iPre I c)) R) ⊢ Q ⟨v398, v412⟩) :
    Mid c (St I K c (.ob 1 1 :: .st 2 1 :: .ob 2 1 :: l) wt wd (bigSepL (.ob 1 1 :: .st 2 1 :: .ob 2 1 :: it) (iPre I c)) R) (St I K c (.st 2 1 :: .ob 2 1 :: l) ((0, 1, 1) :: wt) wd (bigSepL (.st 2 1 :: .ob 2 1 :: it) (iPre I c)) R)
      ⊢ Wp (F := F) c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v381 true_478) Q := by
  rw [k0_part17_eq_skeleton]; unfold k0_part17_skel
  by_cases hf0 : full c = true
  · have k0_h16 : ¬ k0_cond16 c = 1#1 := fun h => (cond_small c).mp h hf0
    have k0_h17 : k0_cond17 c = 1#1 := (cond_full c).mpr hf0
    simp only [dif_neg k0_h16, dif_pos k0_h17, semSignalWord, semWaitWord, Prog.lift, Prog.bind_op, Prog.bind_ret, Prog.pure_eq_ret, Prog.bind_assoc]
    rw [Mid_pos hf0]
    refine st_step 2 1 (by decide) (Fin.ext (k0_dev32_eq c)) (sAt_tsend 2 1 _) (sAt_trecv 2 1 _) ?_
    refine ob_step_full hf0 2 1 (by decide) (Fin.ext (k0_dev33_eq c)) (sAt_osend 2 1 _) (sAt_orecv 2 1 _) ?_
    exact ret_step (mid_pos hf0 (hk _ _))
  · have k0_h16 : k0_cond16 c = 1#1 := (cond_small c).mpr hf0
    have k0_h17 : ¬ k0_cond17 c = 1#1 := fun h => hf0 ((cond_full c).mp h)
    simp only [dif_pos k0_h16, dif_neg k0_h17, semSignalWord, semWaitWord, Prog.lift, Prog.bind_op, Prog.bind_ret, Prog.pure_eq_ret, Prog.bind_assoc]
    rw [Mid_neg hf0]
    refine ob_step_small hf0 1 1 (by decide) (Fin.ext (k0_dev31_eq c)) (sAt_osend 1 1 _) (sAt_orecv 1 1 _) ?_
    refine st_step 2 1 (by decide) (Fin.ext (k0_dev32_eq c)) (sAt_tsend 2 1 _) (sAt_trecv 2 1 _) ?_
    exact ret_step (mid_neg hf0 (hk _ _))

theorem part18 {Q : (Σ' (v415 : BitVec 32), BitVec 32) → sProp 𝕄} {wt wd : List Ky} {l it : List Item} {R : sProp 𝕄} {v398 : BitVec 32} {v412 : BitVec 32}
    (hk : ∀ v415 v429, Mid c (St I K c (.ob 3 1 :: l) ((2, 3, 1) :: (0, 2, 1) :: wt) wd (bigSepL (.ob 3 1 :: it) (iPre I c)) R) (St I K c l ((0, 3, 1) :: (2, 3, 1) :: (0, 2, 1) :: wt) wd (bigSepL it (iPre I c)) R) ⊢ Q ⟨v415, v429⟩) :
    Mid c (St I K c (.ob 2 1 :: .st 3 1 :: .ob 3 1 :: l) wt wd (bigSepL (.ob 2 1 :: .st 3 1 :: .ob 3 1 :: it) (iPre I c)) R) (St I K c (.st 3 1 :: .ob 3 1 :: l) ((0, 2, 1) :: wt) wd (bigSepL (.st 3 1 :: .ob 3 1 :: it) (iPre I c)) R)
      ⊢ Wp (F := F) c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v398 v412) Q := by
  rw [k0_part18_eq_skeleton]; unfold k0_part18_skel
  by_cases hf0 : full c = true
  · have k0_h18 : ¬ k0_cond18 c = 1#1 := fun h => (cond_small c).mp h hf0
    have k0_h19 : k0_cond19 c = 1#1 := (cond_full c).mpr hf0
    simp only [dif_neg k0_h18, dif_pos k0_h19, semSignalWord, semWaitWord, Prog.lift, Prog.bind_op, Prog.bind_ret, Prog.pure_eq_ret, Prog.bind_assoc]
    rw [Mid_pos hf0]
    refine st_step 3 1 (by decide) (Fin.ext (k0_dev35_eq c)) (sAt_tsend 3 1 _) (sAt_trecv 3 1 _) ?_
    refine ob_step_full hf0 3 1 (by decide) (Fin.ext (k0_dev36_eq c)) (sAt_osend 3 1 _) (sAt_orecv 3 1 _) ?_
    exact ret_step (mid_pos hf0 (hk _ _))
  · have k0_h18 : k0_cond18 c = 1#1 := (cond_small c).mpr hf0
    have k0_h19 : ¬ k0_cond19 c = 1#1 := fun h => hf0 ((cond_full c).mp h)
    simp only [dif_pos k0_h18, dif_neg k0_h19, semSignalWord, semWaitWord, Prog.lift, Prog.bind_op, Prog.bind_ret, Prog.pure_eq_ret, Prog.bind_assoc]
    rw [Mid_neg hf0]
    refine ob_step_small hf0 2 1 (by decide) (Fin.ext (k0_dev34_eq c)) (sAt_osend 2 1 _) (sAt_orecv 2 1 _) ?_
    refine st_step 3 1 (by decide) (Fin.ext (k0_dev35_eq c)) (sAt_tsend 3 1 _) (sAt_trecv 3 1 _) ?_
    exact ret_step (mid_neg hf0 (hk _ _))

theorem part19 {Q : (Σ' (v432 : BitVec 32), BitVec 32) → sProp 𝕄} {wt wd : List Ky} {l it : List Item} {R : sProp 𝕄} {v415 : BitVec 32} {v429 : BitVec 32}
    (hk : ∀ v432 v448, St I K c l ((0, 4, 1) :: (2, 4, 1) :: (0, 3, 1) :: wt) wd (bigSepL it (iPre I c)) R ⊢ Q ⟨v432, v448⟩) :
    Mid c (St I K c (.ob 3 1 :: .st 4 1 :: .ob 4 1 :: l) wt wd (bigSepL (.ob 3 1 :: .st 4 1 :: .ob 4 1 :: it) (iPre I c)) R) (St I K c (.st 4 1 :: .ob 4 1 :: l) ((0, 3, 1) :: wt) wd (bigSepL (.st 4 1 :: .ob 4 1 :: it) (iPre I c)) R)
      ⊢ Wp (F := F) c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v415 v429) Q := by
  rw [k0_part19_eq_skeleton]; unfold k0_part19_skel
  by_cases hf0 : full c = true
  · have k0_h20 : ¬ k0_cond20 c = 1#1 := fun h => (cond_small c).mp h hf0
    have k0_h21 : k0_cond21 c = 1#1 := (cond_full c).mpr hf0
    have k0_h22 : ¬ k0_cond22 c = 1#1 := fun h => (cond_small c).mp h hf0
    simp only [dif_neg k0_h20, dif_pos k0_h21, dif_neg k0_h22, semSignalWord, semWaitWord, Prog.lift, Prog.bind_op, Prog.bind_ret, Prog.pure_eq_ret, Prog.bind_assoc]
    rw [Mid_pos hf0]
    refine st_step 4 1 (by decide) (Fin.ext (k0_dev38_eq c)) (sAt_tsend 4 1 _) (sAt_trecv 4 1 _) ?_
    refine ob_step_full hf0 4 1 (by decide) (Fin.ext (k0_dev39_eq c)) (sAt_osend 4 1 _) (sAt_orecv 4 1 _) ?_
    exact ret_step (hk _ _)
  · have k0_h20 : k0_cond20 c = 1#1 := (cond_small c).mpr hf0
    have k0_h21 : ¬ k0_cond21 c = 1#1 := fun h => hf0 ((cond_full c).mp h)
    have k0_h22 : k0_cond22 c = 1#1 := (cond_small c).mpr hf0
    simp only [dif_pos k0_h20, dif_neg k0_h21, dif_pos k0_h22, semSignalWord, semWaitWord, Prog.lift, Prog.bind_op, Prog.bind_ret, Prog.pure_eq_ret, Prog.bind_assoc]
    rw [Mid_neg hf0]
    refine ob_step_small hf0 3 1 (by decide) (Fin.ext (k0_dev37_eq c)) (sAt_osend 3 1 _) (sAt_orecv 3 1 _) ?_
    refine st_step 4 1 (by decide) (Fin.ext (k0_dev38_eq c)) (sAt_tsend 4 1 _) (sAt_trecv 4 1 _) ?_
    refine ob_step_small hf0 4 1 (by decide) (Fin.ext (k0_dev40_eq c)) (sAt_osend 4 1 _) (sAt_orecv 4 1 _) ?_
    exact ret_step (hk _ _)

theorem part20 {Q : (Σ' (v449 : BitVec 32), BitVec 32) → sProp 𝕄} {wt wd : List Ky} {l it : List Item} {R : sProp 𝕄} {v448 : BitVec 32}
    (hk : ∀ v449 v466, St I K c l ((0, 5, 1) :: (2, 5, 1) :: wt) wd (bigSepL it (iPre I c)) R ⊢ Q ⟨v449, v466⟩) :
    St I K c (.st 5 1 :: .ob 5 1 :: l) wt wd (bigSepL (.st 5 1 :: .ob 5 1 :: it) (iPre I c)) R
      ⊢ Wp (F := F) c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v448) Q := by
  rw [k0_part20_eq_skeleton]; unfold k0_part20_skel
  by_cases hf0 : full c = true
  · have k0_h23 : k0_cond23 c = 1#1 := (cond_full c).mpr hf0
    have k0_h24 : ¬ k0_cond24 c = 1#1 := fun h => (cond_small c).mp h hf0
    simp only [dif_pos k0_h23, dif_neg k0_h24, semSignalWord, semWaitWord, Prog.lift, Prog.bind_op, Prog.bind_ret, Prog.pure_eq_ret, Prog.bind_assoc]
    refine st_step 5 1 (by decide) (Fin.ext (k0_dev41_eq c)) (sAt_tsend 5 1 _) (sAt_trecv 5 1 _) ?_
    refine ob_step_full hf0 5 1 (by decide) (Fin.ext (k0_dev42_eq c)) (sAt_osend 5 1 _) (sAt_orecv 5 1 _) ?_
    exact ret_step (hk _ _)
  · have k0_h23 : ¬ k0_cond23 c = 1#1 := fun h => hf0 ((cond_full c).mp h)
    have k0_h24 : k0_cond24 c = 1#1 := (cond_small c).mpr hf0
    simp only [dif_neg k0_h23, dif_pos k0_h24, semSignalWord, semWaitWord, Prog.lift, Prog.bind_op, Prog.bind_ret, Prog.pure_eq_ret, Prog.bind_assoc]
    refine st_step 5 1 (by decide) (Fin.ext (k0_dev41_eq c)) (sAt_tsend 5 1 _) (sAt_trecv 5 1 _) ?_
    refine ob_step_small hf0 5 1 (by decide) (Fin.ext (k0_dev43_eq c)) (sAt_osend 5 1 _) (sAt_orecv 5 1 _) ?_
    exact ret_step (hk _ _)

theorem part21 {Q : (BitVec 32) → sProp 𝕄} {wt wd : List Ky} {l it : List Item} {R : sProp 𝕄} {v466 : BitVec 32}
    (hk : ∀ v483, St I K c l ((0, 6, 1) :: (2, 6, 1) :: wt) wd (bigSepL it (iPre I c)) R ⊢ Q v483) :
    St I K c (.st 6 1 :: .ob 6 1 :: l) wt wd (bigSepL (.st 6 1 :: .ob 6 1 :: it) (iPre I c)) R
      ⊢ Wp (F := F) c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w2 c) (w3 c) v466) Q := by
  rw [k0_part21_eq_skeleton]; unfold k0_part21_skel
  by_cases hf0 : full c = true
  · have k0_h25 : k0_cond25 c = 1#1 := (cond_full c).mpr hf0
    have k0_h26 : ¬ k0_cond26 c = 1#1 := fun h => (cond_small c).mp h hf0
    simp only [dif_pos k0_h25, dif_neg k0_h26, semSignalWord, semWaitWord, Prog.lift, Prog.bind_op, Prog.bind_ret, Prog.pure_eq_ret, Prog.bind_assoc]
    refine st_step 6 1 (by decide) (Fin.ext (k0_dev44_eq c)) (sAt_tsend 6 1 _) (sAt_trecv 6 1 _) ?_
    refine ob_step_full hf0 6 1 (by decide) (Fin.ext (k0_dev45_eq c)) (sAt_osend 6 1 _) (sAt_orecv 6 1 _) ?_
    exact ret_step (hk _)
  · have k0_h25 : ¬ k0_cond25 c = 1#1 := fun h => hf0 ((cond_full c).mp h)
    have k0_h26 : k0_cond26 c = 1#1 := (cond_small c).mpr hf0
    simp only [dif_neg k0_h25, dif_pos k0_h26, semSignalWord, semWaitWord, Prog.lift, Prog.bind_op, Prog.bind_ret, Prog.pure_eq_ret, Prog.bind_assoc]
    refine st_step 6 1 (by decide) (Fin.ext (k0_dev44_eq c)) (sAt_tsend 6 1 _) (sAt_trecv 6 1 _) ?_
    refine ob_step_small hf0 6 1 (by decide) (Fin.ext (k0_dev46_eq c)) (sAt_osend 6 1 _) (sAt_orecv 6 1 _) ?_
    exact ret_step (hk _)

theorem part22 {Q : (Σ' (v499 : IVec S4x256 32) (v500 : IVec S4x256 32) (c64_i32 : BitVec 32) (v502 : IVec S4x256 32) (v509 : IVec S4x256 32), BitVec 32) → sProp 𝕄} {wt wd : List Ky} {l it : List Item} {R : sProp 𝕄} {v483 : BitVec 32}
    (hk : St I K c l ((0, 7, 1) :: (2, 7, 1) :: wt) wd (bigSepL it (iPre I c)) R ⊢ Q ⟨(iota .tc S4x256 32 [0] iota_S4x256_d0_w32), (iota .tc S4x256 32 [1] iota_S4x256_d1_w32), 64#32, k0_pay53, k0_pay54, (Scalar.extui (Scalar.cmpi .sgt 64#32 0#32))⟩) :
    St I K c (.st 7 1 :: .ob 7 1 :: l) wt wd (bigSepL (.st 7 1 :: .ob 7 1 :: it) (iPre I c)) R
      ⊢ Wp (F := F) c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 c (w3 c) v483) Q := by
  rw [k0_part22_eq_skeleton]; unfold k0_part22_skel
  by_cases hf0 : full c = true
  · have k0_h27 : k0_cond27 c = 1#1 := (cond_full c).mpr hf0
    have k0_h28 : ¬ k0_cond28 c = 1#1 := fun h => (cond_small c).mp h hf0
    simp only [dif_pos k0_h27, dif_neg k0_h28, semSignalWord, semWaitWord, Prog.lift, Prog.bind_op, Prog.bind_ret, Prog.pure_eq_ret, Prog.bind_assoc]
    refine st_step 7 1 (by decide) (Fin.ext (k0_dev47_eq c)) (sAt_tsend 7 1 _) (sAt_trecv 7 1 _) ?_
    refine ob_step_full hf0 7 1 (by decide) (Fin.ext (k0_dev48_eq c)) (sAt_osend 7 1 _) (sAt_orecv 7 1 _) ?_
    exact ret_step hk
  · have k0_h27 : ¬ k0_cond27 c = 1#1 := fun h => hf0 ((cond_full c).mp h)
    have k0_h28 : k0_cond28 c = 1#1 := (cond_small c).mpr hf0
    simp only [dif_neg k0_h27, dif_pos k0_h28, semSignalWord, semWaitWord, Prog.lift, Prog.bind_op, Prog.bind_ret, Prog.pure_eq_ret, Prog.bind_assoc]
    refine st_step 7 1 (by decide) (Fin.ext (k0_dev47_eq c)) (sAt_tsend 7 1 _) (sAt_trecv 7 1 _) ?_
    refine ob_step_small hf0 7 1 (by decide) (Fin.ext (k0_dev49_eq c)) (sAt_osend 7 1 _) (sAt_orecv 7 1 _) ?_
    exact ret_step hk

theorem part23 {Q : (FVec F S4x256 .f32) → sProp 𝕄} {wt wd : List Ky} {A : sProp 𝕄} {R : sProp 𝕄} {v188 : BitVec 32} {v205 : BitVec 32}
    (hk : St I K c [] wt ((3, 1, 0) :: wd) A R ⊢ Q headMap) :
    St I K c [] ((3, 1, 0) :: wt) wd A R
      ⊢ Wp (F := F) c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 v188 v205 (iota .tc S4x256 32 [0] iota_S4x256_d0_w32) (iota .tc S4x256 32 [1] iota_S4x256_d1_w32) 64#32 k0_pay53 k0_pay54 (Scalar.extui (Scalar.cmpi .sgt 64#32 0#32))) Q := by
  rw [k0_part23_eq_skeleton]; unfold k0_part23_skel
  simp only [semSignalWord, semWaitWord, Prog.lift, Prog.bind_op, Prog.bind_ret, Prog.pure_eq_ret, Prog.bind_assoc]
  refine wait_step (3, 1, 0) (by decide) (sAt_trecv 1 0 _) (by exact rfl) ?_
  exact ret_step hk

theorem part24 {Q : (BitVec 32) → sProp 𝕄} {wt wd : List Ky} {A : sProp 𝕄} {R : sProp 𝕄} {v222 : BitVec 32} {v239 : BitVec 32}
    (hk : ∀ c1_i32_768, St I K c [] wt ((3, 4, 0) :: (3, 3, 0) :: (3, 2, 0) :: wd) A R ⊢ Q c1_i32_768) :
    St I K c [] ((3, 2, 0) :: (3, 3, 0) :: (3, 4, 0) :: wt) wd A R
      ⊢ Wp (F := F) c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 v222 v239) Q := by
  rw [k0_part24_eq_skeleton]; unfold k0_part24_skel
  simp only [semSignalWord, semWaitWord, Prog.lift, Prog.bind_op, Prog.bind_ret, Prog.pure_eq_ret, Prog.bind_assoc]
  refine wait_step (3, 2, 0) (by decide) (sAt_trecv 2 0 _) (by exact rfl) ?_
  refine wait_step (3, 3, 0) (by decide) (sAt_trecv 3 0 _) (by exact rfl) ?_
  refine wait_step (3, 4, 0) (by decide) (sAt_trecv 4 0 _) (by exact rfl) ?_
  exact ret_step (hk _)

theorem part25 {Q : (PUnit) → sProp 𝕄} {wt wd : List Ky} {A : sProp 𝕄} {R : sProp 𝕄} {v256 : BitVec 32} {v273 : BitVec 32} {v290 : BitVec 32} {c1_i32_768 : BitVec 32}
    (hk : St I K c [] wt ((3, 7, 0) :: (3, 6, 0) :: (3, 5, 0) :: wd) A R ⊢ Q ⟨⟩) :
    St I K c [] ((3, 5, 0) :: (3, 6, 0) :: (3, 7, 0) :: wt) wd A R
      ⊢ Wp (F := F) c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 v256 v273 v290 c1_i32_768) Q := by
  rw [k0_part25_eq_skeleton]; unfold k0_part25_skel
  simp only [semSignalWord, semWaitWord, Prog.lift, Prog.bind_op, Prog.bind_ret, Prog.pure_eq_ret, Prog.bind_assoc]
  refine wait_step (3, 5, 0) (by decide) (sAt_trecv 5 0 _) (by exact rfl) ?_
  refine wait_step (3, 6, 0) (by decide) (sAt_trecv 6 0 _) (by exact rfl) ?_
  refine wait_step (3, 7, 0) (by decide) (sAt_trecv 7 0 _) (by exact rfl) ?_
  exact ret_step hk

theorem part26 {Q : (Σ' (v606 : FVec F S4x128 .f32), Vec F S1x1x128x256 .bf16) → sProp 𝕄} {wt wd : List Ky} {R : sProp 𝕄} (hm10 : ((3, 1, 0) : Ky) ∈ wd) (hm20 : ((3, 2, 0) : Ky) ∈ wd) (hm30 : ((3, 3, 0) : Ky) ∈ wd) (hm40 : ((3, 4, 0) : Ky) ∈ wd) (hm50 : ((3, 5, 0) : Ky) ∈ wd) (hm60 : ((3, 6, 0) : Ky) ∈ wd) (hm70 : ((3, 7, 0) : Ky) ∈ wd)
    (hk : St I K c [] wt wd iprop(ownR I c 0 ∗ ownR I c 1) R ⊢ Q ⟨(lSum0 I c), (oSlot I c 0 0)⟩) :
    St I K c [] wt wd iprop(ownR I c 0 ∗ ownR I c 1) R
      ⊢ Wp (F := F) c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5) Q := by
  rw [k0_part26_eq_skeleton]; unfold k0_part26_skel
  simp only [semSignalWord, semWaitWord, Prog.lift, Prog.bind_op, Prog.bind_ret, Prog.pure_eq_ret, Prog.bind_assoc]
  refine own_slot_t 0 ?_
  refine slot_t 1 0 hm10 ?_
  refine slot_t 2 0 hm20 ?_
  refine slot_t 3 0 hm30 ?_
  refine slot_t 4 0 hm40 ?_
  refine slot_t 5 0 hm50 ?_
  refine slot_t 6 0 hm60 ?_
  refine slot_t 7 0 hm70 ?_
  refine own_slot_o 0 ?_
  exact ret_step hk

theorem part27 {Q : (Σ' (v622 : FVec F S128x256 .f32) (v626 : BitVec 1), BitVec 32) → sProp 𝕄} {wt wd : List Ky} {A : sProp 𝕄} {R : sProp 𝕄} {v188 : BitVec 32}
    (hk : St I K c [] wt ((1, 1, 0) :: wd) A R ⊢ Q ⟨(k0_pay57 (oSlot I c 0 0) (oSlot I c 1 0)), (w3 (bwd c 2)), (Scalar.extui (w3 (bwd c 2)))⟩) :
    St I K c [] ((1, 1, 0) :: wt) wd A R
      ⊢ Wp (F := F) c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v188 (oSlot I c 0 0)) Q := by
  rw [k0_part27_eq_skeleton]; unfold k0_part27_skel
  simp only [recv_w3 c 1 1#32 rfl, recv_w3 c 2 2#32 rfl]
  by_cases hf0 : full (bwd c 1) = true
  · have k0_h29 := (cond_full (bwd c 1)).mpr hf0
    have k0_h30 : ¬ (Scalar.cmpi .ne (Scalar.extui (Scalar.xori (w3 (bwd c 1)) 1#1) : BitVec 32) 0#32 = 1#1) := fun h => (cond_small (bwd c 1)).mp h hf0
    simp only [dif_pos k0_h29, dif_neg k0_h30, semSignalWord, semWaitWord, Prog.lift, Prog.bind_op, Prog.bind_ret, Prog.pure_eq_ret, Prog.bind_assoc]
    refine wait_step (1, 1, 0) (by decide) (sAt_orecv 1 0 _) (by exact NO_full hf0) ?_
    refine slot_o 1 0 (by simp) ?_
    exact ret_step hk
  · have k0_h29 : ¬ (Scalar.cmpi .ne (Scalar.extui (w3 (bwd c 1)) : BitVec 32) 0#32 = 1#1) := fun h => hf0 ((cond_full (bwd c 1)).mp h)
    have k0_h30 := (cond_small (bwd c 1)).mpr hf0
    simp only [dif_neg k0_h29, dif_pos k0_h30, semSignalWord, semWaitWord, Prog.lift, Prog.bind_op, Prog.bind_ret, Prog.pure_eq_ret, Prog.bind_assoc]
    refine wait_step (1, 1, 0) (by decide) (sAt_orecv 1 0 _) (by exact NO_small hf0) ?_
    refine slot_o 1 0 (by simp) ?_
    exact ret_step hk

theorem part28 {Q : (FVec F S128x256 .f32) → sProp 𝕄} {wt wd : List Ky} {A : sProp 𝕄} {R : sProp 𝕄} {v205 : BitVec 32} {v222 : BitVec 32}
    (hk : St I K c [] wt ((1, 3, 0) :: (1, 2, 0) :: wd) A R ⊢ Q (k0_pay58 (k0_pay57 (oSlot I c 0 0) (oSlot I c 1 0)) (oSlot I c 2 0))) :
    St I K c [] ((1, 2, 0) :: (1, 3, 0) :: wt) wd A R
      ⊢ Wp (F := F) c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v205 v222 (k0_pay57 (oSlot I c 0 0) (oSlot I c 1 0)) (w3 (bwd c 2)) (Scalar.extui (w3 (bwd c 2)))) Q := by
  rw [k0_part28_eq_skeleton]; unfold k0_part28_skel
  simp only [recv_w3 c 3 3#32 rfl]
  by_cases hf0 : full (bwd c 2) = true
  · by_cases hf1 : full (bwd c 3) = true
    · have k0_h31 := (cond_full (bwd c 2)).mpr hf0
      have k0_h32 : ¬ (Scalar.cmpi .ne (Scalar.extui (Scalar.xori (w3 (bwd c 2)) 1#1) : BitVec 32) 0#32 = 1#1) := fun h => (cond_small (bwd c 2)).mp h hf0
      have k0_h33 := (cond_full (bwd c 3)).mpr hf1
      have k0_h34 : ¬ (Scalar.cmpi .ne (Scalar.extui (Scalar.xori (w3 (bwd c 3)) 1#1) : BitVec 32) 0#32 = 1#1) := fun h => (cond_small (bwd c 3)).mp h hf1
      simp only [dif_pos k0_h31, dif_neg k0_h32, dif_pos k0_h33, dif_neg k0_h34, semSignalWord, semWaitWord, Prog.lift, Prog.bind_op, Prog.bind_ret, Prog.pure_eq_ret, Prog.bind_assoc]
      refine wait_step (1, 2, 0) (by decide) (sAt_orecv 2 0 _) (by exact NO_full hf0) ?_
      refine slot_o 2 0 (by simp) ?_
      refine wait_step (1, 3, 0) (by decide) (sAt_orecv 3 0 _) (by exact NO_full hf1) ?_
      exact ret_step hk
    · have k0_h31 := (cond_full (bwd c 2)).mpr hf0
      have k0_h32 : ¬ (Scalar.cmpi .ne (Scalar.extui (Scalar.xori (w3 (bwd c 2)) 1#1) : BitVec 32) 0#32 = 1#1) := fun h => (cond_small (bwd c 2)).mp h hf0
      have k0_h33 : ¬ (Scalar.cmpi .ne (Scalar.extui (w3 (bwd c 3)) : BitVec 32) 0#32 = 1#1) := fun h => hf1 ((cond_full (bwd c 3)).mp h)
      have k0_h34 := (cond_small (bwd c 3)).mpr hf1
      simp only [dif_pos k0_h31, dif_neg k0_h32, dif_neg k0_h33, dif_pos k0_h34, semSignalWord, semWaitWord, Prog.lift, Prog.bind_op, Prog.bind_ret, Prog.pure_eq_ret, Prog.bind_assoc]
      refine wait_step (1, 2, 0) (by decide) (sAt_orecv 2 0 _) (by exact NO_full hf0) ?_
      refine slot_o 2 0 (by simp) ?_
      refine wait_step (1, 3, 0) (by decide) (sAt_orecv 3 0 _) (by exact NO_small hf1) ?_
      exact ret_step hk
  · by_cases hf1 : full (bwd c 3) = true
    · have k0_h31 : ¬ (Scalar.cmpi .ne (Scalar.extui (w3 (bwd c 2)) : BitVec 32) 0#32 = 1#1) := fun h => hf0 ((cond_full (bwd c 2)).mp h)
      have k0_h32 := (cond_small (bwd c 2)).mpr hf0
      have k0_h33 := (cond_full (bwd c 3)).mpr hf1
      have k0_h34 : ¬ (Scalar.cmpi .ne (Scalar.extui (Scalar.xori (w3 (bwd c 3)) 1#1) : BitVec 32) 0#32 = 1#1) := fun h => (cond_small (bwd c 3)).mp h hf1
      simp only [dif_neg k0_h31, dif_pos k0_h32, dif_pos k0_h33, dif_neg k0_h34, semSignalWord, semWaitWord, Prog.lift, Prog.bind_op, Prog.bind_ret, Prog.pure_eq_ret, Prog.bind_assoc]
      refine wait_step (1, 2, 0) (by decide) (sAt_orecv 2 0 _) (by exact NO_small hf0) ?_
      refine slot_o 2 0 (by simp) ?_
      refine wait_step (1, 3, 0) (by decide) (sAt_orecv 3 0 _) (by exact NO_full hf1) ?_
      exact ret_step hk
    · have k0_h31 : ¬ (Scalar.cmpi .ne (Scalar.extui (w3 (bwd c 2)) : BitVec 32) 0#32 = 1#1) := fun h => hf0 ((cond_full (bwd c 2)).mp h)
      have k0_h32 := (cond_small (bwd c 2)).mpr hf0
      have k0_h33 : ¬ (Scalar.cmpi .ne (Scalar.extui (w3 (bwd c 3)) : BitVec 32) 0#32 = 1#1) := fun h => hf1 ((cond_full (bwd c 3)).mp h)
      have k0_h34 := (cond_small (bwd c 3)).mpr hf1
      simp only [dif_neg k0_h31, dif_pos k0_h32, dif_neg k0_h33, dif_pos k0_h34, semSignalWord, semWaitWord, Prog.lift, Prog.bind_op, Prog.bind_ret, Prog.pure_eq_ret, Prog.bind_assoc]
      refine wait_step (1, 2, 0) (by decide) (sAt_orecv 2 0 _) (by exact NO_small hf0) ?_
      refine slot_o 2 0 (by simp) ?_
      refine wait_step (1, 3, 0) (by decide) (sAt_orecv 3 0 _) (by exact NO_small hf1) ?_
      exact ret_step hk

theorem part29 {Q : (Σ' (v661 : FVec F S128x256 .f32) (v665 : BitVec 1), BitVec 32) → sProp 𝕄} {wt wd : List Ky} {A : sProp 𝕄} {R : sProp 𝕄} {v239 : BitVec 32} (hm30 : ((1, 3, 0) : Ky) ∈ wd)
    (hk : St I K c [] wt ((1, 4, 0) :: wd) A R ⊢ Q ⟨(k0_pay59 (k0_pay58 (k0_pay57 (oSlot I c 0 0) (oSlot I c 1 0)) (oSlot I c 2 0)) (oSlot I c 3 0) (oSlot I c 4 0)), (w3 (bwd c 5)), (Scalar.extui (w3 (bwd c 5)))⟩) :
    St I K c [] ((1, 4, 0) :: wt) wd A R
      ⊢ Wp (F := F) c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v239 (k0_pay58 (k0_pay57 (oSlot I c 0 0) (oSlot I c 1 0)) (oSlot I c 2 0))) Q := by
  rw [k0_part29_eq_skeleton]; unfold k0_part29_skel
  simp only [recv_w3 c 4 4#32 rfl, recv_w3 c 5 5#32 rfl]
  by_cases hf0 : full (bwd c 4) = true
  · have k0_h35 := (cond_full (bwd c 4)).mpr hf0
    have k0_h36 : ¬ (Scalar.cmpi .ne (Scalar.extui (Scalar.xori (w3 (bwd c 4)) 1#1) : BitVec 32) 0#32 = 1#1) := fun h => (cond_small (bwd c 4)).mp h hf0
    simp only [dif_pos k0_h35, dif_neg k0_h36, semSignalWord, semWaitWord, Prog.lift, Prog.bind_op, Prog.bind_ret, Prog.pure_eq_ret, Prog.bind_assoc]
    refine slot_o 3 0 (by simp only [List.mem_cons, hm30, or_true]) ?_
    refine wait_step (1, 4, 0) (by decide) (sAt_orecv 4 0 _) (by exact NO_full hf0) ?_
    refine slot_o 4 0 (by simp) ?_
    exact ret_step hk
  · have k0_h35 : ¬ (Scalar.cmpi .ne (Scalar.extui (w3 (bwd c 4)) : BitVec 32) 0#32 = 1#1) := fun h => hf0 ((cond_full (bwd c 4)).mp h)
    have k0_h36 := (cond_small (bwd c 4)).mpr hf0
    simp only [dif_neg k0_h35, dif_pos k0_h36, semSignalWord, semWaitWord, Prog.lift, Prog.bind_op, Prog.bind_ret, Prog.pure_eq_ret, Prog.bind_assoc]
    refine slot_o 3 0 (by simp only [List.mem_cons, hm30, or_true]) ?_
    refine wait_step (1, 4, 0) (by decide) (sAt_orecv 4 0 _) (by exact NO_small hf0) ?_
    refine slot_o 4 0 (by simp) ?_
    exact ret_step hk

theorem part30 {Q : (Σ' (v674 : FVec F S128x256 .f32), BitVec 32) → sProp 𝕄} {wt wd : List Ky} {A : sProp 𝕄} {R : sProp 𝕄} {v256 : BitVec 32} {v273 : BitVec 32}
    (hk : Mid (bwd c 6) (St I K c [] ((1, 6, 0) :: wt) ((1, 5, 0) :: wd) A R) (St I K c [] wt ((1, 6, 0) :: (1, 5, 0) :: wd) A R) ⊢ Q ⟨(k0_pay60 (k0_pay59 (k0_pay58 (k0_pay57 (oSlot I c 0 0) (oSlot I c 1 0)) (oSlot I c 2 0)) (oSlot I c 3 0) (oSlot I c 4 0)) (oSlot I c 5 0)), (Scalar.extui (Scalar.xori (w3 (bwd c 6)) 1#1))⟩) :
    St I K c [] ((1, 5, 0) :: (1, 6, 0) :: wt) wd A R
      ⊢ Wp (F := F) c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v256 v273 (k0_pay59 (k0_pay58 (k0_pay57 (oSlot I c 0 0) (oSlot I c 1 0)) (oSlot I c 2 0)) (oSlot I c 3 0) (oSlot I c 4 0)) (w3 (bwd c 5)) (Scalar.extui (w3 (bwd c 5)))) Q := by
  rw [k0_part30_eq_skeleton]; unfold k0_part30_skel
  simp only [recv_w3 c 6 6#32 rfl]
  by_cases hf0 : full (bwd c 5) = true
  · by_cases hf1 : full (bwd c 6) = true
    · have k0_h37 := (cond_full (bwd c 5)).mpr hf0
      have k0_h38 : ¬ (Scalar.cmpi .ne (Scalar.extui (Scalar.xori (w3 (bwd c 5)) 1#1) : BitVec 32) 0#32 = 1#1) := fun h => (cond_small (bwd c 5)).mp h hf0
      have k0_h39 := (cond_full (bwd c 6)).mpr hf1
      simp only [dif_pos k0_h37, dif_neg k0_h38, dif_pos k0_h39, semSignalWord, semWaitWord, Prog.lift, Prog.bind_op, Prog.bind_ret, Prog.pure_eq_ret, Prog.bind_assoc]
      refine wait_step (1, 5, 0) (by decide) (sAt_orecv 5 0 _) (by exact NO_full hf0) ?_
      refine slot_o 5 0 (by simp) ?_
      refine wait_step (1, 6, 0) (by decide) (sAt_orecv 6 0 _) (by exact NO_full hf1) ?_
      exact ret_step (mid_pos hf1 hk)
    · have k0_h37 := (cond_full (bwd c 5)).mpr hf0
      have k0_h38 : ¬ (Scalar.cmpi .ne (Scalar.extui (Scalar.xori (w3 (bwd c 5)) 1#1) : BitVec 32) 0#32 = 1#1) := fun h => (cond_small (bwd c 5)).mp h hf0
      have k0_h39 : ¬ (Scalar.cmpi .ne (Scalar.extui (w3 (bwd c 6)) : BitVec 32) 0#32 = 1#1) := fun h => hf1 ((cond_full (bwd c 6)).mp h)
      simp only [dif_pos k0_h37, dif_neg k0_h38, dif_neg k0_h39, semSignalWord, semWaitWord, Prog.lift, Prog.bind_op, Prog.bind_ret, Prog.pure_eq_ret, Prog.bind_assoc]
      refine wait_step (1, 5, 0) (by decide) (sAt_orecv 5 0 _) (by exact NO_full hf0) ?_
      refine slot_o 5 0 (by simp) ?_
      exact ret_step (mid_neg hf1 hk)
  · by_cases hf1 : full (bwd c 6) = true
    · have k0_h37 : ¬ (Scalar.cmpi .ne (Scalar.extui (w3 (bwd c 5)) : BitVec 32) 0#32 = 1#1) := fun h => hf0 ((cond_full (bwd c 5)).mp h)
      have k0_h38 := (cond_small (bwd c 5)).mpr hf0
      have k0_h39 := (cond_full (bwd c 6)).mpr hf1
      simp only [dif_neg k0_h37, dif_pos k0_h38, dif_pos k0_h39, semSignalWord, semWaitWord, Prog.lift, Prog.bind_op, Prog.bind_ret, Prog.pure_eq_ret, Prog.bind_assoc]
      refine wait_step (1, 5, 0) (by decide) (sAt_orecv 5 0 _) (by exact NO_small hf0) ?_
      refine slot_o 5 0 (by simp) ?_
      refine wait_step (1, 6, 0) (by decide) (sAt_orecv 6 0 _) (by exact NO_full hf1) ?_
      exact ret_step (mid_pos hf1 hk)
    · have k0_h37 : ¬ (Scalar.cmpi .ne (Scalar.extui (w3 (bwd c 5)) : BitVec 32) 0#32 = 1#1) := fun h => hf0 ((cond_full (bwd c 5)).mp h)
      have k0_h38 := (cond_small (bwd c 5)).mpr hf0
      have k0_h39 : ¬ (Scalar.cmpi .ne (Scalar.extui (w3 (bwd c 6)) : BitVec 32) 0#32 = 1#1) := fun h => hf1 ((cond_full (bwd c 6)).mp h)
      simp only [dif_neg k0_h37, dif_pos k0_h38, dif_neg k0_h39, semSignalWord, semWaitWord, Prog.lift, Prog.bind_op, Prog.bind_ret, Prog.pure_eq_ret, Prog.bind_assoc]
      refine wait_step (1, 5, 0) (by decide) (sAt_orecv 5 0 _) (by exact NO_small hf0) ?_
      refine slot_o 5 0 (by simp) ?_
      exact ret_step (mid_neg hf1 hk)

theorem part31 {Q : (Σ' (v700 : FVec F S128x256 .f32) (v702 : FVec F S4x128 .f32), FVec F S128x256 .f32) → sProp 𝕄} {wt wd : List Ky} {A : sProp 𝕄} {R : sProp 𝕄} {v273 : BitVec 32} {v290 : BitVec 32}
    (hk : St I K c [] wt ((1, 7, 0) :: (1, 6, 0) :: wd) A R ⊢ Q ⟨(oSum0 I c), (k0_pay62 (lSum0 I c)), (constant S128x256 .f32 0x00000000#32)⟩) :
    Mid (bwd c 6) (St I K c [] ((1, 6, 0) :: (1, 7, 0) :: wt) wd A R) (St I K c [] ((1, 7, 0) :: wt) ((1, 6, 0) :: wd) A R)
      ⊢ Wp (F := F) c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v273 v290 (lSum0 I c) (k0_pay60 (k0_pay59 (k0_pay58 (k0_pay57 (oSlot I c 0 0) (oSlot I c 1 0)) (oSlot I c 2 0)) (oSlot I c 3 0) (oSlot I c 4 0)) (oSlot I c 5 0)) (Scalar.extui (Scalar.xori (w3 (bwd c 6)) 1#1))) Q := by
  rw [k0_part31_eq_skeleton]; unfold k0_part31_skel
  simp only [recv_w3 c 7 7#32 rfl]
  by_cases hf0 : full (bwd c 6) = true
  · by_cases hf1 : full (bwd c 7) = true
    · have k0_h40 : ¬ (Scalar.cmpi .ne (Scalar.extui (Scalar.xori (w3 (bwd c 6)) 1#1) : BitVec 32) 0#32 = 1#1) := fun h => (cond_small (bwd c 6)).mp h hf0
      have k0_h41 := (cond_full (bwd c 7)).mpr hf1
      have k0_h42 : ¬ (Scalar.cmpi .ne (Scalar.extui (Scalar.xori (w3 (bwd c 7)) 1#1) : BitVec 32) 0#32 = 1#1) := fun h => (cond_small (bwd c 7)).mp h hf1
      simp only [dif_neg k0_h40, dif_pos k0_h41, dif_neg k0_h42, semSignalWord, semWaitWord, Prog.lift, Prog.bind_op, Prog.bind_ret, Prog.pure_eq_ret, Prog.bind_assoc]
      rw [Mid_pos hf0]
      refine slot_o 6 0 (by simp) ?_
      refine wait_step (1, 7, 0) (by decide) (sAt_orecv 7 0 _) (by exact NO_full hf1) ?_
      refine slot_o 7 0 (by simp) ?_
      exact ret_step hk
    · have k0_h40 : ¬ (Scalar.cmpi .ne (Scalar.extui (Scalar.xori (w3 (bwd c 6)) 1#1) : BitVec 32) 0#32 = 1#1) := fun h => (cond_small (bwd c 6)).mp h hf0
      have k0_h41 : ¬ (Scalar.cmpi .ne (Scalar.extui (w3 (bwd c 7)) : BitVec 32) 0#32 = 1#1) := fun h => hf1 ((cond_full (bwd c 7)).mp h)
      have k0_h42 := (cond_small (bwd c 7)).mpr hf1
      simp only [dif_neg k0_h40, dif_neg k0_h41, dif_pos k0_h42, semSignalWord, semWaitWord, Prog.lift, Prog.bind_op, Prog.bind_ret, Prog.pure_eq_ret, Prog.bind_assoc]
      rw [Mid_pos hf0]
      refine slot_o 6 0 (by simp) ?_
      refine wait_step (1, 7, 0) (by decide) (sAt_orecv 7 0 _) (by exact NO_small hf1) ?_
      refine slot_o 7 0 (by simp) ?_
      exact ret_step hk
  · by_cases hf1 : full (bwd c 7) = true
    · have k0_h40 := (cond_small (bwd c 6)).mpr hf0
      have k0_h41 := (cond_full (bwd c 7)).mpr hf1
      have k0_h42 : ¬ (Scalar.cmpi .ne (Scalar.extui (Scalar.xori (w3 (bwd c 7)) 1#1) : BitVec 32) 0#32 = 1#1) := fun h => (cond_small (bwd c 7)).mp h hf1
      simp only [dif_pos k0_h40, dif_pos k0_h41, dif_neg k0_h42, semSignalWord, semWaitWord, Prog.lift, Prog.bind_op, Prog.bind_ret, Prog.pure_eq_ret, Prog.bind_assoc]
      rw [Mid_neg hf0]
      refine wait_step (1, 6, 0) (by decide) (sAt_orecv 6 0 _) (by exact NO_small hf0) ?_
      refine slot_o 6 0 (by simp) ?_
      refine wait_step (1, 7, 0) (by decide) (sAt_orecv 7 0 _) (by exact NO_full hf1) ?_
      refine slot_o 7 0 (by simp) ?_
      exact ret_step hk
    · have k0_h40 := (cond_small (bwd c 6)).mpr hf0
      have k0_h41 : ¬ (Scalar.cmpi .ne (Scalar.extui (w3 (bwd c 7)) : BitVec 32) 0#32 = 1#1) := fun h => hf1 ((cond_full (bwd c 7)).mp h)
      have k0_h42 := (cond_small (bwd c 7)).mpr hf1
      simp only [dif_pos k0_h40, dif_neg k0_h41, dif_pos k0_h42, semSignalWord, semWaitWord, Prog.lift, Prog.bind_op, Prog.bind_ret, Prog.pure_eq_ret, Prog.bind_assoc]
      rw [Mid_neg hf0]
      refine wait_step (1, 6, 0) (by decide) (sAt_orecv 6 0 _) (by exact NO_small hf0) ?_
      refine slot_o 6 0 (by simp) ?_
      refine wait_step (1, 7, 0) (by decide) (sAt_orecv 7 0 _) (by exact NO_small hf1) ?_
      refine slot_o 7 0 (by simp) ?_
      exact ret_step hk

theorem part32 {Q : (Σ' (v705 : FVec F S128x256 .bf16) (v722 : BitVec 32), BitVec 32) → sProp 𝕄} {wt wd : List Ky} {A : sProp 𝕄} {R : sProp 𝕄} {v381 : BitVec 32} {v398 : BitVec 32} {v415 : BitVec 32}
    (hk : ∀ v722 c0_i32_1066, St I K c [] wt ((3, 2, 1) :: (3, 1, 1) :: wd) A R ⊢ Q ⟨(ctx0 I c), v722, c0_i32_1066⟩) :
    St I K c [] ((3, 1, 1) :: (3, 2, 1) :: wt) wd A R
      ⊢ Wp (F := F) c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 v381 v398 v415 headMap (oSum0 I c) (k0_pay62 (lSum0 I c)) (constant S128x256 .f32 0x00000000#32)) Q := by
  rw [k0_part32_eq_skeleton]; unfold k0_part32_skel
  simp only [semSignalWord, semWaitWord, Prog.lift, Prog.bind_op, Prog.bind_ret, Prog.pure_eq_ret, Prog.bind_assoc]
  refine wait_step (3, 1, 1) (by decide) (sAt_trecv 1 1 _) (by exact rfl) ?_
  refine wait_step (3, 2, 1) (by decide) (sAt_trecv 2 1 _) (by exact rfl) ?_
  exact ret_step (hk _ _)

theorem part33 {Q : (PUnit) → sProp 𝕄} {wt wd : List Ky} {A : sProp 𝕄} {R : sProp 𝕄} {v432 : BitVec 32} {v449 : BitVec 32} {v722 : BitVec 32} {c0_i32_1066 : BitVec 32}
    (hk : St I K c [] wt ((3, 5, 1) :: (3, 4, 1) :: (3, 3, 1) :: wd) A R ⊢ Q ⟨⟩) :
    St I K c [] ((3, 3, 1) :: (3, 4, 1) :: (3, 5, 1) :: wt) wd A R
      ⊢ Wp (F := F) c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 v432 v449 v722 c0_i32_1066) Q := by
  rw [k0_part33_eq_skeleton]; unfold k0_part33_skel
  simp only [semSignalWord, semWaitWord, Prog.lift, Prog.bind_op, Prog.bind_ret, Prog.pure_eq_ret, Prog.bind_assoc]
  refine wait_step (3, 3, 1) (by decide) (sAt_trecv 3 1 _) (by exact rfl) ?_
  refine wait_step (3, 4, 1) (by decide) (sAt_trecv 4 1 _) (by exact rfl) ?_
  refine wait_step (3, 5, 1) (by decide) (sAt_trecv 5 1 _) (by exact rfl) ?_
  exact ret_step hk

end Cert.KernelIdealProof

end
-- ==== Proof.IdealPartsC.lean ====
/-
The printed body's parts, continued: batch 1, the result, the waits for what was sent.
-/
module

public import proofs.«01_k».proof.Proof.IdealPartsA
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

set_option maxHeartbeats 1000000

variable {I : In F} {K : Dev nD × CK → ℕ} {c : Dev nD}

theorem part34 {Q : (FVec F S4x128 .f32) → sProp 𝕄} {wt wd : List Ky} {R : sProp 𝕄} {v466 : BitVec 32} {v483 : BitVec 32} (hm11 : ((3, 1, 1) : Ky) ∈ wd)
    (hk : St I K c [] wt ((3, 7, 1) :: (3, 6, 1) :: wd) iprop(ownR I c 0 ∗ ownR I c 1) R ⊢ Q (k0_pay64 (tSlot I c 0 1) (tSlot I c 1 1))) :
    St I K c [] ((3, 6, 1) :: (3, 7, 1) :: wt) wd iprop(ownR I c 0 ∗ ownR I c 1) R
      ⊢ Wp (F := F) c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 v466 v483) Q := by
  rw [k0_part34_eq_skeleton]; unfold k0_part34_skel
  simp only [semSignalWord, semWaitWord, Prog.lift, Prog.bind_op, Prog.bind_ret, Prog.pure_eq_ret, Prog.bind_assoc]
  refine wait_step (3, 6, 1) (by decide) (sAt_trecv 6 1 _) (by exact rfl) ?_
  refine wait_step (3, 7, 1) (by decide) (sAt_trecv 7 1 _) (by exact rfl) ?_
  refine own_slot_t 1 ?_
  refine slot_t 1 1 (by simp only [List.mem_cons, hm11, or_true]) ?_
  exact ret_step hk

theorem part35 {Q : (Σ' (v784 : FVec F S4x128 .f32) (v787 : FVec F S128x256 .f32) (v791 : BitVec 1), BitVec 32) → sProp 𝕄} {wt wd : List Ky} {R : sProp 𝕄} (hm21 : ((3, 2, 1) : Ky) ∈ wd) (hm31 : ((3, 3, 1) : Ky) ∈ wd) (hm41 : ((3, 4, 1) : Ky) ∈ wd) (hm51 : ((3, 5, 1) : Ky) ∈ wd) (hm61 : ((3, 6, 1) : Ky) ∈ wd) (hm71 : ((3, 7, 1) : Ky) ∈ wd)
    (hk : St I K c [] wt wd iprop(ownR I c 0 ∗ ownR I c 1) R ⊢ Q ⟨(lSum1 I c), (k0_pay66 (oSlot I c 0 1)), (w3 (bwd c 1)), (Scalar.extui (w3 (bwd c 1)))⟩) :
    St I K c [] wt wd iprop(ownR I c 0 ∗ ownR I c 1) R
      ⊢ Wp (F := F) c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) (k0_pay64 (tSlot I c 0 1) (tSlot I c 1 1))) Q := by
  rw [k0_part35_eq_skeleton]; unfold k0_part35_skel
  simp only [recv_w3 c 1 1#32 rfl]
  simp only [semSignalWord, semWaitWord, Prog.lift, Prog.bind_op, Prog.bind_ret, Prog.pure_eq_ret, Prog.bind_assoc]
  refine slot_t 2 1 hm21 ?_
  refine slot_t 3 1 hm31 ?_
  refine slot_t 4 1 hm41 ?_
  refine slot_t 5 1 hm51 ?_
  refine slot_t 6 1 hm61 ?_
  refine slot_t 7 1 hm71 ?_
  refine own_slot_o 1 ?_
  exact ret_step hk

theorem part36 {Q : (Σ' (v800 : FVec F S128x256 .f32) (v808 : BitVec 32), BitVec 32) → sProp 𝕄} {wt wd : List Ky} {A : sProp 𝕄} {R : sProp 𝕄} {v381 : BitVec 32} {v398 : BitVec 32}
    (hk : Mid (bwd c 2) (St I K c [] ((1, 2, 1) :: wt) ((1, 1, 1) :: wd) A R) (St I K c [] wt ((1, 2, 1) :: (1, 1, 1) :: wd) A R) ⊢ Q ⟨(k0_pay67 (k0_pay66 (oSlot I c 0 1)) (oSlot I c 1 1)), (Scalar.extui (Scalar.xori (w3 (bwd c 2)) 1#1)), 0#32⟩) :
    St I K c [] ((1, 1, 1) :: (1, 2, 1) :: wt) wd A R
      ⊢ Wp (F := F) c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v381 v398 (k0_pay66 (oSlot I c 0 1)) (w3 (bwd c 1)) (Scalar.extui (w3 (bwd c 1)))) Q := by
  rw [k0_part36_eq_skeleton]; unfold k0_part36_skel
  simp only [recv_w3 c 2 2#32 rfl]
  by_cases hf0 : full (bwd c 1) = true
  · by_cases hf1 : full (bwd c 2) = true
    · have k0_h43 := (cond_full (bwd c 1)).mpr hf0
      have k0_h44 : ¬ (Scalar.cmpi .ne (Scalar.extui (Scalar.xori (w3 (bwd c 1)) 1#1) : BitVec 32) 0#32 = 1#1) := fun h => (cond_small (bwd c 1)).mp h hf0
      have k0_h45 := (cond_full (bwd c 2)).mpr hf1
      simp only [dif_pos k0_h43, dif_neg k0_h44, dif_pos k0_h45, semSignalWord, semWaitWord, Prog.lift, Prog.bind_op, Prog.bind_ret, Prog.pure_eq_ret, Prog.bind_assoc]
      refine wait_step (1, 1, 1) (by decide) (sAt_orecv 1 1 _) (by exact NO_full hf0) ?_
      refine slot_o 1 1 (by simp) ?_
      refine wait_step (1, 2, 1) (by decide) (sAt_orecv 2 1 _) (by exact NO_full hf1) ?_
      exact ret_step (mid_pos hf1 hk)
    · have k0_h43 := (cond_full (bwd c 1)).mpr hf0
      have k0_h44 : ¬ (Scalar.cmpi .ne (Scalar.extui (Scalar.xori (w3 (bwd c 1)) 1#1) : BitVec 32) 0#32 = 1#1) := fun h => (cond_small (bwd c 1)).mp h hf0
      have k0_h45 : ¬ (Scalar.cmpi .ne (Scalar.extui (w3 (bwd c 2)) : BitVec 32) 0#32 = 1#1) := fun h => hf1 ((cond_full (bwd c 2)).mp h)
      simp only [dif_pos k0_h43, dif_neg k0_h44, dif_neg k0_h45, semSignalWord, semWaitWord, Prog.lift, Prog.bind_op, Prog.bind_ret, Prog.pure_eq_ret, Prog.bind_assoc]
      refine wait_step (1, 1, 1) (by decide) (sAt_orecv 1 1 _) (by exact NO_full hf0) ?_
      refine slot_o 1 1 (by simp) ?_
      exact ret_step (mid_neg hf1 hk)
  · by_cases hf1 : full (bwd c 2) = true
    · have k0_h43 : ¬ (Scalar.cmpi .ne (Scalar.extui (w3 (bwd c 1)) : BitVec 32) 0#32 = 1#1) := fun h => hf0 ((cond_full (bwd c 1)).mp h)
      have k0_h44 := (cond_small (bwd c 1)).mpr hf0
      have k0_h45 := (cond_full (bwd c 2)).mpr hf1
      simp only [dif_neg k0_h43, dif_pos k0_h44, dif_pos k0_h45, semSignalWord, semWaitWord, Prog.lift, Prog.bind_op, Prog.bind_ret, Prog.pure_eq_ret, Prog.bind_assoc]
      refine wait_step (1, 1, 1) (by decide) (sAt_orecv 1 1 _) (by exact NO_small hf0) ?_
      refine slot_o 1 1 (by simp) ?_
      refine wait_step (1, 2, 1) (by decide) (sAt_orecv 2 1 _) (by exact NO_full hf1) ?_
      exact ret_step (mid_pos hf1 hk)
    · have k0_h43 : ¬ (Scalar.cmpi .ne (Scalar.extui (w3 (bwd c 1)) : BitVec 32) 0#32 = 1#1) := fun h => hf0 ((cond_full (bwd c 1)).mp h)
      have k0_h44 := (cond_small (bwd c 1)).mpr hf0
      have k0_h45 : ¬ (Scalar.cmpi .ne (Scalar.extui (w3 (bwd c 2)) : BitVec 32) 0#32 = 1#1) := fun h => hf1 ((cond_full (bwd c 2)).mp h)
      simp only [dif_neg k0_h43, dif_pos k0_h44, dif_neg k0_h45, semSignalWord, semWaitWord, Prog.lift, Prog.bind_op, Prog.bind_ret, Prog.pure_eq_ret, Prog.bind_assoc]
      refine wait_step (1, 1, 1) (by decide) (sAt_orecv 1 1 _) (by exact NO_small hf0) ?_
      refine slot_o 1 1 (by simp) ?_
      exact ret_step (mid_neg hf1 hk)

theorem part37 {Q : (Σ' (v826 : FVec F S128x256 .f32), BitVec 1) → sProp 𝕄} {wt wd : List Ky} {A : sProp 𝕄} {R : sProp 𝕄} {v398 : BitVec 32} {v415 : BitVec 32}
    (hk : St I K c [] wt ((1, 3, 1) :: (1, 2, 1) :: wd) A R ⊢ Q ⟨(k0_pay68 (k0_pay67 (k0_pay66 (oSlot I c 0 1)) (oSlot I c 1 1)) (oSlot I c 2 1) (oSlot I c 3 1)), (w3 (bwd c 4))⟩) :
    Mid (bwd c 2) (St I K c [] ((1, 2, 1) :: (1, 3, 1) :: wt) wd A R) (St I K c [] ((1, 3, 1) :: wt) ((1, 2, 1) :: wd) A R)
      ⊢ Wp (F := F) c (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v398 v415 (k0_pay67 (k0_pay66 (oSlot I c 0 1)) (oSlot I c 1 1)) (Scalar.extui (Scalar.xori (w3 (bwd c 2)) 1#1)) 0#32) Q := by
  rw [k0_part37_eq_skeleton]; unfold k0_part37_skel
  simp only [recv_w3 c 3 3#32 rfl, recv_w3 c 4 4#32 rfl]
  by_cases hf0 : full (bwd c 2) = true
  · by_cases hf1 : full (bwd c 3) = true
    · have k0_h46 : ¬ (Scalar.cmpi .ne (Scalar.extui (Scalar.xori (w3 (bwd c 2)) 1#1) : BitVec 32) 0#32 = 1#1) := fun h => (cond_small (bwd c 2)).mp h hf0
      have k0_h47 := (cond_full (bwd c 3)).mpr hf1
      have k0_h48 : ¬ (Scalar.cmpi .ne (Scalar.extui (Scalar.xori (w3 (bwd c 3)) 1#1) : BitVec 32) 0#32 = 1#1) := fun h => (cond_small (bwd c 3)).mp h hf1
      simp only [dif_neg k0_h46, dif_pos k0_h47, dif_neg k0_h48, semSignalWord, semWaitWord, Prog.lift, Prog.bind_op, Prog.bind_ret, Prog.pure_eq_ret, Prog.bind_assoc]
      rw [Mid_pos hf0]
      refine slot_o 2 1 (by simp) ?_
      refine wait_step (1, 3, 1) (by decide) (sAt_orecv 3 1 _) (by exact NO_full hf1) ?_
      refine slot_o 3 1 (by simp) ?_
      exact ret_step hk
    · have k0_h46 : ¬ (Scalar.cmpi .ne (Scalar.extui (Scalar.xori (w3 (bwd c 2)) 1#1) : BitVec 32) 0#32 = 1#1) := fun h => (cond_small (bwd c 2)).mp h hf0
      have k0_h47 : ¬ (Scalar.cmpi .ne (Scalar.extui (w3 (bwd c 3)) : BitVec 32) 0#32 = 1#1) := fun h => hf1 ((cond_full (bwd c 3)).mp h)
      have k0_h48 := (cond_small (bwd c 3)).mpr hf1
      simp only [dif_neg k0_h46, dif_neg k0_h47, dif_pos k0_h48, semSignalWord, semWaitWord, Prog.lift, Prog.bind_op, Prog.bind_ret, Prog.pure_eq_ret, Prog.bind_assoc]
      rw [Mid_pos hf0]
      refine slot_o 2 1 (by simp) ?_
      refine wait_step (1, 3, 1) (by decide) (sAt_orecv 3 1 _) (by exact NO_small hf1) ?_
      refine slot_o 3 1 (by simp) ?_
      exact ret_step hk
  · by_cases hf1 : full (bwd c 3) = true
    · have k0_h46 := (cond_small (bwd c 2)).mpr hf0
      have k0_h47 := (cond_full (bwd c 3)).mpr hf1
      have k0_h48 : ¬ (Scalar.cmpi .ne (Scalar.extui (Scalar.xori (w3 (bwd c 3)) 1#1) : BitVec 32) 0#32 = 1#1) := fun h => (cond_small (bwd c 3)).mp h hf1
      simp only [dif_pos k0_h46, dif_pos k0_h47, dif_neg k0_h48, semSignalWord, semWaitWord, Prog.lift, Prog.bind_op, Prog.bind_ret, Prog.pure_eq_ret, Prog.bind_assoc]
      rw [Mid_neg hf0]
      refine wait_step (1, 2, 1) (by decide) (sAt_orecv 2 1 _) (by exact NO_small hf0) ?_
      refine slot_o 2 1 (by simp) ?_
      refine wait_step (1, 3, 1) (by decide) (sAt_orecv 3 1 _) (by exact NO_full hf1) ?_
      refine slot_o 3 1 (by simp) ?_
      exact ret_step hk
    · have k0_h46 := (cond_small (bwd c 2)).mpr hf0
      have k0_h47 : ¬ (Scalar.cmpi .ne (Scalar.extui (w3 (bwd c 3)) : BitVec 32) 0#32 = 1#1) := fun h => hf1 ((cond_full (bwd c 3)).mp h)
      have k0_h48 := (cond_small (bwd c 3)).mpr hf1
      simp only [dif_pos k0_h46, dif_neg k0_h47, dif_pos k0_h48, semSignalWord, semWaitWord, Prog.lift, Prog.bind_op, Prog.bind_ret, Prog.pure_eq_ret, Prog.bind_assoc]
      rw [Mid_neg hf0]
      refine wait_step (1, 2, 1) (by decide) (sAt_orecv 2 1 _) (by exact NO_small hf0) ?_
      refine slot_o 2 1 (by simp) ?_
      refine wait_step (1, 3, 1) (by decide) (sAt_orecv 3 1 _) (by exact NO_small hf1) ?_
      refine slot_o 3 1 (by simp) ?_
      exact ret_step hk

theorem part38 {Q : (Σ' (v839 : FVec F S128x256 .f32), BitVec 32) → sProp 𝕄} {wt wd : List Ky} {A : sProp 𝕄} {R : sProp 𝕄} {v432 : BitVec 32} {v449 : BitVec 32}
    (hk : Mid (bwd c 5) (St I K c [] ((1, 5, 1) :: wt) ((1, 4, 1) :: wd) A R) (St I K c [] wt ((1, 5, 1) :: (1, 4, 1) :: wd) A R) ⊢ Q ⟨(k0_pay69 (k0_pay68 (k0_pay67 (k0_pay66 (oSlot I c 0 1)) (oSlot I c 1 1)) (oSlot I c 2 1) (oSlot I c 3 1)) (oSlot I c 4 1)), (Scalar.extui (Scalar.xori (w3 (bwd c 5)) 1#1))⟩) :
    St I K c [] ((1, 4, 1) :: (1, 5, 1) :: wt) wd A R
      ⊢ Wp (F := F) c (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v432 v449 (k0_pay68 (k0_pay67 (k0_pay66 (oSlot I c 0 1)) (oSlot I c 1 1)) (oSlot I c 2 1) (oSlot I c 3 1)) (w3 (bwd c 4))) Q := by
  rw [k0_part38_eq_skeleton]; unfold k0_part38_skel
  simp only [recv_w3 c 5 5#32 rfl]
  by_cases hf0 : full (bwd c 4) = true
  · by_cases hf1 : full (bwd c 5) = true
    · have k0_h49 := (cond_full (bwd c 4)).mpr hf0
      have k0_h50 : ¬ (Scalar.cmpi .ne (Scalar.extui (Scalar.xori (w3 (bwd c 4)) 1#1) : BitVec 32) 0#32 = 1#1) := fun h => (cond_small (bwd c 4)).mp h hf0
      have k0_h51 := (cond_full (bwd c 5)).mpr hf1
      simp only [dif_pos k0_h49, dif_neg k0_h50, dif_pos k0_h51, semSignalWord, semWaitWord, Prog.lift, Prog.bind_op, Prog.bind_ret, Prog.pure_eq_ret, Prog.bind_assoc]
      refine wait_step (1, 4, 1) (by decide) (sAt_orecv 4 1 _) (by exact NO_full hf0) ?_
      refine slot_o 4 1 (by simp) ?_
      refine wait_step (1, 5, 1) (by decide) (sAt_orecv 5 1 _) (by exact NO_full hf1) ?_
      exact ret_step (mid_pos hf1 hk)
    · have k0_h49 := (cond_full (bwd c 4)).mpr hf0
      have k0_h50 : ¬ (Scalar.cmpi .ne (Scalar.extui (Scalar.xori (w3 (bwd c 4)) 1#1) : BitVec 32) 0#32 = 1#1) := fun h => (cond_small (bwd c 4)).mp h hf0
      have k0_h51 : ¬ (Scalar.cmpi .ne (Scalar.extui (w3 (bwd c 5)) : BitVec 32) 0#32 = 1#1) := fun h => hf1 ((cond_full (bwd c 5)).mp h)
      simp only [dif_pos k0_h49, dif_neg k0_h50, dif_neg k0_h51, semSignalWord, semWaitWord, Prog.lift, Prog.bind_op, Prog.bind_ret, Prog.pure_eq_ret, Prog.bind_assoc]
      refine wait_step (1, 4, 1) (by decide) (sAt_orecv 4 1 _) (by exact NO_full hf0) ?_
      refine slot_o 4 1 (by simp) ?_
      exact ret_step (mid_neg hf1 hk)
  · by_cases hf1 : full (bwd c 5) = true
    · have k0_h49 : ¬ (Scalar.cmpi .ne (Scalar.extui (w3 (bwd c 4)) : BitVec 32) 0#32 = 1#1) := fun h => hf0 ((cond_full (bwd c 4)).mp h)
      have k0_h50 := (cond_small (bwd c 4)).mpr hf0
      have k0_h51 := (cond_full (bwd c 5)).mpr hf1
      simp only [dif_neg k0_h49, dif_pos k0_h50, dif_pos k0_h51, semSignalWord, semWaitWord, Prog.lift, Prog.bind_op, Prog.bind_ret, Prog.pure_eq_ret, Prog.bind_assoc]
      refine wait_step (1, 4, 1) (by decide) (sAt_orecv 4 1 _) (by exact NO_small hf0) ?_
      refine slot_o 4 1 (by simp) ?_
      refine wait_step (1, 5, 1) (by decide) (sAt_orecv 5 1 _) (by exact NO_full hf1) ?_
      exact ret_step (mid_pos hf1 hk)
    · have k0_h49 : ¬ (Scalar.cmpi .ne (Scalar.extui (w3 (bwd c 4)) : BitVec 32) 0#32 = 1#1) := fun h => hf0 ((cond_full (bwd c 4)).mp h)
      have k0_h50 := (cond_small (bwd c 4)).mpr hf0
      have k0_h51 : ¬ (Scalar.cmpi .ne (Scalar.extui (w3 (bwd c 5)) : BitVec 32) 0#32 = 1#1) := fun h => hf1 ((cond_full (bwd c 5)).mp h)
      simp only [dif_neg k0_h49, dif_pos k0_h50, dif_neg k0_h51, semSignalWord, semWaitWord, Prog.lift, Prog.bind_op, Prog.bind_ret, Prog.pure_eq_ret, Prog.bind_assoc]
      refine wait_step (1, 4, 1) (by decide) (sAt_orecv 4 1 _) (by exact NO_small hf0) ?_
      refine slot_o 4 1 (by simp) ?_
      exact ret_step (mid_neg hf1 hk)

theorem part39 {Q : (Σ' (v865 : FVec F S128x256 .f32), BitVec 32) → sProp 𝕄} {wt wd : List Ky} {A : sProp 𝕄} {R : sProp 𝕄} {v449 : BitVec 32} {v466 : BitVec 32}
    (hk : St I K c [] wt ((1, 6, 1) :: (1, 5, 1) :: wd) A R ⊢ Q ⟨(oSum1 I c), (Scalar.subi (w2 c) 7#32)⟩) :
    Mid (bwd c 5) (St I K c [] ((1, 5, 1) :: (1, 6, 1) :: wt) wd A R) (St I K c [] ((1, 6, 1) :: wt) ((1, 5, 1) :: wd) A R)
      ⊢ Wp (F := F) c (k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w2 c) v449 v466 (k0_pay69 (k0_pay68 (k0_pay67 (k0_pay66 (oSlot I c 0 1)) (oSlot I c 1 1)) (oSlot I c 2 1) (oSlot I c 3 1)) (oSlot I c 4 1)) (Scalar.extui (Scalar.xori (w3 (bwd c 5)) 1#1))) Q := by
  rw [k0_part39_eq_skeleton]; unfold k0_part39_skel
  simp only [recv_w3 c 6 6#32 rfl]
  by_cases hf0 : full (bwd c 5) = true
  · by_cases hf1 : full (bwd c 6) = true
    · have k0_h52 : ¬ (Scalar.cmpi .ne (Scalar.extui (Scalar.xori (w3 (bwd c 5)) 1#1) : BitVec 32) 0#32 = 1#1) := fun h => (cond_small (bwd c 5)).mp h hf0
      have k0_h53 := (cond_full (bwd c 6)).mpr hf1
      have k0_h54 : ¬ (Scalar.cmpi .ne (Scalar.extui (Scalar.xori (w3 (bwd c 6)) 1#1) : BitVec 32) 0#32 = 1#1) := fun h => (cond_small (bwd c 6)).mp h hf1
      simp only [dif_neg k0_h52, dif_pos k0_h53, dif_neg k0_h54, semSignalWord, semWaitWord, Prog.lift, Prog.bind_op, Prog.bind_ret, Prog.pure_eq_ret, Prog.bind_assoc]
      rw [Mid_pos hf0]
      refine slot_o 5 1 (by simp) ?_
      refine wait_step (1, 6, 1) (by decide) (sAt_orecv 6 1 _) (by exact NO_full hf1) ?_
      refine slot_o 6 1 (by simp) ?_
      exact ret_step hk
    · have k0_h52 : ¬ (Scalar.cmpi .ne (Scalar.extui (Scalar.xori (w3 (bwd c 5)) 1#1) : BitVec 32) 0#32 = 1#1) := fun h => (cond_small (bwd c 5)).mp h hf0
      have k0_h53 : ¬ (Scalar.cmpi .ne (Scalar.extui (w3 (bwd c 6)) : BitVec 32) 0#32 = 1#1) := fun h => hf1 ((cond_full (bwd c 6)).mp h)
      have k0_h54 := (cond_small (bwd c 6)).mpr hf1
      simp only [dif_neg k0_h52, dif_neg k0_h53, dif_pos k0_h54, semSignalWord, semWaitWord, Prog.lift, Prog.bind_op, Prog.bind_ret, Prog.pure_eq_ret, Prog.bind_assoc]
      rw [Mid_pos hf0]
      refine slot_o 5 1 (by simp) ?_
      refine wait_step (1, 6, 1) (by decide) (sAt_orecv 6 1 _) (by exact NO_small hf1) ?_
      refine slot_o 6 1 (by simp) ?_
      exact ret_step hk
  · by_cases hf1 : full (bwd c 6) = true
    · have k0_h52 := (cond_small (bwd c 5)).mpr hf0
      have k0_h53 := (cond_full (bwd c 6)).mpr hf1
      have k0_h54 : ¬ (Scalar.cmpi .ne (Scalar.extui (Scalar.xori (w3 (bwd c 6)) 1#1) : BitVec 32) 0#32 = 1#1) := fun h => (cond_small (bwd c 6)).mp h hf1
      simp only [dif_pos k0_h52, dif_pos k0_h53, dif_neg k0_h54, semSignalWord, semWaitWord, Prog.lift, Prog.bind_op, Prog.bind_ret, Prog.pure_eq_ret, Prog.bind_assoc]
      rw [Mid_neg hf0]
      refine wait_step (1, 5, 1) (by decide) (sAt_orecv 5 1 _) (by exact NO_small hf0) ?_
      refine slot_o 5 1 (by simp) ?_
      refine wait_step (1, 6, 1) (by decide) (sAt_orecv 6 1 _) (by exact NO_full hf1) ?_
      refine slot_o 6 1 (by simp) ?_
      exact ret_step hk
    · have k0_h52 := (cond_small (bwd c 5)).mpr hf0
      have k0_h53 : ¬ (Scalar.cmpi .ne (Scalar.extui (w3 (bwd c 6)) : BitVec 32) 0#32 = 1#1) := fun h => hf1 ((cond_full (bwd c 6)).mp h)
      have k0_h54 := (cond_small (bwd c 6)).mpr hf1
      simp only [dif_pos k0_h52, dif_neg k0_h53, dif_pos k0_h54, semSignalWord, semWaitWord, Prog.lift, Prog.bind_op, Prog.bind_ret, Prog.pure_eq_ret, Prog.bind_assoc]
      rw [Mid_neg hf0]
      refine wait_step (1, 5, 1) (by decide) (sAt_orecv 5 1 _) (by exact NO_small hf0) ?_
      refine slot_o 5 1 (by simp) ?_
      refine wait_step (1, 6, 1) (by decide) (sAt_orecv 6 1 _) (by exact NO_small hf1) ?_
      refine slot_o 6 1 (by simp) ?_
      exact ret_step hk

theorem part40 {Q : (PUnit) → sProp 𝕄} {wt wd : List Ky} {A : sProp 𝕄} {R : sProp 𝕄} {v483 : BitVec 32}
    (hk : St I K c [] wt ((1, 7, 1) :: wd) A iprop(outPts c (outAt I c) ∗ R) ⊢ Q ⟨⟩) :
    St I K c [] ((1, 7, 1) :: wt) wd A iprop((∃ f, outPts c f) ∗ R)
      ⊢ Wp (F := F) c (k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 v483 headMap (ctx0 I c) (lSum1 I c) (oSum1 I c) (Scalar.subi (w2 c) 7#32)) Q := by
  rw [k0_part40_eq_skeleton]; unfold k0_part40_skel
  simp only [recv_w3 c 7 7#32 rfl]
  by_cases hf0 : full (bwd c 7) = true
  · have k0_h55 := (cond_full (bwd c 7)).mpr hf0
    have k0_h56 : ¬ (Scalar.cmpi .ne (Scalar.extui (Scalar.xori (w3 (bwd c 7)) 1#1) : BitVec 32) 0#32 = 1#1) := fun h => (cond_small (bwd c 7)).mp h hf0
    simp only [dif_pos k0_h55, dif_neg k0_h56, semSignalWord, semWaitWord, Prog.lift, Prog.bind_op, Prog.bind_ret, Prog.pure_eq_ret, Prog.bind_assoc]
    refine wait_step (1, 7, 1) (by decide) (sAt_orecv 7 1 _) (by exact NO_full hf0) ?_
    refine slot_o 7 1 (by simp) ?_
    refine ins_load _ (I.wo c) (ins4 I c) (Memref.readAt_unit_zero (Elt F) cc0_stg4_0 (by decide) _ _) ?_
    refine out_load fun _ => ?_
    refine out_store (X := outAt I c) (fun f => Memref.write_access_unit_zero_univ (Elt F) cc0_stg5_0 (by decide) _ f _) ?_
    exact ret_step hk
  · have k0_h55 : ¬ (Scalar.cmpi .ne (Scalar.extui (w3 (bwd c 7)) : BitVec 32) 0#32 = 1#1) := fun h => hf0 ((cond_full (bwd c 7)).mp h)
    have k0_h56 := (cond_small (bwd c 7)).mpr hf0
    simp only [dif_neg k0_h55, dif_pos k0_h56, semSignalWord, semWaitWord, Prog.lift, Prog.bind_op, Prog.bind_ret, Prog.pure_eq_ret, Prog.bind_assoc]
    refine wait_step (1, 7, 1) (by decide) (sAt_orecv 7 1 _) (by exact NO_small hf0) ?_
    refine slot_o 7 1 (by simp) ?_
    refine ins_load _ (I.wo c) (ins4 I c) (Memref.readAt_unit_zero (Elt F) cc0_stg4_0 (by decide) _ _) ?_
    refine out_load fun _ => ?_
    refine out_store (X := outAt I c) (fun f => Memref.write_access_unit_zero_univ (Elt F) cc0_stg5_0 (by decide) _ f _) ?_
    exact ret_step hk

theorem part41 {Q : (PUnit) → sProp 𝕄} {wt wd : List Ky} {A : sProp 𝕄} {R : sProp 𝕄}
    (hk : St I K c [] wt ((0, 1, 0) :: (2, 1, 0) :: wd) A R ⊢ Q ⟨⟩) :
    St I K c [] ((2, 1, 0) :: (0, 1, 0) :: wt) wd A R
      ⊢ Wp (F := F) c (k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c)) Q := by
  rw [k0_part41_eq_skeleton]; unfold k0_part41_skel
  by_cases hf0 : full c = true
  · have k0_h57 := (cond_full c).mpr hf0
    have k0_h58 : ¬ (Scalar.cmpi .ne (Scalar.extui (Scalar.xori (w3 c) 1#1) : BitVec 32) 0#32 = 1#1) := fun h => (cond_small c).mp h hf0
    simp only [dif_pos k0_h57, dif_neg k0_h58, semSignalWord, semWaitWord, Prog.lift, Prog.bind_op, Prog.bind_ret, Prog.pure_eq_ret, Prog.bind_assoc]
    refine wait_step (2, 1, 0) (by decide) (sAt_tsend 1 0 _) (by exact rfl) ?_
    refine wait_step (0, 1, 0) (by decide) (sAt_osend 1 0 _) (by exact NO_full hf0) ?_
    exact ret_step hk
  · have k0_h57 : ¬ (Scalar.cmpi .ne (Scalar.extui (w3 c) : BitVec 32) 0#32 = 1#1) := fun h => hf0 ((cond_full c).mp h)
    have k0_h58 := (cond_small c).mpr hf0
    simp only [dif_neg k0_h57, dif_pos k0_h58, semSignalWord, semWaitWord, Prog.lift, Prog.bind_op, Prog.bind_ret, Prog.pure_eq_ret, Prog.bind_assoc]
    refine wait_step (2, 1, 0) (by decide) (sAt_tsend 1 0 _) (by exact rfl) ?_
    refine wait_step (0, 1, 0) (by decide) (sAt_osend 1 0 _) (by exact NO_small hf0) ?_
    exact ret_step hk

theorem part42 {Q : (BitVec 32) → sProp 𝕄} {wt wd : List Ky} {A : sProp 𝕄} {R : sProp 𝕄}
    (hk : St I K c [] wt ((2, 3, 0) :: (0, 2, 0) :: (2, 2, 0) :: wd) A R ⊢ Q (Scalar.extui (w3 c))) :
    St I K c [] ((2, 2, 0) :: (0, 2, 0) :: (2, 3, 0) :: wt) wd A R
      ⊢ Wp (F := F) c (k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c)) Q := by
  rw [k0_part42_eq_skeleton]; unfold k0_part42_skel
  by_cases hf0 : full c = true
  · have k0_h59 := (cond_full c).mpr hf0
    have k0_h60 : ¬ (Scalar.cmpi .ne (Scalar.extui (Scalar.xori (w3 c) 1#1) : BitVec 32) 0#32 = 1#1) := fun h => (cond_small c).mp h hf0
    simp only [dif_pos k0_h59, dif_neg k0_h60, semSignalWord, semWaitWord, Prog.lift, Prog.bind_op, Prog.bind_ret, Prog.pure_eq_ret, Prog.bind_assoc]
    refine wait_step (2, 2, 0) (by decide) (sAt_tsend 2 0 _) (by exact rfl) ?_
    refine wait_step (0, 2, 0) (by decide) (sAt_osend 2 0 _) (by exact NO_full hf0) ?_
    refine wait_step (2, 3, 0) (by decide) (sAt_tsend 3 0 _) (by exact rfl) ?_
    exact ret_step hk
  · have k0_h59 : ¬ (Scalar.cmpi .ne (Scalar.extui (w3 c) : BitVec 32) 0#32 = 1#1) := fun h => hf0 ((cond_full c).mp h)
    have k0_h60 := (cond_small c).mpr hf0
    simp only [dif_neg k0_h59, dif_pos k0_h60, semSignalWord, semWaitWord, Prog.lift, Prog.bind_op, Prog.bind_ret, Prog.pure_eq_ret, Prog.bind_assoc]
    refine wait_step (2, 2, 0) (by decide) (sAt_tsend 2 0 _) (by exact rfl) ?_
    refine wait_step (0, 2, 0) (by decide) (sAt_osend 2 0 _) (by exact NO_small hf0) ?_
    refine wait_step (2, 3, 0) (by decide) (sAt_tsend 3 0 _) (by exact rfl) ?_
    exact ret_step hk

theorem part43 {Q : (BitVec 32) → sProp 𝕄} {wt wd : List Ky} {A : sProp 𝕄} {R : sProp 𝕄}
    (hk : Mid c (St I K c [] ((0, 4, 0) :: wt) ((2, 4, 0) :: (0, 3, 0) :: wd) A R) (St I K c [] wt ((0, 4, 0) :: (2, 4, 0) :: (0, 3, 0) :: wd) A R) ⊢ Q (Scalar.extui (Scalar.xori (w3 c) 1#1))) :
    St I K c [] ((0, 3, 0) :: (2, 4, 0) :: (0, 4, 0) :: wt) wd A R
      ⊢ Wp (F := F) c (k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c) (Scalar.extui (w3 c))) Q := by
  rw [k0_part43_eq_skeleton]; unfold k0_part43_skel
  by_cases hf0 : full c = true
  · have k0_h61 := (cond_full c).mpr hf0
    have k0_h62 : ¬ (Scalar.cmpi .ne (Scalar.extui (Scalar.xori (w3 c) 1#1) : BitVec 32) 0#32 = 1#1) := fun h => (cond_small c).mp h hf0
    have k0_h63 := (cond_full c).mpr hf0
    simp only [dif_pos k0_h61, dif_neg k0_h62, dif_pos k0_h63, semSignalWord, semWaitWord, Prog.lift, Prog.bind_op, Prog.bind_ret, Prog.pure_eq_ret, Prog.bind_assoc]
    refine wait_step (0, 3, 0) (by decide) (sAt_osend 3 0 _) (by exact NO_full hf0) ?_
    refine wait_step (2, 4, 0) (by decide) (sAt_tsend 4 0 _) (by exact rfl) ?_
    refine wait_step (0, 4, 0) (by decide) (sAt_osend 4 0 _) (by exact NO_full hf0) ?_
    exact ret_step (mid_pos hf0 hk)
  · have k0_h61 : ¬ (Scalar.cmpi .ne (Scalar.extui (w3 c) : BitVec 32) 0#32 = 1#1) := fun h => hf0 ((cond_full c).mp h)
    have k0_h62 := (cond_small c).mpr hf0
    have k0_h63 : ¬ (Scalar.cmpi .ne (Scalar.extui (w3 c) : BitVec 32) 0#32 = 1#1) := fun h => hf0 ((cond_full c).mp h)
    simp only [dif_neg k0_h61, dif_pos k0_h62, dif_neg k0_h63, semSignalWord, semWaitWord, Prog.lift, Prog.bind_op, Prog.bind_ret, Prog.pure_eq_ret, Prog.bind_assoc]
    refine wait_step (0, 3, 0) (by decide) (sAt_osend 3 0 _) (by exact NO_small hf0) ?_
    refine wait_step (2, 4, 0) (by decide) (sAt_tsend 4 0 _) (by exact rfl) ?_
    exact ret_step (mid_neg hf0 hk)

theorem part44 {Q : (PUnit) → sProp 𝕄} {wt wd : List Ky} {A : sProp 𝕄} {R : sProp 𝕄}
    (hk : St I K c [] wt ((0, 5, 0) :: (2, 5, 0) :: (0, 4, 0) :: wd) A R ⊢ Q ⟨⟩) :
    Mid c (St I K c [] ((0, 4, 0) :: (2, 5, 0) :: (0, 5, 0) :: wt) wd A R) (St I K c [] ((2, 5, 0) :: (0, 5, 0) :: wt) ((0, 4, 0) :: wd) A R)
      ⊢ Wp (F := F) c (k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c) (Scalar.extui (Scalar.xori (w3 c) 1#1))) Q := by
  rw [k0_part44_eq_skeleton]; unfold k0_part44_skel
  by_cases hf0 : full c = true
  · have k0_h64 : ¬ (Scalar.cmpi .ne (Scalar.extui (Scalar.xori (w3 c) 1#1) : BitVec 32) 0#32 = 1#1) := fun h => (cond_small c).mp h hf0
    have k0_h65 := (cond_full c).mpr hf0
    have k0_h66 : ¬ (Scalar.cmpi .ne (Scalar.extui (Scalar.xori (w3 c) 1#1) : BitVec 32) 0#32 = 1#1) := fun h => (cond_small c).mp h hf0
    simp only [dif_neg k0_h64, dif_pos k0_h65, dif_neg k0_h66, semSignalWord, semWaitWord, Prog.lift, Prog.bind_op, Prog.bind_ret, Prog.pure_eq_ret, Prog.bind_assoc]
    rw [Mid_pos hf0]
    refine wait_step (2, 5, 0) (by decide) (sAt_tsend 5 0 _) (by exact rfl) ?_
    refine wait_step (0, 5, 0) (by decide) (sAt_osend 5 0 _) (by exact NO_full hf0) ?_
    exact ret_step hk
  · have k0_h64 := (cond_small c).mpr hf0
    have k0_h65 : ¬ (Scalar.cmpi .ne (Scalar.extui (w3 c) : BitVec 32) 0#32 = 1#1) := fun h => hf0 ((cond_full c).mp h)
    have k0_h66 := (cond_small c).mpr hf0
    simp only [dif_pos k0_h64, dif_neg k0_h65, dif_pos k0_h66, semSignalWord, semWaitWord, Prog.lift, Prog.bind_op, Prog.bind_ret, Prog.pure_eq_ret, Prog.bind_assoc]
    rw [Mid_neg hf0]
    refine wait_step (0, 4, 0) (by decide) (sAt_osend 4 0 _) (by exact NO_small hf0) ?_
    refine wait_step (2, 5, 0) (by decide) (sAt_tsend 5 0 _) (by exact rfl) ?_
    refine wait_step (0, 5, 0) (by decide) (sAt_osend 5 0 _) (by exact NO_small hf0) ?_
    exact ret_step hk

theorem part45 {Q : (BitVec 32) → sProp 𝕄} {wt wd : List Ky} {A : sProp 𝕄} {R : sProp 𝕄}
    (hk : St I K c [] wt ((2, 7, 0) :: (0, 6, 0) :: (2, 6, 0) :: wd) A R ⊢ Q (Scalar.extui (w3 c))) :
    St I K c [] ((2, 6, 0) :: (0, 6, 0) :: (2, 7, 0) :: wt) wd A R
      ⊢ Wp (F := F) c (k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c)) Q := by
  rw [k0_part45_eq_skeleton]; unfold k0_part45_skel
  by_cases hf0 : full c = true
  · have k0_h67 := (cond_full c).mpr hf0
    have k0_h68 : ¬ (Scalar.cmpi .ne (Scalar.extui (Scalar.xori (w3 c) 1#1) : BitVec 32) 0#32 = 1#1) := fun h => (cond_small c).mp h hf0
    simp only [dif_pos k0_h67, dif_neg k0_h68, semSignalWord, semWaitWord, Prog.lift, Prog.bind_op, Prog.bind_ret, Prog.pure_eq_ret, Prog.bind_assoc]
    refine wait_step (2, 6, 0) (by decide) (sAt_tsend 6 0 _) (by exact rfl) ?_
    refine wait_step (0, 6, 0) (by decide) (sAt_osend 6 0 _) (by exact NO_full hf0) ?_
    refine wait_step (2, 7, 0) (by decide) (sAt_tsend 7 0 _) (by exact rfl) ?_
    exact ret_step hk
  · have k0_h67 : ¬ (Scalar.cmpi .ne (Scalar.extui (w3 c) : BitVec 32) 0#32 = 1#1) := fun h => hf0 ((cond_full c).mp h)
    have k0_h68 := (cond_small c).mpr hf0
    simp only [dif_neg k0_h67, dif_pos k0_h68, semSignalWord, semWaitWord, Prog.lift, Prog.bind_op, Prog.bind_ret, Prog.pure_eq_ret, Prog.bind_assoc]
    refine wait_step (2, 6, 0) (by decide) (sAt_tsend 6 0 _) (by exact rfl) ?_
    refine wait_step (0, 6, 0) (by decide) (sAt_osend 6 0 _) (by exact NO_small hf0) ?_
    refine wait_step (2, 7, 0) (by decide) (sAt_tsend 7 0 _) (by exact rfl) ?_
    exact ret_step hk

theorem part46 {Q : (BitVec 32) → sProp 𝕄} {wt wd : List Ky} {A : sProp 𝕄} {R : sProp 𝕄}
    (hk : Mid c (St I K c [] ((0, 1, 1) :: wt) ((2, 1, 1) :: (0, 7, 0) :: wd) A R) (St I K c [] wt ((0, 1, 1) :: (2, 1, 1) :: (0, 7, 0) :: wd) A R) ⊢ Q (Scalar.extui (Scalar.xori (w3 c) 1#1))) :
    St I K c [] ((0, 7, 0) :: (2, 1, 1) :: (0, 1, 1) :: wt) wd A R
      ⊢ Wp (F := F) c (k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c) (Scalar.extui (w3 c))) Q := by
  rw [k0_part46_eq_skeleton]; unfold k0_part46_skel
  by_cases hf0 : full c = true
  · have k0_h69 := (cond_full c).mpr hf0
    have k0_h70 : ¬ (Scalar.cmpi .ne (Scalar.extui (Scalar.xori (w3 c) 1#1) : BitVec 32) 0#32 = 1#1) := fun h => (cond_small c).mp h hf0
    have k0_h71 := (cond_full c).mpr hf0
    simp only [dif_pos k0_h69, dif_neg k0_h70, dif_pos k0_h71, semSignalWord, semWaitWord, Prog.lift, Prog.bind_op, Prog.bind_ret, Prog.pure_eq_ret, Prog.bind_assoc]
    refine wait_step (0, 7, 0) (by decide) (sAt_osend 7 0 _) (by exact NO_full hf0) ?_
    refine wait_step (2, 1, 1) (by decide) (sAt_tsend 1 1 _) (by exact rfl) ?_
    refine wait_step (0, 1, 1) (by decide) (sAt_osend 1 1 _) (by exact NO_full hf0) ?_
    exact ret_step (mid_pos hf0 hk)
  · have k0_h69 : ¬ (Scalar.cmpi .ne (Scalar.extui (w3 c) : BitVec 32) 0#32 = 1#1) := fun h => hf0 ((cond_full c).mp h)
    have k0_h70 := (cond_small c).mpr hf0
    have k0_h71 : ¬ (Scalar.cmpi .ne (Scalar.extui (w3 c) : BitVec 32) 0#32 = 1#1) := fun h => hf0 ((cond_full c).mp h)
    simp only [dif_neg k0_h69, dif_pos k0_h70, dif_neg k0_h71, semSignalWord, semWaitWord, Prog.lift, Prog.bind_op, Prog.bind_ret, Prog.pure_eq_ret, Prog.bind_assoc]
    refine wait_step (0, 7, 0) (by decide) (sAt_osend 7 0 _) (by exact NO_small hf0) ?_
    refine wait_step (2, 1, 1) (by decide) (sAt_tsend 1 1 _) (by exact rfl) ?_
    exact ret_step (mid_neg hf0 hk)

theorem part47 {Q : (PUnit) → sProp 𝕄} {wt wd : List Ky} {A : sProp 𝕄} {R : sProp 𝕄}
    (hk : St I K c [] wt ((0, 2, 1) :: (2, 2, 1) :: (0, 1, 1) :: wd) A R ⊢ Q ⟨⟩) :
    Mid c (St I K c [] ((0, 1, 1) :: (2, 2, 1) :: (0, 2, 1) :: wt) wd A R) (St I K c [] ((2, 2, 1) :: (0, 2, 1) :: wt) ((0, 1, 1) :: wd) A R)
      ⊢ Wp (F := F) c (k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c) (Scalar.extui (Scalar.xori (w3 c) 1#1))) Q := by
  rw [k0_part47_eq_skeleton]; unfold k0_part47_skel
  by_cases hf0 : full c = true
  · have k0_h72 : ¬ (Scalar.cmpi .ne (Scalar.extui (Scalar.xori (w3 c) 1#1) : BitVec 32) 0#32 = 1#1) := fun h => (cond_small c).mp h hf0
    have k0_h73 := (cond_full c).mpr hf0
    have k0_h74 : ¬ (Scalar.cmpi .ne (Scalar.extui (Scalar.xori (w3 c) 1#1) : BitVec 32) 0#32 = 1#1) := fun h => (cond_small c).mp h hf0
    simp only [dif_neg k0_h72, dif_pos k0_h73, dif_neg k0_h74, semSignalWord, semWaitWord, Prog.lift, Prog.bind_op, Prog.bind_ret, Prog.pure_eq_ret, Prog.bind_assoc]
    rw [Mid_pos hf0]
    refine wait_step (2, 2, 1) (by decide) (sAt_tsend 2 1 _) (by exact rfl) ?_
    refine wait_step (0, 2, 1) (by decide) (sAt_osend 2 1 _) (by exact NO_full hf0) ?_
    exact ret_step hk
  · have k0_h72 := (cond_small c).mpr hf0
    have k0_h73 : ¬ (Scalar.cmpi .ne (Scalar.extui (w3 c) : BitVec 32) 0#32 = 1#1) := fun h => hf0 ((cond_full c).mp h)
    have k0_h74 := (cond_small c).mpr hf0
    simp only [dif_pos k0_h72, dif_neg k0_h73, dif_pos k0_h74, semSignalWord, semWaitWord, Prog.lift, Prog.bind_op, Prog.bind_ret, Prog.pure_eq_ret, Prog.bind_assoc]
    rw [Mid_neg hf0]
    refine wait_step (0, 1, 1) (by decide) (sAt_osend 1 1 _) (by exact NO_small hf0) ?_
    refine wait_step (2, 2, 1) (by decide) (sAt_tsend 2 1 _) (by exact rfl) ?_
    refine wait_step (0, 2, 1) (by decide) (sAt_osend 2 1 _) (by exact NO_small hf0) ?_
    exact ret_step hk

theorem part48 {Q : (PUnit) → sProp 𝕄} {wt wd : List Ky} {A : sProp 𝕄} {R : sProp 𝕄}
    (hk : St I K c [] wt ((2, 4, 1) :: (0, 3, 1) :: (2, 3, 1) :: wd) A R ⊢ Q ⟨⟩) :
    St I K c [] ((2, 3, 1) :: (0, 3, 1) :: (2, 4, 1) :: wt) wd A R
      ⊢ Wp (F := F) c (k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c)) Q := by
  rw [k0_part48_eq_skeleton]; unfold k0_part48_skel
  by_cases hf0 : full c = true
  · have k0_h75 := (cond_full c).mpr hf0
    have k0_h76 : ¬ (Scalar.cmpi .ne (Scalar.extui (Scalar.xori (w3 c) 1#1) : BitVec 32) 0#32 = 1#1) := fun h => (cond_small c).mp h hf0
    simp only [dif_pos k0_h75, dif_neg k0_h76, semSignalWord, semWaitWord, Prog.lift, Prog.bind_op, Prog.bind_ret, Prog.pure_eq_ret, Prog.bind_assoc]
    refine wait_step (2, 3, 1) (by decide) (sAt_tsend 3 1 _) (by exact rfl) ?_
    refine wait_step (0, 3, 1) (by decide) (sAt_osend 3 1 _) (by exact NO_full hf0) ?_
    refine wait_step (2, 4, 1) (by decide) (sAt_tsend 4 1 _) (by exact rfl) ?_
    exact ret_step hk
  · have k0_h75 : ¬ (Scalar.cmpi .ne (Scalar.extui (w3 c) : BitVec 32) 0#32 = 1#1) := fun h => hf0 ((cond_full c).mp h)
    have k0_h76 := (cond_small c).mpr hf0
    simp only [dif_neg k0_h75, dif_pos k0_h76, semSignalWord, semWaitWord, Prog.lift, Prog.bind_op, Prog.bind_ret, Prog.pure_eq_ret, Prog.bind_assoc]
    refine wait_step (2, 3, 1) (by decide) (sAt_tsend 3 1 _) (by exact rfl) ?_
    refine wait_step (0, 3, 1) (by decide) (sAt_osend 3 1 _) (by exact NO_small hf0) ?_
    refine wait_step (2, 4, 1) (by decide) (sAt_tsend 4 1 _) (by exact rfl) ?_
    exact ret_step hk

theorem part49 {Q : (BitVec 1) → sProp 𝕄} {wt wd : List Ky} {A : sProp 𝕄} {R : sProp 𝕄}
    (hk : Mid c (St I K c [] ((0, 5, 1) :: wt) ((2, 5, 1) :: (0, 4, 1) :: wd) A R) (St I K c [] wt ((0, 5, 1) :: (2, 5, 1) :: (0, 4, 1) :: wd) A R) ⊢ Q (Scalar.xori (w3 c) 1#1)) :
    St I K c [] ((0, 4, 1) :: (2, 5, 1) :: (0, 5, 1) :: wt) wd A R
      ⊢ Wp (F := F) c (k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c)) Q := by
  rw [k0_part49_eq_skeleton]; unfold k0_part49_skel
  by_cases hf0 : full c = true
  · have k0_h77 := (cond_full c).mpr hf0
    have k0_h78 : ¬ (Scalar.cmpi .ne (Scalar.extui (Scalar.xori (w3 c) 1#1) : BitVec 32) 0#32 = 1#1) := fun h => (cond_small c).mp h hf0
    have k0_h79 := (cond_full c).mpr hf0
    simp only [dif_pos k0_h77, dif_neg k0_h78, dif_pos k0_h79, semSignalWord, semWaitWord, Prog.lift, Prog.bind_op, Prog.bind_ret, Prog.pure_eq_ret, Prog.bind_assoc]
    refine wait_step (0, 4, 1) (by decide) (sAt_osend 4 1 _) (by exact NO_full hf0) ?_
    refine wait_step (2, 5, 1) (by decide) (sAt_tsend 5 1 _) (by exact rfl) ?_
    refine wait_step (0, 5, 1) (by decide) (sAt_osend 5 1 _) (by exact NO_full hf0) ?_
    exact ret_step (mid_pos hf0 hk)
  · have k0_h77 : ¬ (Scalar.cmpi .ne (Scalar.extui (w3 c) : BitVec 32) 0#32 = 1#1) := fun h => hf0 ((cond_full c).mp h)
    have k0_h78 := (cond_small c).mpr hf0
    have k0_h79 : ¬ (Scalar.cmpi .ne (Scalar.extui (w3 c) : BitVec 32) 0#32 = 1#1) := fun h => hf0 ((cond_full c).mp h)
    simp only [dif_neg k0_h77, dif_pos k0_h78, dif_neg k0_h79, semSignalWord, semWaitWord, Prog.lift, Prog.bind_op, Prog.bind_ret, Prog.pure_eq_ret, Prog.bind_assoc]
    refine wait_step (0, 4, 1) (by decide) (sAt_osend 4 1 _) (by exact NO_small hf0) ?_
    refine wait_step (2, 5, 1) (by decide) (sAt_tsend 5 1 _) (by exact rfl) ?_
    exact ret_step (mid_neg hf0 hk)

theorem part50 {Q : (PUnit) → sProp 𝕄} {wt wd : List Ky} {A : sProp 𝕄} {R : sProp 𝕄}
    (hk : St I K c [] wt ((0, 6, 1) :: (2, 6, 1) :: (0, 5, 1) :: wd) A R ⊢ Q ⟨⟩) :
    Mid c (St I K c [] ((0, 5, 1) :: (2, 6, 1) :: (0, 6, 1) :: wt) wd A R) (St I K c [] ((2, 6, 1) :: (0, 6, 1) :: wt) ((0, 5, 1) :: wd) A R)
      ⊢ Wp (F := F) c (k0_part50 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5 (w3 c) (Scalar.xori (w3 c) 1#1)) Q := by
  rw [k0_part50_eq_skeleton]; unfold k0_part50_skel
  by_cases hf0 : full c = true
  · have k0_h80 : ¬ (Scalar.cmpi .ne (Scalar.extui (Scalar.xori (w3 c) 1#1) : BitVec 32) 0#32 = 1#1) := fun h => (cond_small c).mp h hf0
    have k0_h81 := (cond_full c).mpr hf0
    have k0_h82 : ¬ (Scalar.cmpi .ne (Scalar.extui (Scalar.xori (w3 c) 1#1) : BitVec 32) 0#32 = 1#1) := fun h => (cond_small c).mp h hf0
    simp only [dif_neg k0_h80, dif_pos k0_h81, dif_neg k0_h82, semSignalWord, semWaitWord, Prog.lift, Prog.bind_op, Prog.bind_ret, Prog.pure_eq_ret, Prog.bind_assoc]
    rw [Mid_pos hf0]
    refine wait_step (2, 6, 1) (by decide) (sAt_tsend 6 1 _) (by exact rfl) ?_
    refine wait_step (0, 6, 1) (by decide) (sAt_osend 6 1 _) (by exact NO_full hf0) ?_
    exact ret_step hk
  · have k0_h80 := (cond_small c).mpr hf0
    have k0_h81 : ¬ (Scalar.cmpi .ne (Scalar.extui (w3 c) : BitVec 32) 0#32 = 1#1) := fun h => hf0 ((cond_full c).mp h)
    have k0_h82 := (cond_small c).mpr hf0
    simp only [dif_pos k0_h80, dif_neg k0_h81, dif_pos k0_h82, semSignalWord, semWaitWord, Prog.lift, Prog.bind_op, Prog.bind_ret, Prog.pure_eq_ret, Prog.bind_assoc]
    rw [Mid_neg hf0]
    refine wait_step (0, 5, 1) (by decide) (sAt_osend 5 1 _) (by exact NO_small hf0) ?_
    refine wait_step (2, 6, 1) (by decide) (sAt_tsend 6 1 _) (by exact rfl) ?_
    refine wait_step (0, 6, 1) (by decide) (sAt_osend 6 1 _) (by exact NO_small hf0) ?_
    exact ret_step hk

end Cert.KernelIdealProof

end
-- ==== Proof.IdealBody.lean ====
module

public import proofs.«01_k».proof.Proof.IdealPartsB
public import proofs.«01_k».proof.Proof.IdealPartsC
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

set_option maxHeartbeats 1000000

variable {I : In F} {K : Dev nD × CK → ℕ} {c : Dev nD}

/-! ## Between the phases -/

theorem turn {l l' : List Item} {wt wd wt' : List Ky} {A R A' R' : sProp 𝕄} (hl : l = l') (hw : wt.Perm wt') (hn : wt.Nodup) (h : iprop(A ∗ R) ⊢ iprop(A' ∗ R')) :
    St I K c l wt wd A R ⊢ St I K c l' wt' wd A' R' := by
  subst hl
  unfold St
  rw [← bigSep_eq_bigSepL_of_eq wt rfl hn (wPre I c), bigSep_eq_bigSepL_of_eq wt' (List.toFinset_eq_of_perm _ _ hw) (hw.nodup_iff.mp hn) (wPre I c)]
  iintro ⟨HE, HO, HI, Hwt, Hwd, HA, HR⟩
  isplitl [HE]; · iexact HE
  isplitl [HO]; · iexact HO
  isplitl [HI]; · iexact HI
  isplitl [Hwt]; · iexact Hwt
  isplitl [Hwd]; · iexact Hwd
  iapply h
  isplitl [HA] <;> iassumption

theorem turnA {l l' : List Item} {wt wd : List Ky} {A R A' R' : sProp 𝕄} (hl : l = l') (h : iprop(A ∗ R) ⊢ iprop(A' ∗ R')) :
    St I K c l wt wd A R ⊢ St I K c l' wt wd A' R' := by
  subst hl
  unfold St
  iintro ⟨HE, HO, HI, Hwt, Hwd, HA, HR⟩
  isplitl [HE]; · iexact HE
  isplitl [HO]; · iexact HO
  isplitl [HI]; · iexact HI
  isplitl [Hwt]; · iexact Hwt
  isplitl [Hwd]; · iexact Hwd
  iapply h
  isplitl [HA] <;> iassumption

/-- The tokens and positions that sending index `s` of batch `b` takes; what it lands in comes with the barrier. -/
def pTok (c : Dev nD) (b : Fin 2) (s : Fin 8) : sProp 𝕄 :=
  iprop((dutyTok ER (cel c (some (2, s, b))) 0 0 ∗ dutyTok ER (cel (fwd c s) (some (3, s, b))) 0 0 ∗ atPos ER (cel c (some (2, s, b))) 0 ∅ 0)
    ∗ (dutyTok ER (cel c (some (0, s, b))) 0 0 ∗ dutyTok ER (cel (fwd c s) (some (1, s, b))) 0 0 ∗ atPos ER (cel c (some (0, s, b))) 0 ∅ 0))

theorem sendTok_one (s : Fin 8) :
    iprop(barPay (F := F) c s ∗ pTok c 0 s ∗ pTok c 1 s) ⊢ iprop((iTok c (.st s 0) ∗ iTok c (.ob s 0)) ∗ (iTok c (.st s 1) ∗ iTok c (.ob s 1))) := by
  rw [iTok_st, iTok_ob, iTok_st, iTok_ob]
  unfold barPay pTok
  iintro ⟨⟨Ho0, Ho1, Ht0, Ht1⟩, ⟨Ha0, Hb0⟩, ⟨Ha1, Hb1⟩⟩
  isplitl [Ho0 Ht0 Ha0 Hb0]
  · isplitl [Ht0 Ha0]
    · isplitl [Ht0] <;> iassumption
    · isplitl [Ho0] <;> iassumption
  · isplitl [Ht1 Ha1]
    · isplitl [Ht1] <;> iassumption
    · isplitl [Ho1] <;> iassumption

theorem sendTok_all : ∀ ss : List (Fin 8),
    iprop(bigSepL ss (fun s => barPay (F := F) c s) ∗ bigSepL ss (pTok c 0) ∗ bigSepL ss (pTok c 1))
      ⊢ iprop(bigSepL (ss.flatMap fun s => [.st s 0, .ob s 0]) (iTok c) ∗ bigSepL (ss.flatMap fun s => [.st s 1, .ob s 1]) (iTok c))
  | [] => by
    show iprop(bigSepL ([] : List (Fin 8)) (fun s => barPay (F := F) c s) ∗ bigSepL [] (pTok c 0) ∗ bigSepL [] (pTok c 1)) ⊢ iprop(bigSepL ([] : List Item) (iTok c) ∗ bigSepL ([] : List Item) (iTok c))
    iintro ⟨H, H1, H2⟩
    isplitl [H]; · iexact H
    iexact H1
  | s :: ss => by
    have ih := sendTok_all ss
    show iprop(bigSepL (s :: ss) (fun s => barPay (F := F) c s) ∗ bigSepL (s :: ss) (pTok c 0) ∗ bigSepL (s :: ss) (pTok c 1))
      ⊢ iprop(bigSepL (.st s 0 :: .ob s 0 :: ss.flatMap fun s => [.st s 0, .ob s 0]) (iTok c) ∗ bigSepL (.st s 1 :: .ob s 1 :: ss.flatMap fun s => [.st s 1, .ob s 1]) (iTok c))
    rw [bigSepL_cons', bigSepL_cons', bigSepL_cons', bigSepL_cons', bigSepL_cons', bigSepL_cons', bigSepL_cons']
    iintro ⟨⟨H1, Hs1⟩, ⟨H2, Hs2⟩, H3, Hs3⟩
    ihave H := (sendTok_one (c := c) s) $$ [H1 H2 H3]
    · isplitl [H1]; · iexact H1
      isplitl [H2] <;> iassumption
    icases H with ⟨⟨Ha, Hb⟩, Hc, Hd⟩
    ihave Hs := ih $$ [Hs1 Hs2 Hs3]
    · isplitl [Hs1]; · iexact Hs1
      isplitl [Hs2] <;> iassumption
    icases Hs with ⟨Hs0, Hs1⟩
    isplitl [Ha Hb Hs0]
    · isplitl [Ha]; · iexact Ha
      isplitl [Hb] <;> iassumption
    · isplitl [Hc]; · iexact Hc
      isplitl [Hd] <;> iassumption

/-- What the body holds besides the state: the signals' share, the own slots, the barrier's credit, the tokens, the result. -/
def rest1 (I : In F) (c : Dev nD) : sProp 𝕄 := iprop(own I c 1 0 ∗ bigSepL D7 (pTok c 0) ∗ bigSepL D7 (pTok c 1) ∗ (∃ f, outPts c f))
def rest0 (I : In F) (c : Dev nD) : sProp 𝕄 := iprop(bigSepL D7 (sgPre c) ∗ own I c 0 0 ∗ bPre c ∗ rest1 I c)

theorem after4 : iprop((bigSepL ([] : List (Fin 8 × Fin 2)) (zPost (F := F) c) ∗ bigSepL ([] : List (Fin 8)) (sgPre c)) ∗ own I c 0 0 ∗ bPre c ∗ rest1 I c)
    ⊢ iprop(own I c 0 0 ∗ bPre c ∗ rest1 I c) := by
  iintro ⟨-, H⟩; iexact H

theorem after7 : iprop(bPost (F := F) c ∗ own I c 0 8 ∗ rest1 I c)
    ⊢ iprop(bigSepL (sendItems 0) (iPre I c) ∗ own I c 1 0 ∗ sendTok c 1 ∗ ownR I c 0 ∗ (∃ f, outPts c f) ∗ semVal (cel c none) 0) := by
  unfold bPost rest1
  iintro ⟨⟨Hs, Hp⟩, Ho, H1, Hk0, Hk1, Hout⟩
  ihave Hk := (sendTok_all (c := c) D7) $$ [Hp Hk0 Hk1]
  · isplitl [Hp]; · iexact Hp
    isplitl [Hk0] <;> iassumption
  icases Hk with ⟨Hk0, Hk1⟩
  ihave Hi := (own_ready 0) $$ [Ho Hk0]
  · isplitl [Ho]; · iexact Ho
    unfold sendTok; iexact Hk0
  icases Hi with ⟨Hi, Hr⟩
  isplitl [Hi]; · iexact Hi
  isplitl [H1]; · iexact H1
  isplitl [Hk1]; · unfold sendTok; iexact Hk1
  isplitl [Hr]; · iexact Hr
  isplitl [Hout] <;> iassumption

theorem after13 {X : sProp 𝕄} : iprop(bigSepL ([] : List Item) (iPre I c) ∗ own I c 1 0 ∗ X) ⊢ iprop(own I c 1 0 ∗ X) := by
  iintro ⟨-, H⟩; iexact H

theorem after22 {X : sProp 𝕄} : iprop(bigSepL ([] : List Item) (iPre I c) ∗ ownR I c 1 ∗ ownR I c 0 ∗ X) ⊢ iprop((ownR I c 0 ∗ ownR I c 1) ∗ X) := by
  iintro ⟨-, H1, H0, H⟩
  isplitl [H0 H1]
  · isplitl [H0] <;> iassumption
  · iexact H

/-- The transfers whose arrival is known from the start to be waited for: the stats'. -/
abbrev wt0 : List Ky := [(3, 1, 0), (3, 1, 1), (3, 2, 0), (3, 2, 1), (3, 3, 0), (3, 3, 1), (3, 4, 0), (3, 4, 1), (3, 5, 0), (3, 5, 1), (3, 6, 0), (3, 6, 1), (3, 7, 0), (3, 7, 1)]
/-- Once all is sent, the transfers to wait for, in the order of sending, and in the order of waiting. -/
abbrev wtSent : List Ky := [(0, 7, 1), (2, 7, 1), (0, 6, 1), (2, 6, 1), (0, 5, 1), (2, 5, 1), (0, 4, 1), (2, 4, 1), (0, 3, 1), (2, 3, 1), (0, 2, 1), (2, 2, 1), (0, 1, 1), (2, 1, 1), (0, 7, 0), (2, 7, 0), (0, 6, 0), (2, 6, 0), (0, 5, 0), (2, 5, 0), (0, 4, 0), (2, 4, 0), (0, 3, 0), (2, 3, 0), (0, 2, 0), (2, 2, 0), (0, 1, 0), (2, 1, 0), (1, 1, 0), (1, 1, 1), (1, 2, 0), (1, 2, 1), (1, 3, 0), (1, 3, 1), (1, 4, 0), (1, 4, 1), (1, 5, 0), (1, 5, 1), (1, 6, 0), (1, 6, 1), (1, 7, 0), (1, 7, 1), (3, 1, 0), (3, 1, 1), (3, 2, 0), (3, 2, 1), (3, 3, 0), (3, 3, 1), (3, 4, 0), (3, 4, 1), (3, 5, 0), (3, 5, 1), (3, 6, 0), (3, 6, 1), (3, 7, 0), (3, 7, 1)]
abbrev wtWait : List Ky := [(3, 1, 0), (3, 2, 0), (3, 3, 0), (3, 4, 0), (3, 5, 0), (3, 6, 0), (3, 7, 0), (1, 1, 0), (1, 2, 0), (1, 3, 0), (1, 4, 0), (1, 5, 0), (1, 6, 0), (1, 7, 0), (3, 1, 1), (3, 2, 1), (3, 3, 1), (3, 4, 1), (3, 5, 1), (3, 6, 1), (3, 7, 1), (1, 1, 1), (1, 2, 1), (1, 3, 1), (1, 4, 1), (1, 5, 1), (1, 6, 1), (1, 7, 1), (2, 1, 0), (0, 1, 0), (2, 2, 0), (0, 2, 0), (2, 3, 0), (0, 3, 0), (2, 4, 0), (0, 4, 0), (2, 5, 0), (0, 5, 0), (2, 6, 0), (0, 6, 0), (2, 7, 0), (0, 7, 0), (2, 1, 1), (0, 1, 1), (2, 2, 1), (0, 2, 1), (2, 3, 1), (0, 3, 1), (2, 4, 1), (0, 4, 1), (2, 5, 1), (0, 5, 1), (2, 6, 1), (0, 6, 1), (2, 7, 1), (0, 7, 1)]
/-- What has been waited for before the last transfer's waits. -/
abbrev wdLast : List Ky := [(0, 6, 1), (2, 6, 1), (0, 5, 1), (2, 5, 1), (0, 4, 1), (2, 4, 1), (0, 3, 1), (2, 3, 1), (0, 2, 1), (2, 2, 1), (0, 1, 1), (2, 1, 1), (0, 7, 0), (2, 7, 0), (0, 6, 0), (2, 6, 0), (0, 5, 0), (2, 5, 0), (0, 4, 0), (2, 4, 0), (0, 3, 0), (2, 3, 0), (0, 2, 0), (2, 2, 0), (0, 1, 0), (2, 1, 0), (1, 7, 1), (1, 6, 1), (1, 5, 1), (1, 4, 1), (1, 3, 1), (1, 2, 1), (1, 1, 1), (3, 7, 1), (3, 6, 1), (3, 5, 1), (3, 4, 1), (3, 3, 1), (3, 2, 1), (3, 1, 1), (1, 7, 0), (1, 6, 0), (1, 5, 0), (1, 4, 0), (1, 3, 0), (1, 2, 0), (1, 1, 0), (3, 7, 0), (3, 6, 0), (3, 5, 0), (3, 4, 0), (3, 3, 0), (3, 2, 0), (3, 1, 0)]

theorem wtSent_perm : wtSent.Perm wtWait := by decide +kernel
theorem wtSent_nodup : wtSent.Nodup := by decide +kernel

theorem body51 {Q : BitVec 1 → sProp 𝕄}
    (hk : St I K c [] [(2, 7, 1), (0, 7, 1)] wdLast iprop(ownR I c 0 ∗ ownR I c 1) iprop(outPts c (outAt I c) ∗ semVal (cel c none) 0) ⊢ Q (w3 c)) :
    St I K c allItems wt0 [] (Zs c [(1, 0), (1, 1), (2, 0), (2, 1), (3, 0), (3, 1), (4, 0), (4, 1), (5, 0), (5, 1), (6, 0), (6, 1), (7, 0), (7, 1)] []) (rest0 I c)
      ⊢ Wp (F := F) c (k0_part51 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5) Q := by
  rw [k0_part51_eq_skeleton]; unfold k0_part51_skel
  dsimp only [Bind.bind, Pure.pure]
  refine (turnA (l' := .sg 1 :: .sg 2 :: .sg 3 :: .sg 4 :: .sg 5 :: .sg 6 :: .sg 7 :: (sendItems 0 ++ sendItems 1)) rfl .rfl).trans ?_
  with_reducible refine part_step (part1 (I := I) (K := K) (c := c)  (?_))
  try dsimp only
  with_reducible refine part_step (part2 (I := I) (K := K) (c := c)  (?_))
  unfold rest0
  try dsimp only
  with_reducible refine part_step (part3 (I := I) (K := K) (c := c)  (fun _ => ?_))
  try dsimp only
  with_reducible refine part_step (part4 (I := I) (K := K) (c := c)  (?_))
  try dsimp only
  refine (turnA rfl after4).trans ?_
  with_reducible refine part_step (part5 (I := I) (K := K) (c := c)  (?_))
  try dsimp only
  with_reducible refine part_step (part6 (I := I) (K := K) (c := c)  (?_))
  try dsimp only
  with_reducible refine part_step (part7 (I := I) (K := K) (c := c)  (fun _ => ?_))
  try dsimp only
  refine (turnA (l' := [.st 1 0, .ob 1 0, .st 2 0, .ob 2 0, .st 3 0, .ob 3 0, .st 4 0, .ob 4 0, .st 5 0, .ob 5 0, .st 6 0, .ob 6 0, .st 7 0, .ob 7 0, .st 1 1, .ob 1 1, .st 2 1, .ob 2 1, .st 3 1, .ob 3 1, .st 4 1, .ob 4 1, .st 5 1, .ob 5 1, .st 6 1, .ob 6 1, .st 7 1, .ob 7 1]) rfl after7).trans ?_
  with_reducible refine part_step (part8 (I := I) (K := K) (c := c)  (fun _ _ => ?_))
  try dsimp only
  with_reducible refine part_step (part9 (I := I) (K := K) (c := c)  (fun _ _ => ?_))
  try dsimp only
  with_reducible refine part_step (part10 (I := I) (K := K) (c := c)  (fun _ => ?_))
  try dsimp only
  with_reducible refine part_step (part11 (I := I) (K := K) (c := c)  (fun _ _ => ?_))
  try dsimp only
  with_reducible refine part_step (part12 (I := I) (K := K) (c := c)  (fun _ _ => ?_))
  try dsimp only
  with_reducible refine part_step (part13 (I := I) (K := K) (c := c)  (fun _ => ?_))
  try dsimp only
  refine (turnA (l' := sendItems 1) rfl after13).trans ?_
  with_reducible refine part_step (part14 (I := I) (K := K) (c := c)  (?_))
  try dsimp only
  with_reducible refine part_step (part15 (I := I) (K := K) (c := c)  (?_))
  try dsimp only
  with_reducible refine part_step (part16 (I := I) (K := K) (c := c)  (fun _ _ => ?_))
  try dsimp only
  with_reducible refine part_step (part17 (I := I) (K := K) (c := c)  (fun _ _ => ?_))
  try dsimp only
  with_reducible refine part_step (part18 (I := I) (K := K) (c := c)  (fun _ _ => ?_))
  try dsimp only
  with_reducible refine part_step (part19 (I := I) (K := K) (c := c)  (fun _ _ => ?_))
  try dsimp only
  with_reducible refine part_step (part20 (I := I) (K := K) (c := c)  (fun _ _ => ?_))
  try dsimp only
  with_reducible refine part_step (part21 (I := I) (K := K) (c := c)  (fun _ => ?_))
  try dsimp only
  with_reducible refine part_step (part22 (I := I) (K := K) (c := c)  (?_))
  try dsimp only
  refine (turn (wt' := wtWait) rfl wtSent_perm wtSent_nodup after22).trans ?_
  with_reducible refine part_step (part23 (I := I) (K := K) (c := c)  (?_))
  try dsimp only
  with_reducible refine part_step (part24 (I := I) (K := K) (c := c)  (fun _ => ?_))
  try dsimp only
  with_reducible refine part_step (part25 (I := I) (K := K) (c := c)  (?_))
  try dsimp only
  with_reducible refine part_step (part26 (I := I) (K := K) (c := c) (by decide +kernel) (by decide +kernel) (by decide +kernel) (by decide +kernel) (by decide +kernel) (by decide +kernel) (by decide +kernel) (?_))
  try dsimp only
  with_reducible refine part_step (part27 (I := I) (K := K) (c := c)  (?_))
  try dsimp only
  with_reducible refine part_step (part28 (I := I) (K := K) (c := c)  (?_))
  try dsimp only
  with_reducible refine part_step (part29 (I := I) (K := K) (c := c) (by decide +kernel) (?_))
  try dsimp only
  with_reducible refine part_step (part30 (I := I) (K := K) (c := c)  (?_))
  try dsimp only
  with_reducible refine part_step (part31 (I := I) (K := K) (c := c)  (?_))
  try dsimp only
  with_reducible refine part_step (part32 (I := I) (K := K) (c := c)  (fun _ _ => ?_))
  try dsimp only
  with_reducible refine part_step (part33 (I := I) (K := K) (c := c)  (?_))
  try dsimp only
  with_reducible refine part_step (part34 (I := I) (K := K) (c := c) (by decide +kernel) (?_))
  try dsimp only
  with_reducible refine part_step (part35 (I := I) (K := K) (c := c) (by decide +kernel) (by decide +kernel) (by decide +kernel) (by decide +kernel) (by decide +kernel) (by decide +kernel) (?_))
  try dsimp only
  with_reducible refine part_step (part36 (I := I) (K := K) (c := c)  (?_))
  try dsimp only
  with_reducible refine part_step (part37 (I := I) (K := K) (c := c)  (?_))
  try dsimp only
  with_reducible refine part_step (part38 (I := I) (K := K) (c := c)  (?_))
  try dsimp only
  with_reducible refine part_step (part39 (I := I) (K := K) (c := c)  (?_))
  try dsimp only
  with_reducible refine part_step (part40 (I := I) (K := K) (c := c)  (?_))
  try dsimp only
  with_reducible refine part_step (part41 (I := I) (K := K) (c := c)  (?_))
  try dsimp only
  with_reducible refine part_step (part42 (I := I) (K := K) (c := c)  (?_))
  try dsimp only
  with_reducible refine part_step (part43 (I := I) (K := K) (c := c)  (?_))
  try dsimp only
  with_reducible refine part_step (part44 (I := I) (K := K) (c := c)  (?_))
  try dsimp only
  with_reducible refine part_step (part45 (I := I) (K := K) (c := c)  (?_))
  try dsimp only
  with_reducible refine part_step (part46 (I := I) (K := K) (c := c)  (?_))
  try dsimp only
  with_reducible refine part_step (part47 (I := I) (K := K) (c := c)  (?_))
  try dsimp only
  with_reducible refine part_step (part48 (I := I) (K := K) (c := c)  (?_))
  try dsimp only
  with_reducible refine part_step (part49 (I := I) (K := K) (c := c)  (?_))
  try dsimp only
  with_reducible refine part_step (part50 (I := I) (K := K) (c := c)  (?_))
  exact ret_step hk

theorem body {Q : PUnit → sProp 𝕄}
    (hk : St I K c [] [] ((0, 7, 1) :: (2, 7, 1) :: wdLast) iprop(ownR I c 0 ∗ ownR I c 1) iprop(outPts c (outAt I c) ∗ semVal (cel c none) 0) ⊢ Q ⟨⟩) :
    St I K c allItems wt0 [] (Zs c [(1, 0), (1, 1), (2, 0), (2, 1), (3, 0), (3, 1), (4, 0), (4, 1), (5, 0), (5, 1), (6, 0), (6, 1), (7, 0), (7, 1)] []) (rest0 I c)
      ⊢ Wp (F := F) c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) oM (Memref.isWhole_whole _) tM (Memref.isWhole_whole _) cc0_scratch2 cc0_scratch3 cc0_scratch4 cc0_scratch5) Q := by
  rw [cc0_body_eq_skeleton]; unfold cc0_body_skel
  refine part_step (body51 ?_)
  by_cases hf : full c = true
  · have k0_h83 := (cond_full c).mpr hf
    have k0_h84 : ¬ (Scalar.cmpi .ne (Scalar.extui (Scalar.xori (w3 c) 1#1) : BitVec 32) 0#32 = 1#1) := fun h => (cond_small c).mp h hf
    simp only [dif_pos k0_h83, dif_neg k0_h84, semSignalWord, semWaitWord, Prog.lift, Prog.bind_op, Prog.bind_ret, Prog.pure_eq_ret, Prog.bind_assoc]
    refine wait_step (2, 7, 1) (by decide) (sAt_tsend 7 1 _) (by exact rfl) ?_
    refine wait_step (0, 7, 1) (by decide) (sAt_osend 7 1 _) (by exact NO_full hf) ?_
    exact ret_step hk
  · have k0_h83 : ¬ (Scalar.cmpi .ne (Scalar.extui (w3 c) : BitVec 32) 0#32 = 1#1) := fun h => hf ((cond_full c).mp h)
    have k0_h84 := (cond_small c).mpr hf
    simp only [dif_neg k0_h83, dif_pos k0_h84, semSignalWord, semWaitWord, Prog.lift, Prog.bind_op, Prog.bind_ret, Prog.pure_eq_ret, Prog.bind_assoc]
    refine wait_step (2, 7, 1) (by decide) (sAt_tsend 7 1 _) (by exact rfl) ?_
    refine wait_step (0, 7, 1) (by decide) (sAt_osend 7 1 _) (by exact NO_small hf) ?_
    exact ret_step hk

end Cert.KernelIdealProof

end
-- ==== Proof.IdealSplit.lean ====
/-
Cutting what the launch deals a device into the pieces its body works on, and joining them again.
-/
module

public import proofs.«01_k».proof.Proof.IdealBody
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

/-! ## Lists of pieces -/

section Lists
variable {M : Type} [URA M] {ι κ : Type}

theorem bigSepL_sep (l : List ι) (Φ Ψ : ι → sProp M) : bigSepL l (fun i => iprop(Φ i ∗ Ψ i)) = iprop(bigSepL l Φ ∗ bigSepL l Ψ) := by
  induction l with
  | nil => exact (BI.equiv_iff.mp emp_sep).symm
  | cons i l ih =>
    rw [bigSepL_cons', bigSepL_cons', bigSepL_cons', ih]
    refine BI.equiv_iff.mp ⟨?_, ?_⟩
    · show iprop((Φ i ∗ Ψ i) ∗ bigSepL l Φ ∗ bigSepL l Ψ) ⊢ iprop((Φ i ∗ bigSepL l Φ) ∗ Ψ i ∗ bigSepL l Ψ)
      iintro ⟨⟨H1, H2⟩, H3, H4⟩
      isplitl [H1 H3]
      · isplitl [H1] <;> iassumption
      · isplitl [H2] <;> iassumption
    · show iprop((Φ i ∗ bigSepL l Φ) ∗ Ψ i ∗ bigSepL l Ψ) ⊢ iprop((Φ i ∗ Ψ i) ∗ bigSepL l Φ ∗ bigSepL l Ψ)
      iintro ⟨⟨H1, H3⟩, H2, H4⟩
      isplitl [H1 H2]
      · isplitl [H1] <;> iassumption
      · isplitl [H3] <;> iassumption

theorem bigSepL_sep5 (l : List ι) (A B C D E : ι → sProp M) : bigSepL l (fun i => iprop(A i ∗ B i ∗ C i ∗ D i ∗ E i))
    = iprop(bigSepL l A ∗ bigSepL l B ∗ bigSepL l C ∗ bigSepL l D ∗ bigSepL l E) := by
  rw [bigSepL_sep, bigSepL_sep, bigSepL_sep, bigSepL_sep]
theorem bigSepL_sep6 (l : List ι) (A B C D E G : ι → sProp M) : bigSepL l (fun i => iprop(A i ∗ B i ∗ C i ∗ D i ∗ E i ∗ G i))
    = iprop(bigSepL l A ∗ bigSepL l B ∗ bigSepL l C ∗ bigSepL l D ∗ bigSepL l E ∗ bigSepL l G) := by
  rw [bigSepL_sep, bigSepL_sep5]

theorem bigSepL_flat (f : ι → List κ) (l : List ι) (Φ : κ → sProp M) : bigSepL (l.flatMap f) Φ = bigSepL l (fun i => bigSepL (f i) Φ) := by
  induction l with
  | nil => rfl
  | cons i l ih => rw [List.flatMap_cons, bigSepL_append, bigSepL_cons', ih]

theorem bigSepL_reorder [DecidableEq ι] {l l' : List ι} (h : l.Perm l') (hn : l.Nodup) (Φ : ι → sProp M) : bigSepL l Φ = bigSepL l' Φ := by
  rw [← bigSep_eq_bigSepL_of_eq l rfl hn, bigSep_eq_bigSepL_of_eq l' (List.toFinset_eq_of_perm _ _ h) (h.nodup_iff.mp hn)]

theorem bigSep_fin8 (Φ : Fin 8 → sProp M) : bigSep Finset.univ Φ = iprop(Φ 0 ∗ bigSepL D7 Φ) :=
  bigSep_univ_eq_bigSepL (0 :: D7) (by decide) (by decide) Φ

theorem bigSepL_neg (Φ : Fin 8 → sProp M) : bigSepL D7 (fun s => Φ (neg s)) = bigSepL D7 Φ :=
  (bigSepL_map neg D7 Φ).symm.trans (bigSepL_reorder (by decide) (by decide) Φ)

theorem bigSep_ck (Φ : CK → sProp M) : bigSep Finset.univ Φ = iprop(Φ none ∗ bigSep Finset.univ fun k : Ky => Φ (some k)) := by
  rw [bigSep_univ_at Φ none]
  rw [show (Finset.univ : Finset CK).erase none = (Finset.univ : Finset Ky).map Function.Embedding.some from by
    ext x; rcases x with _ | x <;> simp]
  rw [bigSep_map]; rfl

/-- The keys of one slot. -/
abbrev keys8 (s : Fin 8) : List Ky := [(0, s, 0), (0, s, 1), (1, s, 0), (1, s, 1), (2, s, 0), (2, s, 1), (3, s, 0), (3, s, 1)]

theorem bigSep_ky (Φ : Ky → sProp M) : bigSep Finset.univ Φ = iprop(bigSepL (keys8 0) Φ ∗ bigSepL D7 fun s => bigSepL (keys8 s) Φ) := by
  rw [bigSep_univ_eq_bigSepL (keys8 0 ++ D7.flatMap keys8) (by decide +kernel) (by decide +kernel) Φ, bigSepL_append, bigSepL_flat]

theorem bigSep_slots (Φ : Fin 8 × Fin 2 → sProp M) :
    bigSep Finset.univ Φ = iprop((Φ (0, 0) ∗ Φ (0, 1)) ∗ bigSepL D7 fun s => iprop(Φ (s, 0) ∗ Φ (s, 1))) := by
  rw [bigSep_univ_eq_bigSepL ([(0, 0), (0, 1)] ++ D7.flatMap fun s => [(s, 0), (s, 1)]) (by decide +kernel) (by decide +kernel) Φ, bigSepL_append, bigSepL_flat]
  rfl

end Lists

variable (I : In F)

/-! ## The landing buffers -/

theorem oSet_all : (Finset.univ : Finset OIdx) = Finset.univ.biUnion fun x : Fin 8 × Fin 2 => oSet 0 128 x.1 x.2 :=
  (Finset.eq_univ_iff_forall.mpr fun i : S8x2x128x256.Idx => Finset.mem_biUnion.mpr
    ⟨((i 0 : Fin 8), (i 1 : Fin 2)), Finset.mem_univ _, mem_oSet.mpr ⟨rfl, rfl, Nat.zero_le _, (i 2).isLt⟩⟩).symm
theorem tSet_all : (Finset.univ : Finset TIdx) = Finset.univ.biUnion fun x : Fin 8 × Fin 2 => tSet x.1 x.2 :=
  (Finset.eq_univ_iff_forall.mpr fun i : S8x2x4x128.Idx => Finset.mem_biUnion.mpr
    ⟨((i 0 : Fin 8), (i 1 : Fin 2)), Finset.mem_univ _, mem_tSet.mpr ⟨rfl, rfl⟩⟩).symm
theorem oSet_apart (x y : Fin 8 × Fin 2) (h : x ≠ y) : Disjoint (oSet 0 128 x.1 x.2) (oSet 0 128 y.1 y.2) :=
  Finset.disjoint_left.mpr fun i hx hy => h (Prod.ext
    (Fin.ext ((mem_oSet.mp hx).1.symm.trans (mem_oSet.mp hy).1)) (Fin.ext ((mem_oSet.mp hx).2.1.symm.trans (mem_oSet.mp hy).2.1)))
theorem tSet_apart (x y : Fin 8 × Fin 2) (h : x ≠ y) : Disjoint (tSet x.1 x.2) (tSet y.1 y.2) :=
  Finset.disjoint_left.mpr fun i hx hy => h (Prod.ext
    (Fin.ext ((mem_tSet.mp hx).1.symm.trans (mem_tSet.mp hy).1)) (Fin.ext ((mem_tSet.mp hx).2.symm.trans (mem_tSet.mp hy).2)))

omit [FloatOps F] [Named F] in
theorem o_cut (c : Dev nD) (f : (cc0_scratch0 : Ref sig .tc).ty.Contents (Elt F)) :
    ((c : Thread nD τ).loc cc0_scratch0 ↦{fullShare} f : sProp 𝕄)
      = iprop((oPts c 0 128 0 0 fullShare f ∗ oPts c 0 128 0 1 fullShare f) ∗ bigSepL D7 fun s => iprop(oPts c 0 128 s 0 fullShare f ∗ oPts c 0 128 s 1 fullShare f)) := by
  rw [← bigSep_slots fun x => oPts c 0 128 x.1 x.2 fullShare f]
  unfold oPts
  exact (congrArg (fun S : Finset OIdx => (oM.view.loc (c : Thread nD τ) ↦[S]{fullShare} f : sProp 𝕄)) oSet_all).trans
    (pointsTo_biUnion (ℓ := oM.view.loc (c : Thread nD τ)) Finset.univ (fun x : Fin 8 × Fin 2 => oSet 0 128 x.1 x.2) fun x _ y _ h => oSet_apart x y h)
omit [FloatOps F] [Named F] in
theorem t_cut (c : Dev nD) (f : (cc0_scratch1 : Ref sig .tc).ty.Contents (Elt F)) :
    ((c : Thread nD τ).loc cc0_scratch1 ↦{fullShare} f : sProp 𝕄)
      = iprop((tPts c 0 0 fullShare f ∗ tPts c 0 1 fullShare f) ∗ bigSepL D7 fun s => iprop(tPts c s 0 fullShare f ∗ tPts c s 1 fullShare f)) := by
  rw [← bigSep_slots fun x => tPts c x.1 x.2 fullShare f]
  unfold tPts
  exact (congrArg (fun S : Finset TIdx => (tM.view.loc (c : Thread nD τ) ↦[S]{fullShare} f : sProp 𝕄)) tSet_all).trans
    (pointsTo_biUnion (ℓ := tM.view.loc (c : Thread nD τ)) Finset.univ (fun x : Fin 8 × Fin 2 => tSet x.1 x.2) fun x _ y _ h => tSet_apart x y h)

/-- The device's own slot before anything is stored. -/
theorem own_zero (c : Dev nD) (b : Fin 2) (f : (cc0_scratch0 : Ref sig .tc).ty.Contents (Elt F)) (g : (cc0_scratch1 : Ref sig .tc).ty.Contents (Elt F)) :
    iprop(oPts c 0 128 0 b fullShare f ∗ tPts c 0 b fullShare g) ⊢ own I c b 0 := by
  unfold own
  iintro ⟨Ho, Ht⟩
  isplitl [Ho]
  · iexists f
    isplitr
    · ipureintro; intro i _ h; exact absurd h (Nat.not_lt_zero _)
    iexact Ho
  iexists g
  isplitr
  · ipureintro; intro i _ h; exact absurd h (Nat.not_lt_zero _)
  iexact Ht

/-! ## What the body starts from, slot by slot -/

/-- A device's position at one of its cells; the credit for what arrives there. -/
def pos (c : Dev nD) (k : Ky) : sProp 𝕄 := atPos ER (cel c (some k)) 0 ∅ 0
def crd (c : Dev nD) (k : Ky) : sProp 𝕄 := cred (tallyAt (cel c (some k)) () (kAmt c k))
/-- The duty tokens a device is given: for its signals, and for the cells its transfers reach. -/
def barTok (c : Dev nD) (s : Fin 8) : sProp 𝕄 := dutyTok ER (cel (fwd c s) none) 0 (neg s)
def dmaTok (c : Dev nD) : Ky → sProp 𝕄
  | (0, s, b) => dutyTok ER (cel c (some (0, s, b))) 0 0
  | (1, s, b) => dutyTok ER (cel (fwd c s) (some (1, s, b))) 0 0
  | (2, s, b) => dutyTok ER (cel c (some (2, s, b))) 0 0
  | (3, s, b) => dutyTok ER (cel (fwd c s) (some (3, s, b))) 0 0

/-- The part of what a signal takes that lies at the slot it frees. -/
def sgAt (c : Dev nD) (s : Fin 8) : sProp 𝕄 :=
  iprop((∃ f, tPts c s 0 fullShare f) ∗ (∃ f, tPts c s 1 fullShare f) ∗ (crd c (1, s, 0) ∗ pos c (1, s, 0)) ∗ (crd c (1, s, 1) ∗ pos c (1, s, 1)))

theorem slot_start (c : Dev nD) (f : (cc0_scratch0 : Ref sig .tc).ty.Contents (Elt F)) (g : (cc0_scratch1 : Ref sig .tc).ty.Contents (Elt F)) (s : Fin 8) :
    iprop((oPts c 0 128 s 0 fullShare f ∗ oPts c 0 128 s 1 fullShare f) ∗ (tPts c s 0 fullShare g ∗ tPts c s 1 fullShare g)
      ∗ bigSepL [(1, s, 0), (1, s, 1), (3, s, 0), (3, s, 1)] (crd c) ∗ bigSepL (keys8 s) (pos c) ∗ bigSepL (keys8 s) (dmaTok c))
    ⊢ iprop(bigSepL [(s, 0), (s, 1)] (zPre (F := F) c) ∗ bigSepL [(3, s, 0), (3, s, 1)] (wPre I c) ∗ sgAt c s ∗ pTok c 0 s ∗ pTok c 1 s) := by
  show iprop((oPts c 0 128 s 0 fullShare f ∗ oPts c 0 128 s 1 fullShare f) ∗ (tPts c s 0 fullShare g ∗ tPts c s 1 fullShare g)
      ∗ (crd c (1, s, 0) ∗ crd c (1, s, 1) ∗ crd c (3, s, 0) ∗ crd c (3, s, 1))
      ∗ (pos c (0, s, 0) ∗ pos c (0, s, 1) ∗ pos c (1, s, 0) ∗ pos c (1, s, 1) ∗ pos c (2, s, 0) ∗ pos c (2, s, 1) ∗ pos c (3, s, 0) ∗ pos c (3, s, 1))
      ∗ (dmaTok c (0, s, 0) ∗ dmaTok c (0, s, 1) ∗ dmaTok c (1, s, 0) ∗ dmaTok c (1, s, 1) ∗ dmaTok c (2, s, 0) ∗ dmaTok c (2, s, 1) ∗ dmaTok c (3, s, 0) ∗ dmaTok c (3, s, 1)))
    ⊢ iprop((zPre c (s, 0) ∗ zPre c (s, 1)) ∗ ((crd c (3, s, 0) ∗ pos c (3, s, 0) ∗ emp) ∗ (crd c (3, s, 1) ∗ pos c (3, s, 1) ∗ emp)) ∗ sgAt c s
      ∗ ((dmaTok c (2, s, 0) ∗ dmaTok c (3, s, 0) ∗ pos c (2, s, 0)) ∗ (dmaTok c (0, s, 0) ∗ dmaTok c (1, s, 0) ∗ pos c (0, s, 0)))
      ∗ ((dmaTok c (2, s, 1) ∗ dmaTok c (3, s, 1) ∗ pos c (2, s, 1)) ∗ (dmaTok c (0, s, 1) ∗ dmaTok c (1, s, 1) ∗ pos c (0, s, 1))))
  unfold zPre sgAt
  iintro ⟨⟨Ho0, Ho1⟩, ⟨Ht0, Ht1⟩, ⟨C10, C11, C30, C31⟩, ⟨P00, P01, P10, P11, P20, P21, P30, P31⟩, ⟨T00, T01, T10, T11, T20, T21, T30, T31⟩⟩
  isplitl [Ho0 Ho1]
  · isplitl [Ho0]
    · iexists f; iexact Ho0
    · iexists f; iexact Ho1
  isplitl [C30 P30 C31 P31]
  · isplitl [C30 P30]
    · isplitl [C30]; · iexact C30
      isplitl [P30]; · iexact P30
      iempintro
    · isplitl [C31]; · iexact C31
      isplitl [P31]; · iexact P31
      iempintro
  isplitl [Ht0 Ht1 C10 P10 C11 P11]
  · isplitl [Ht0]; · iexists g; iexact Ht0
    isplitl [Ht1]; · iexists g; iexact Ht1
    isplitl [C10 P10]
    · isplitl [C10] <;> iassumption
    · isplitl [C11] <;> iassumption
  isplitl [T20 T30 P20 T00 T10 P00]
  · isplitl [T20 T30 P20]
    · isplitl [T20]; · iexact T20
      isplitl [T30] <;> iassumption
    · isplitl [T00]; · iexact T00
      isplitl [T10] <;> iassumption
  · isplitl [T21 T31 P21]
    · isplitl [T21]; · iexact T21
      isplitl [T31] <;> iassumption
    · isplitl [T01]; · iexact T01
      isplitl [T11] <;> iassumption

theorem sg_start (c : Dev nD) : iprop(bigSepL D7 (barTok (F := F) c) ∗ bigSepL D7 (sgAt c)) ⊢ bigSepL D7 (sgPre (F := F) c) := by
  rw [← bigSepL_neg (sgAt c), ← bigSepL_sep]
  exact bigSepL_mono fun s _ => .rfl

/-- What a device holds when its body starts, besides the operands. -/
def held (c : Dev nD) : sProp 𝕄 :=
  iprop((cred (tallyAt (cel c none) () 7) ∗ bigSepL D7 fun s => bigSepL [(1, s, 0), (1, s, 1), (3, s, 0), (3, s, 1)] (crd c))
    ∗ (atPos ER (cel c none) 0 ∅ 0 ∗ bigSepL D7 fun s => bigSepL (keys8 s) (pos c))
    ∗ (bigSepL D7 (barTok c) ∗ bigSepL D7 fun s => bigSepL (keys8 s) (dmaTok c)))

theorem start_body (c : Dev nD) (f : (cc0_scratch0 : Ref sig .tc).ty.Contents (Elt F)) (g : (cc0_scratch1 : Ref sig .tc).ty.Contents (Elt F))
    (h : (cc0_stg5_0 : Ref sig .tc).ty.Contents (Elt F)) (K : Dev nD × CK → ℕ) :
    iprop(held c ∗ ((c : Thread nD τ).loc cc0_scratch0 ↦{fullShare} f) ∗ ((c : Thread nD τ).loc cc0_scratch1 ↦{fullShare} g)
        ∗ outPts c h ∗ env I K ∗ ow c allItems ∗ ins I c)
      ⊢ St I K c allItems wt0 [] (Zs c [(1, 0), (1, 1), (2, 0), (2, 1), (3, 0), (3, 1), (4, 0), (4, 1), (5, 0), (5, 1), (6, 0), (6, 1), (7, 0), (7, 1)] []) (rest0 I c) := by
  rw [o_cut, t_cut]
  unfold held
  iintro ⟨⟨⟨Hc, HC⟩, ⟨Hp, HP⟩, HB, HT⟩, ⟨⟨Ho0, Ho1⟩, HO⟩, ⟨⟨Ht0, Ht1⟩, HS⟩, Hout, HE, How, Hin⟩
  ihave H := (show iprop((bigSepL D7 fun s => iprop(oPts c 0 128 s 0 fullShare f ∗ oPts c 0 128 s 1 fullShare f))
      ∗ (bigSepL D7 fun s => iprop(tPts c s 0 fullShare g ∗ tPts c s 1 fullShare g))
      ∗ (bigSepL D7 fun s => bigSepL [(1, s, 0), (1, s, 1), (3, s, 0), (3, s, 1)] (crd c))
      ∗ (bigSepL D7 fun s => bigSepL (keys8 s) (pos c)) ∗ (bigSepL D7 fun s => bigSepL (keys8 s) (dmaTok c)))
      ⊢ iprop((bigSepL D7 fun s => bigSepL [(s, 0), (s, 1)] (zPre (F := F) c)) ∗ (bigSepL D7 fun s => bigSepL [(3, s, 0), (3, s, 1)] (wPre I c))
        ∗ bigSepL D7 (sgAt c) ∗ bigSepL D7 (pTok c 0) ∗ bigSepL D7 (pTok c 1)) from by
    rw [← bigSepL_sep5, ← bigSepL_sep5]
    exact bigSepL_mono fun s _ => slot_start I c f g s) $$ [HO HS HC HP HT]
  · isplitl [HO]; · iexact HO
    isplitl [HS]; · iexact HS
    isplitl [HC]; · iexact HC
    isplitl [HP]; · iexact HP
    iexact HT
  icases H with ⟨HZ, HW, HG, HT0, HT1⟩
  ihave Hsg := (sg_start c) $$ [HB HG]
  · isplitl [HB] <;> iassumption
  ihave Hw0 := (own_zero I c 0 f g) $$ [Ho0 Ht0]
  · isplitl [Ho0] <;> iassumption
  ihave Hw1 := (own_zero I c 1 f g) $$ [Ho1 Ht1]
  · isplitl [Ho1] <;> iassumption
  ihave HZ := (Entails.of_eq (bigSepL_flat (fun s : Fin 8 => [(s, (0 : Fin 2)), (s, 1)]) D7 (zPre (F := F) c)).symm) $$ HZ
  ihave HW := (Entails.of_eq (bigSepL_flat (fun s : Fin 8 => [((3 : Fin 4), s, (0 : Fin 2)), (3, s, 1)]) D7 (wPre I c)).symm) $$ HW
  unfold St rest0 rest1 bPre
  isplitl [HE]; · iexact HE
  isplitl [How]; · iexact How
  isplitl [Hin]; · iexact Hin
  isplitl [HW]; · iexact HW
  isplitr; · iempintro
  isplitl [HZ]
  · isplitl [HZ]; · iexact HZ
    iempintro
  isplitl [Hsg]; · iexact Hsg
  isplitl [Hw0]; · iexact Hw0
  isplitl [Hc Hp]
  · isplitl [Hc] <;> iassumption
  isplitl [Hw1]; · iexact Hw1
  isplitl [HT0]; · iexact HT0
  isplitl [HT1]; · iexact HT1
  iexists h; iexact Hout

/-! ## What the body leaves -/

theorem o_join (c : Dev nD) (b : Fin 2) :
    iprop((oPts c 0 128 0 b (shareDrop fullShare 8) (oAll I c) ∗ oPts c 0 128 0 b (shareTok fullShare 8 0) (oAll I c))
      ∗ bigSepL D7 (fun s => oPts c 0 128 0 b (shareTok fullShare 8 s) (oAll I c))) ⊢ oPts c 0 128 0 b fullShare (oAll I c) := by
  refine BIBase.Entails.trans ?_ (Transfers.pointsTo_toks_join fullShare 8)
  rw [bigSep_fin8]
  unfold oPts
  iintro ⟨⟨H1, H2⟩, H3⟩
  isplitl [H1]; · iexact H1
  isplitl [H2]; · iexact H2
  iexact H3
theorem t_join (c : Dev nD) (b : Fin 2) :
    iprop((tPts c 0 b (shareDrop fullShare 8) (tAll I c) ∗ tPts c 0 b (shareTok fullShare 8 0) (tAll I c))
      ∗ bigSepL D7 (fun s => tPts c 0 b (shareTok fullShare 8 s) (tAll I c))) ⊢ tPts c 0 b fullShare (tAll I c) := by
  refine BIBase.Entails.trans ?_ (Transfers.pointsTo_toks_join fullShare 8)
  rw [bigSep_fin8]
  unfold tPts
  iintro ⟨⟨H1, H2⟩, H3⟩
  isplitl [H1]; · iexact H1
  isplitl [H2]; · iexact H2
  iexact H3

theorem whole_split (c : Dev nD) (s : Fin 8) : bigSepL (keys8 s) (whole I c)
    ⊢ iprop(oPts c 0 128 0 0 (shareTok fullShare 8 s) (oAll I c) ∗ oPts c 0 128 0 1 (shareTok fullShare 8 s) (oAll I c)
      ∗ (oPts c 0 128 s 0 fullShare (oAll I c) ∗ oPts c 0 128 s 1 fullShare (oAll I c))
      ∗ tPts c 0 0 (shareTok fullShare 8 s) (tAll I c) ∗ tPts c 0 1 (shareTok fullShare 8 s) (tAll I c)
      ∗ (tPts c s 0 fullShare (tAll I c) ∗ tPts c s 1 fullShare (tAll I c))) := by
  show iprop(oPts c 0 128 0 0 (shareTok fullShare 8 s) (oAll I c) ∗ oPts c 0 128 0 1 (shareTok fullShare 8 s) (oAll I c)
      ∗ oPts c 0 128 s 0 fullShare (oAll I c) ∗ oPts c 0 128 s 1 fullShare (oAll I c)
      ∗ tPts c 0 0 (shareTok fullShare 8 s) (tAll I c) ∗ tPts c 0 1 (shareTok fullShare 8 s) (tAll I c)
      ∗ tPts c s 0 fullShare (tAll I c) ∗ tPts c s 1 fullShare (tAll I c)) ⊢ _
  iintro ⟨H1, H2, H3, H4, H5, H6, H7, H8⟩
  isplitl [H1]; · iexact H1
  isplitl [H2]; · iexact H2
  isplitl [H3 H4]
  · isplitl [H3] <;> iassumption
  isplitl [H5]; · iexact H5
  isplitl [H6]; · iexact H6
  isplitl [H7] <;> iassumption

/-- Every slot back, the landing buffers are whole. -/
theorem mem_join (c : Dev nD) : iprop(ownR I c 0 ∗ ownR I c 1 ∗ bigSepL D7 fun s => bigSepL (keys8 s) (whole I c))
    ⊢ iprop(((c : Thread nD τ).loc cc0_scratch0 ↦{fullShare} oAll I c) ∗ ((c : Thread nD τ).loc cc0_scratch1 ↦{fullShare} tAll I c)) := by
  rw [o_cut, t_cut]
  refine (sep_mono_right (sep_mono_right (bigSepL_mono fun s _ => whole_split I c s))).trans ?_
  rw [bigSepL_sep6]
  unfold ownR
  iintro ⟨⟨R1, R2⟩, ⟨R3, R4⟩, O0, O1, OS, T0, T1, TS⟩
  ihave A0 := (o_join I c 0) $$ [R1 O0]
  · isplitl [R1] <;> iassumption
  ihave A1 := (o_join I c 1) $$ [R3 O1]
  · isplitl [R3] <;> iassumption
  ihave B0 := (t_join I c 0) $$ [R2 T0]
  · isplitl [R2] <;> iassumption
  ihave B1 := (t_join I c 1) $$ [R4 T1]
  · isplitl [R4] <;> iassumption
  isplitl [A0 A1 OS]
  · isplitl [A0 A1]
    · isplitl [A0] <;> iassumption
    iexact OS
  · isplitl [B0 B1]
    · isplitl [B0] <;> iassumption
    iexact TS

/-- All cells of the exchange that were waited at, at zero. -/
theorem end_body (c : Dev nD) (K : Dev nD × CK → ℕ) :
    St I K c [] [] ((0, 7, 1) :: (2, 7, 1) :: wdLast) iprop(ownR I c 0 ∗ ownR I c 1) iprop(outPts c (outAt I c) ∗ semVal (cel c none) 0)
      ⊢ iprop(((c : Thread nD τ).loc cc0_scratch0 ↦{fullShare} oAll I c) ∗ ((c : Thread nD τ).loc cc0_scratch1 ↦{fullShare} tAll I c)
        ∗ (semVal (cel c none) 0 ∗ bigSepL D7 fun s => bigSepL (keys8 s) fun k => semVal (cel c (some k)) 0)
        ∗ outPts c (outAt I c) ∗ ow c [] ∗ ins I c) := by
  unfold St
  rw [bigSepL_reorder (l' := D7.flatMap keys8) (by decide +kernel) (by decide +kernel) (wPost I c), bigSepL_flat]
  iintro ⟨-, How, Hin, -, HW, ⟨R0, R1⟩, Hout, Hb⟩
  ihave HW := (show (bigSepL D7 fun s => bigSepL (keys8 s) (wPost I c))
      ⊢ iprop((bigSepL D7 fun s => bigSepL (keys8 s) fun k => semVal (cel c (some k)) 0) ∗ bigSepL D7 fun s => bigSepL (keys8 s) (whole I c)) from by
    rw [← bigSepL_sep]
    refine bigSepL_mono fun s _ => ?_
    rw [← bigSepL_sep]
    exact .rfl) $$ HW
  icases HW with ⟨HS, HW⟩
  ihave HM := (mem_join I c) $$ [R0 R1 HW]
  · isplitl [R0]; · iexact R0
    isplitl [R1] <;> iassumption
  icases HM with ⟨HM1, HM2⟩
  isplitl [HM1]; · iexact HM1
  isplitl [HM2]; · iexact HM2
  isplitl [Hb HS]
  · isplitl [Hb] <;> iassumption
  isplitl [Hout]; · iexact Hout
  isplitl [How] <;> iassumption

end Cert.KernelIdealProof

end
-- ==== Proof.IdealDeal.lean ====
/-
What the launch deals: the cells and duty tokens as minted, the tokens handed to the devices that use them,
the credit each cell starts with.
-/
module

public import proofs.«01_k».proof.Proof.IdealSplit
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

variable (I : In F)

/-! ## The credit at launch -/

theorem owing_none {c : Dev nD} {g : GSem nD τ sig} {l : List Item} (h : ∀ i ∈ l, g ≠ i.cell c) : owing c l g () = 0 :=
  Nat.eq_zero_of_not_pos fun hp => by obtain ⟨i, hi, e⟩ := owing_pos hp; exact h i hi e

/-- At a cell that only one item of the list can reach, what is owed is that item's amount. -/
theorem owing_one {c : Dev nD} {g : GSem nD τ sig} {i₀ : Item} : ∀ {l : List Item}, i₀ ∈ l → l.Nodup → (∀ i ∈ l, g = i.cell c → i = i₀) →
    owing c l g () = if g = i₀.cell c then i₀.amt c else 0
  | [], h, _, _ => absurd h List.not_mem_nil
  | j :: l, h, hn, hu => by
    unfold owing
    rw [Pi.add_apply, Finsupp.add_apply, tallyAt_apply]
    have hn' := List.nodup_cons.mp hn
    rcases List.mem_cons.mp h with rfl | h
    · rw [owing_none fun i hi e => hn'.1 (hu i (List.mem_cons_of_mem _ hi) e ▸ hi), Nat.zero_add]
      by_cases hg : g = i₀.cell c
      · rw [if_pos ⟨hg, rfl⟩, if_pos hg]
      · rw [if_neg fun e => hg e.1, if_neg hg]
    · rw [owing_one h hn'.2 fun i hi => hu i (List.mem_cons_of_mem _ hi), if_neg (c := g = j.cell c ∧ () = ()) fun e =>
        hn'.1 (hu j List.mem_cons_self e.1 ▸ h), Nat.add_zero]

theorem cel_eq {c d : Dev nD} {k k' : CK} : cel c k = cel d k' ↔ c = d ∧ k = k' :=
  ⟨fun h => ⟨congrArg (fun g : GSem nD τ sig => g.1.1) h, csem_injective (congrArg Prod.snd h)⟩, fun ⟨h, h'⟩ => by rw [h, h']⟩

theorem allItems_nodup : allItems.Nodup := by decide +kernel

theorem owed_stats (d c : Dev nD) (s : Fin 8) (b : Fin 2) (hs : s ≠ 0) :
    owing d allItems (cel c (some (3, s, b))) () = if d = bwd c s then NT else 0 := by
  rw [owing_one (i₀ := .st s b) (by revert s b; decide +kernel) allItems_nodup fun i _ e => by
    rcases i with s' | ⟨s', b'⟩ | ⟨s', b'⟩
    · exact absurd (cel_eq.mp e).2 (by simp)
    · have := (cel_eq.mp e).2; simp only [Option.some.injEq, Prod.mk.injEq, true_and] at this; rw [this.1, this.2]
    · exact absurd (cel_eq.mp e).2 (by simp)]
  by_cases h : d = bwd c s
  · rw [if_pos h, if_pos (by subst h; exact cel_eq.mpr ⟨(fwd_bwd c s).symm, rfl⟩)]; rfl
  · rw [if_neg h, if_neg fun e => h (by rw [(cel_eq.mp e).1, bwd_fwd])]
theorem owed_rows (d c : Dev nD) (s : Fin 8) (b : Fin 2) (hs : s ≠ 0) :
    owing d allItems (cel c (some (1, s, b))) () = if d = bwd c s then NO (bwd c s) else 0 := by
  rw [owing_one (i₀ := .ob s b) (by revert s b; decide +kernel) allItems_nodup fun i _ e => by
    rcases i with s' | ⟨s', b'⟩ | ⟨s', b'⟩
    · exact absurd (cel_eq.mp e).2 (by simp)
    · exact absurd (cel_eq.mp e).2 (by simp)
    · have := (cel_eq.mp e).2; simp only [Option.some.injEq, Prod.mk.injEq, true_and] at this; rw [this.1, this.2]]
  by_cases h : d = bwd c s
  · rw [if_pos h, if_pos (by subst h; exact cel_eq.mpr ⟨(fwd_bwd c s).symm, rfl⟩), ← h]; rfl
  · rw [if_neg h, if_neg fun e => h (by rw [(cel_eq.mp e).1, bwd_fwd])]

/-- The index that leads from `d` to `c`. -/
def dif (d c : Dev nD) : Fin 8 := ⟨(c.val + 8 - d.val) % 8, Nat.mod_lt _ (by decide)⟩
theorem fwd_dif (d c : Dev nD) : fwd d (dif d c) = c := by revert d c; decide
theorem dif_fwd (d : Dev nD) (s : Fin 8) : dif d (fwd d s) = s := by revert d s; decide
theorem dif_mem (d c : Dev nD) (h : d ≠ c) : Item.sg (dif d c) ∈ allItems := by revert d c; decide +kernel
theorem fwd_ne (d : Dev nD) (s : Fin 8) (h : s ≠ 0) : d ≠ fwd d s := by revert d s; decide
theorem sg_mem (s : Fin 8) (h : Item.sg s ∈ allItems) : s ≠ 0 := by revert s; decide +kernel

theorem owed_bar (d c : Dev nD) : owing d allItems (cel c none) () = if d = c then 0 else 1 := by
  have hu : ∀ i ∈ allItems, cel c none = i.cell d → i = .sg (dif d c) := fun i _ e => by
    rcases i with s' | ⟨s', b'⟩ | ⟨s', b'⟩
    · rw [(cel_eq.mp e).1, dif_fwd]
    · exact absurd (cel_eq.mp e).2 (by simp)
    · exact absurd (cel_eq.mp e).2 (by simp)
  by_cases h : d = c
  · rw [if_pos h]
    refine owing_none fun i hi e => ?_
    rcases i with s' | ⟨s', b'⟩ | ⟨s', b'⟩
    · exact fwd_ne d s' (sg_mem s' hi) (h.trans (cel_eq.mp e).1)
    · exact absurd (cel_eq.mp e).2 (by simp)
    · exact absurd (cel_eq.mp e).2 (by simp)
  · rw [owing_one (dif_mem d c h) allItems_nodup hu, if_neg h]
    exact if_pos (cel_eq.mpr ⟨(fwd_dif d c).symm, rfl⟩)

theorem launch_cell (c : Dev nD) (k : CK) (n : ℕ) (h : ∑ d : Dev nD, owing d allItems (cel c k) () = n) :
    tallyOn (cel c k) (launchCredit (Pipeline.owing fun d => owing d allItems) 0 (cel c k)) = (tallyAt (cel c k) () n : CellTallies nD τ sig Unit) := by
  unfold tallyAt; refine congrArg _ (Finsupp.ext fun u => ?_); cases u
  rw [Pipeline.launchCredit_owing, Finsupp.single_eq_same, h]

theorem launch_bar (c : Dev nD) : ∑ d : Dev nD, owing d allItems (cel c none) () = 7 := by
  rw [Finset.sum_congr rfl fun d _ => owed_bar d c]
  revert c; decide
theorem launch_arr (c : Dev nD) (a : Fin 4) (s : Fin 8) (b : Fin 2) (ha : a = 1 ∨ a = 3) (hs : s ≠ 0) :
    ∑ d : Dev nD, owing d allItems (cel c (some (a, s, b))) () = kAmt c (a, s, b) := by
  rcases ha with rfl | rfl
  · rw [Finset.sum_congr rfl fun d _ => owed_rows d c s b hs, Finset.sum_ite_eq' Finset.univ (bwd c s) fun _ => NO (bwd c s), if_pos (Finset.mem_univ _)]; rfl
  · rw [Finset.sum_congr rfl fun d _ => owed_stats d c s b hs, Finset.sum_ite_eq' Finset.univ (bwd c s) fun _ => NT, if_pos (Finset.mem_univ _)]; rfl

abbrev arrs (s : Fin 8) : List Ky := [(1, s, 0), (1, s, 1), (3, s, 0), (3, s, 1)]

omit [FloatOps F] [Named F] in
theorem creds (c : Dev nD) : (Pipeline.launchCred (fun d => owing d allItems) c : sProp 𝕄)
    ⊢ iprop(cred (tallyAt (cel c none) () 7) ∗ bigSepL D7 fun s => bigSepL (arrs s) (crd c)) := by
  unfold Pipeline.launchCred
  refine (bigSep_subset (Finset.subset_univ (((none :: (D7.flatMap arrs).map some).toFinset : Finset CK).map ⟨csem, csem_injective⟩))).trans ?_
  rw [bigSep_map, bigSep_eq_bigSepL_of_eq (none :: (D7.flatMap arrs).map some) rfl (by decide +kernel), bigSepL_cons', bigSepL_map, ← bigSepL_flat]
  refine BI.sep_mono (Entails.of_eq (congrArg (fun T => (cred T : sProp 𝕄)) (launch_cell c none 7 (launch_bar c)))) ?_
  refine bigSepL_mono fun k hk => Entails.of_eq (congrArg (fun T => (cred T : sProp 𝕄)) (launch_cell c (some k) (kAmt c k) ?_))
  have h : ∀ k ∈ D7.flatMap arrs, (k.1 = 1 ∨ k.1 = 3) ∧ k.2.1 ≠ 0 := by decide +kernel
  exact launch_arr c k.1 k.2.1 k.2.2 (h k hk).1 (h k hk).2

/-! ## The cells and the tokens -/

theorem kcell_injective : Function.Injective kcell := fun x y h => Prod.ext (cel_eq.mp h).1 (cel_eq.mp h).2
def ringCells : Finset (GSem nD τ sig) := Finset.univ.map ⟨kcell, kcell_injective⟩

/-- The duties of a device's own cells: its barrier's, its DMA cells'. -/
abbrev TI : Type := Fin 8 ⊕ Ky
def tokOf (x : Dev nD × TI) : GSem nD τ sig × ℕ × Fin 8 := match x.2 with
  | .inl d => (cel x.1 none, 0, d)
  | .inr k => (cel x.1 (some k), 0, 0)
theorem tokOf_injective : Function.Injective tokOf := by
  rintro ⟨c, j⟩ ⟨c', j'⟩ h
  rcases j with d | k <;> rcases j' with d' | k' <;> unfold tokOf at h <;> dsimp only at h
  · rw [(cel_eq.mp (congrArg Prod.fst h)).1, show d = d' from congrArg (fun x : GSem nD τ sig × ℕ × Fin 8 => x.2.2) h]
  · exact absurd (cel_eq.mp (congrArg Prod.fst h)).2 (by simp)
  · exact absurd (cel_eq.mp (congrArg Prod.fst h)).2 (by simp)
  · rw [(cel_eq.mp (congrArg Prod.fst h)).1, Option.some.inj (cel_eq.mp (congrArg Prod.fst h)).2]
def ringToks : Finset (GSem nD τ sig × ℕ × Fin 8) := Finset.univ.map ⟨tokOf, tokOf_injective⟩

def u₀ : UU := (initOf (Pipeline.cells cfgs cellOf_inj) (Pipeline.launchToks cfgs cellOf_inj), initOf ringCells ringToks)

def tok (x : Dev nD × TI) : sProp 𝕄 := dutyTok ER (tokOf x).1 (tokOf x).2.1 (tokOf x).2.2
/-- The same tokens, named by the device that is to have them. -/
def payT (c : Dev nD) : TI → sProp 𝕄
  | .inl e => barTok c (neg e)
  | .inr k => dmaTok c k

def shift (s : Fin 8) : Dev nD ≃ Dev nD := ⟨fun c => fwd c s, fun c => bwd c s, fun c => bwd_fwd c s, fun c => fwd_bwd c s⟩
/-- How far from a cell's owner the device that has its token is. -/
def turnBy : TI → Dev nD ≃ Dev nD
  | .inl e => shift (neg e)
  | .inr (1, s, _) => shift s
  | .inr (3, s, _) => shift s
  | .inr _ => Equiv.refl _

omit [FloatOps F] [Named F] in
theorem tok_turn (j : TI) (c : Dev nD) : tok (F := F) (turnBy j c, j) = payT c j := by
  rcases j with e | ⟨a, s, b⟩
  · show (dutyTok ER (cel (fwd c (neg e)) none) 0 e : sProp 𝕄) = dutyTok ER (cel (fwd c (neg e)) none) 0 (neg (neg e))
    rw [neg_neg']
  · fin_cases a <;> rfl

omit [FloatOps F] [Named F] in
theorem toks_around : (bigSep Finset.univ fun c : Dev nD => bigSep Finset.univ fun j : TI => tok (F := F) (c, j))
    = bigSep Finset.univ fun c : Dev nD => bigSep Finset.univ (payT (F := F) c) := by
  rw [bigSep_univ_comm, bigSep_univ_comm fun (c : Dev nD) (j : TI) => payT (F := F) c j]
  refine bigSep_congr fun j _ => ?_
  rw [bigSep_univ_equiv (turnBy j)]
  exact bigSep_congr fun c _ => tok_turn j c

omit [FloatOps F] [Named F] in
theorem toks_of (c : Dev nD) : bigSep Finset.univ (payT (F := F) c)
    ⊢ iprop(bigSepL D7 (barTok c) ∗ bigSepL D7 fun s => bigSepL (keys8 s) (dmaTok c)) := by
  rw [bigSep_univ_sum, bigSep_fin8, bigSep_ky, ← bigSepL_neg (barTok c)]
  show iprop((payT c (.inl 0) ∗ bigSepL D7 fun e => barTok c (neg e)) ∗ (bigSepL (keys8 0) (dmaTok c) ∗ bigSepL D7 fun s => bigSepL (keys8 s) (dmaTok c))) ⊢ _
  iintro ⟨⟨-, H1⟩, -, H2⟩
  isplitl [H1] <;> iassumption

/-! ## The launch element and the global step -/

/-- What the launch element deals device `c`. -/
def G (c : Dev nD) : sProp 𝕄 :=
  iprop((bigSep Finset.univ fun k : CK => roundState ER (Rd I) (cel c k) 0)
    ∗ (bigSep Finset.univ fun k : CK => iprop(atPos ER (cel c k) 0 ∅ 0 ∗ reached ER (cel c k) 0)) ∗ bigSep Finset.univ fun j : TI => tok (c, j))

/-- Every cell's invariant, and that it is at its round. -/
def recs (K : Dev nD × CK → ℕ) : sProp 𝕄 :=
  bigSep Finset.univ fun x : Dev nD × CK => iprop(cellInv ER (Rd I) (K x) (kcell x) ∗ reached ER (kcell x) 0)
instance recs_persistent (K : Dev nD × CK → ℕ) : BI.Persistent (recs I K) := by unfold recs; infer_instance

/-- What the global step makes of it. -/
def G' (c : Dev nD) : sProp 𝕄 :=
  iprop((∃ K, recs I K) ∗ (bigSep Finset.univ fun k : CK => atPos ER (cel c k) 0 ∅ 0) ∗ bigSep Finset.univ (payT c))

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : CK => Φ (cel c k) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : TI => tok (c, j) := by
    unfold ringToks; rw [bigSep_map, bigSep_univ_prod]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores. -/
def osem (k : Ky) : SemLoc sig := .dma (dsem k)

omit [FloatOps F] [Named F] in
theorem unscopedSems0_eq (c : Dev nD) : (unscopedSems0 c : sProp 𝕄) = semVal (cel c none) 0 := by
  unfold unscopedSems0; rw [bigSep_eq_bigSepL_of_eq [SemLoc.reg barS] (by decide +kernel) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cel c k) 0 : sProp 𝕄) := by
  rw [unscopedSems0_eq, bigSep_ck]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (Rd I) κ (cel c k)))
          ∗ (bigSep Finset.univ fun k : CK => iprop(atPos ER (cel c k) 0 ∅ 0 ∗ reached ER (cel c k) 0)) ∗ bigSep Finset.univ fun j : TI => tok (c, j)) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cel c k) 0) ∗ bigSep Finset.univ fun k : CK => roundState ER (Rd I) (cel c k) 0)
      ⊢ (|={Set.univ}=> bigSep Finset.univ fun k : CK => iprop(∃ κ : ℕ, cellInv ER (Rd I) κ (cel c k)) : sProp 𝕄) from by
        rw [← bigSep_sep']
        exact (bigSep_mono fun k _ => (Rounds.body_intro ER (Rd I) (cel c k)).trans inv_alloc).trans (bigSep_fupd _ _)) $$ [Hv Hst] with Hinv
  · isplitl [Hv] <;> iassumption
  imodintro
  isplitl [Hinv]; · iexact Hinv
  isplitl [Hat]; · iexact Hat
  iexact Htok

theorem recs_all (K : Dev nD × CK → ℕ) : iprop((bigSep Finset.univ fun x : Dev nD × CK => cellInv ER (Rd I) (K x) (kcell x))
    ∗ bigSep Finset.univ fun x : Dev nD × CK => reached ER (kcell x) 0) ⊢ recs I K := by
  unfold recs; rw [bigSep_sep']

theorem regroup :
    (bigSep Finset.univ fun c : Dev nD => iprop((bigSep Finset.univ fun k : CK => iprop(∃ κ : ℕ, cellInv ER (Rd I) κ (cel c k)))
          ∗ (bigSep Finset.univ fun k : CK => iprop(atPos ER (cel c k) 0 ∅ 0 ∗ reached ER (cel c k) 0)) ∗ bigSep Finset.univ fun j : TI => tok (c, j)) : sProp 𝕄)
      ⊢ bigSep Finset.univ (G' I) := by
  rw [bigSep_sep', bigSep_sep', ← bigSep_univ_prod (fun x : Dev nD × CK => iprop(∃ κ : ℕ, cellInv ER (Rd I) κ (kcell x))),
    bigSep_congr (s := Finset.univ) (fun (c : Dev nD) _ => bigSep_sep' Finset.univ (fun k : CK => (atPos ER (cel c k) 0 ∅ 0 : sProp 𝕄)) (fun k => reached ER (cel c k) 0)),
    bigSep_sep', ← bigSep_univ_prod (fun x : Dev nD × CK => (reached ER (kcell x) 0 : sProp 𝕄)), toks_around]
  iintro ⟨HI, ⟨Hat, HR⟩, Htok⟩
  ihave HK := (BI.bigSep_exists_pi Finset.univ (fun (x : Dev nD × CK) (κ : ℕ) => (cellInv ER (Rd I) κ (kcell x) : sProp 𝕄))) $$ HI
  icases HK with ⟨%K, HI⟩
  ihave HE := (recs_all I K) $$ [HI HR]
  · isplitl [HI] <;> iassumption
  ihave HEs := (BI.bigSep_of_persistent (Finset.univ : Finset (Dev nD)) (recs I K)) $$ HE
  unfold G'
  rw [bigSep_sep', bigSep_sep']
  isplitl [HEs]
  · ihave HEs := (show (bigSep (Finset.univ : Finset (Dev nD)) fun _ => recs I K) ⊢ bigSep (Finset.univ : Finset (Dev nD)) fun _ => iprop(∃ K, recs I K) from
      bigSep_mono fun c _ => show recs I K ⊢ iprop(∃ K, recs I K) from by iintro H; iexists K; iexact H) $$ HEs
    iexact HEs
  isplitl [Hat] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## What a device starts with -/

def start (c : Dev nD) : sProp 𝕄 := iprop((∃ K, env I K) ∗ held c ∗ bigSepL (keys8 0) (pos c))

theorem start_of (c : Dev nD) : iprop(levAts L lv ∗ Pipeline.launchCred (fun d => owing d allItems) c ∗ G' I c) ⊢ start I c := by
  unfold G'
  rw [bigSep_ck, bigSep_ky]
  iintro ⟨Hlev, Hcr, ⟨%K, HK⟩, ⟨Hb, Hz, Hp⟩, Ht⟩
  ihave Hc := (creds (F := F) c) $$ Hcr
  ihave Hk := (toks_of (F := F) c) $$ Ht
  unfold start held
  isplitl [Hlev HK]
  · iexists K; unfold env recs
    isplitl [HK]; · iexact HK
    iexact Hlev
  isplitr [Hz]
  · isplitl [Hc]; · iexact Hc
    isplitl [Hb Hp]
    · isplitl [Hb]; · iexact Hb
      iexact Hp
    iexact Hk
  iexact Hz

/-! ## Closing the cells that no transfer uses -/

theorem idle_duties (c : Dev nD) (k : Ky) (h : k.2.1 = 0) (r : ℕ) : (Rd I).duties (cel c (some k)) r = ∅ := by
  rcases Nat.eq_zero_or_pos r with rfl | hr
  · rw [duties_at]; exact if_pos h
  · exact duties_later I _ r hr

theorem close_idle (c : Dev nD) (K : Dev nD × CK → ℕ) (k : Ky) (h : k.2.1 = 0) :
    iprop(env I K ∗ pos c k) ⊢ |={Set.univ}=> semVal (cel c (some k)) 0 := by
  refine BIBase.Entails.trans ?_ (Rounds.cell_close ER (Rd I) (κ := K (c, some k)) (Set.mem_univ _) (fun h => h) (R := 0) fun r _ => idle_duties I c k h r)
  iintro ⟨HE, HP⟩
  ihave H := (env_at I K c (some k)) $$ HE
  icases H with ⟨H, -⟩
  isplitl [H]; · iexact H
  unfold pos; iexact HP

theorem close_all (c : Dev nD) (K : Dev nD × CK → ℕ) :
    iprop(env I K ∗ bigSepL (keys8 0) (pos c)) ⊢ |={Set.univ}=> bigSepL (keys8 0) fun k => semVal (cel c (some k)) 0 := by
  have e (Φ : Ky → sProp 𝕄) := bigSep_eq_bigSepL_of_eq (keys8 0) rfl (by decide) Φ
  rw [← e, ← e]
  refine (sep_mono_left (BI.bigSep_of_persistent (keys8 0).toFinset (env I K))).trans ?_
  rw [← bigSep_sep']
  refine (bigSep_mono fun k hk => close_idle I c K k ?_).trans (bigSep_fupd _ _)
  have h : ∀ k ∈ (keys8 0).toFinset, k.2.1 = 0 := by decide
  exact h k hk

end Cert.KernelIdealProof

end
-- ==== Proof.IdealLaunch.lean ====
/-
The launch: the proof data of the one region, the body obligation, and the run of the whole mesh.
-/
module

public import proofs.«01_k».proof.Proof.IdealDeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.CollectiveSegs
public import proofs.«01_k».proof.Proof.Gen.KernelIdeal.Frame
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The arguments, device by device, as launched. -/
def inp : In F where
  x c := m ((c : Thread nD τ).loc main_arg0)
  wq c := m ((c : Thread nD τ).loc main_arg1)
  k c := m ((c : Thread nD τ).loc main_arg2)
  v c := m ((c : Thread nD τ).loc main_arg3)
  wo c := m ((c : Thread nD τ).loc main_arg4)

theorem blk_0 (c : Dev nD) : iblk m c 0 t0_0 = (inp m).x c :=
  Memref.read_access_unit_zero (Elt F) main_arg0 (funext fun _ => Nat.zero_mul _) _ _
theorem blk_1 (c : Dev nD) : iblk m c 1 t0_0 = (inp m).wq c :=
  Memref.read_access_unit_zero (Elt F) main_arg1 (funext fun _ => Nat.zero_mul _) _ _
theorem blk_2 (c : Dev nD) : iblk m c 2 t0_0 = (inp m).k c :=
  Memref.read_access_unit_zero (Elt F) main_arg2 (funext fun _ => Nat.zero_mul _) _ _
theorem blk_3 (c : Dev nD) : iblk m c 3 t0_0 = (inp m).v c :=
  Memref.read_access_unit_zero (Elt F) main_arg3 (funext fun _ => Nat.zero_mul _) _ _
theorem blk_4 (c : Dev nD) : iblk m c 4 t0_0 = (inp m).wo c :=
  Memref.read_access_unit_zero (Elt F) main_arg4 (funext fun _ => Nat.zero_mul _) _ _
theorem out_block (c : Dev nD) (f w : (main_v1 : Ref sig .tc).ty.Contents (Elt F)) :
    (win0_5.blk t0_0).view.write (Elt F) f w Finset.univ = w :=
  Memref.write_access_unit_zero_univ (Elt F) main_v1 (funext fun _ => Nat.zero_mul _) _ _ _

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The region's data -/

def s₀ : MemSt nD τ sig (Elt F) := ⟨m, fun _ => 0, ρ⟩

/-- Before the body: what the launch deals, and the two scratch buffers at whatever they hold. -/
def Φ₀ (c : Dev nD) : sProp 𝕄 :=
  iprop(start (inp m) c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After it: the scratch buffers as everything sent has left them, and every counter at zero. -/
def Φ₁ (c : Dev nD) : sProp 𝕄 :=
  iprop((((c : Thread nD τ).loc cc0_scratch0) ↦{fullShare} oAll (inp m) c) ∗ (((c : Thread nD τ).loc cc0_scratch1) ↦{fullShare} tAll (inp m) c)
    ∗ semVal (cel c none) 0 ∗ bigSepL (List.finRange 8) fun s => bigSepL (keys8 s) fun k => semVal (cel c (some k)) 0)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt (inp m) c
  Φ t := match t with
    | ⟨0, _⟩ => Φ₀ m c
    | ⟨_ + 1, _⟩ => Φ₁ m c
  q _ := fullShare
  owed t := match t with
    | ⟨0, _⟩ => owing c allItems
    | ⟨_ + 1, _⟩ => 0

theorem before_0 (c : Dev nD) (d) : (dats m 0 c).before (0 : Fin 6) t0_0 d = (inp m).x c :=
  ((dats m 0 c).before_in_eq_fetched 0 rfl (fun _ => rfl) (fun _ _ _ => rfl) (fun _ => rfl) t0_0 d).trans (blk_0 m c)
theorem before_1 (c : Dev nD) (d) : (dats m 0 c).before (1 : Fin 6) t0_0 d = (inp m).wq c :=
  ((dats m 0 c).before_in_eq_fetched 1 rfl (fun _ => rfl) (fun _ _ _ => rfl) (fun _ => rfl) t0_0 d).trans (blk_1 m c)
theorem before_2 (c : Dev nD) (d) : (dats m 0 c).before (2 : Fin 6) t0_0 d = (inp m).k c :=
  ((dats m 0 c).before_in_eq_fetched 2 rfl (fun _ => rfl) (fun _ _ _ => rfl) (fun _ => rfl) t0_0 d).trans (blk_2 m c)
theorem before_3 (c : Dev nD) (d) : (dats m 0 c).before (3 : Fin 6) t0_0 d = (inp m).v c :=
  ((dats m 0 c).before_in_eq_fetched 3 rfl (fun _ => rfl) (fun _ _ _ => rfl) (fun _ => rfl) t0_0 d).trans (blk_3 m c)
theorem before_4 (c : Dev nD) (d) : (dats m 0 c).before (4 : Fin 6) t0_0 d = (inp m).wo c :=
  ((dats m 0 c).before_in_eq_fetched 4 rfl (fun _ => rfl) (fun _ _ _ => rfl) (fun _ => rfl) t0_0 d).trans (blk_4 m c)

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

set_option maxRecDepth 4000 in
def bodyPost (c : Dev nD) : sProp 𝕄 :=
  iprop(Φ₁ m c ∗ (dats m 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (outAt (inp m) c))

theorem ins_post (c : Dev nD) : (ins (inp m) c : sProp 𝕄) ⊢ iprop(stg c cc0_stg0_0 (iblk m c 0 t0_0) ∗ stg c cc0_stg1_0 (iblk m c 1 t0_0)
    ∗ stg c cc0_stg2_0 (iblk m c 2 t0_0) ∗ stg c cc0_stg3_0 (iblk m c 3 t0_0) ∗ stg c cc0_stg4_0 (iblk m c 4 t0_0)) := by
  unfold ins stg
  iintro ⟨H0, H1, H2, H3, H4⟩
  isplitl [H0]
  · iexists _; isplitr; · (ipureintro; exact (blk_0 m c).symm)
    iexact H0
  isplitl [H1]
  · iexists _; isplitr; · (ipureintro; exact (blk_1 m c).symm)
    iexact H1
  isplitl [H2]
  · iexists _; isplitr; · (ipureintro; exact (blk_2 m c).symm)
    iexact H2
  isplitl [H3]
  · iexists _; isplitr; · (ipureintro; exact (blk_3 m c).symm)
    iexact H3
  iexists _; isplitr; · (ipureintro; exact (blk_4 m c).symm)
  iexact H4

/-- One staged operand, at what was fetched. -/
theorem stg_open (c : Dev nD) (b : Ref sig .tc) {D : Type} (X : D → b.ty.Contents (Elt F)) (Y : b.ty.Contents (Elt F)) (h : ∀ d, X d = Y) :
    iprop(∃ d, stg c b (X d)) ⊢ (((c : Thread nD τ).loc b) ↦{fullShare} Y : sProp 𝕄) := by
  iintro ⟨%d, %f, %hf, H⟩
  have : f = Y := hf.trans (h d)
  subst this; iexact H

theorem stg_any (c : Dev nD) (b : Ref sig .tc) {D : Type} (X : D → b.ty.Contents (Elt F)) :
    iprop(∃ d, stg c b (X d)) ⊢ (iprop(∃ Y : b.ty.Contents (Elt F), ((c : Thread nD τ).loc b) ↦{fullShare} Y) : sProp 𝕄) := by
  iintro ⟨%d, %f, %hf, H⟩
  iexists f; iexact H

/-- The state at the end of the body. -/
def endSt (K : Dev nD × CK → ℕ) (c : Dev nD) : sProp 𝕄 :=
  St (inp m) K c [] [] ((0, 7, 1) :: (2, 7, 1) :: wdLast) iprop(ownR (inp m) c 0 ∗ ownR (inp m) c 1)
    iprop(outPts c (outAt (inp m) c) ∗ semVal (cel c none) 0)

/-- What the last state leaves, with the counters no transfer uses closed beside it. -/
theorem finish (K : Dev nD × CK → ℕ) (c : Dev nD) :
    iprop(endSt m K c ∗ env (inp m) K ∗ bigSepL (keys8 0) (pos c))
      ⊢ |={Set.univ}=> bodyPost m c := by
  unfold endSt
  iintro ⟨HS, He⟩
  ihave H := (end_body (inp m) c K) $$ HS
  imod (close_all (inp m) c K) $$ He with Hz
  icases H with ⟨Ho, Ht, ⟨Hb, Hs⟩, Hout, How, Hin⟩
  ihave Hst := (ins_post m c) $$ Hin
  imodintro
  unfold bodyPost Φ₁
  isplitl [Ho Ht Hb Hs Hz]
  · isplitl [Ho]; · iexact Ho
    isplitl [Ht]; · iexact Ht
    isplitl [Hb]; · iexact Hb
    iapply (show iprop((bigSepL (keys8 0) fun k => semVal (cel c (some k)) 0) ∗ bigSepL D7 fun s => bigSepL (keys8 s) fun k => semVal (cel c (some k)) 0)
      ⊢ (bigSepL (List.finRange 8) fun s => bigSepL (keys8 s) fun k => semVal (cel c (some k)) 0 : sProp 𝕄) from Entails.of_eq rfl)
    isplitl [Hz] <;> iassumption
  isplitl [How]
  · unfold ow
    icases How with ⟨%W, How⟩
    unfold Dat.owesAt Pipeline.owesWithin
    iexists W; isplitr; · (ipureintro; exact fun _ _ => Or.inl trivial)
    iexact How
  icases Hst with ⟨H0, H1, H2, H3, H4⟩
  isplitl [H0]; · iexact H0
  isplitl [H1]; · iexact H1
  isplitl [H2]; · iexact H2
  isplitl [H3]; · iexact H3
  isplitl [H4]; · iexact H4
  iexists _; isplitr; · (ipureintro; rfl)
  unfold outPts; iexact Hout

abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    oM (Memref.isWhole_whole _) tM (Memref.isWhole_whole _) cc0_scratch2 cc0_scratch3 cc0_scratch4 cc0_scratch5

set_option maxHeartbeats 1000000 in
theorem body_run (K : Dev nD × CK → ℕ) (c : Dev nD) (f : (cc0_scratch0 : Ref sig .tc).ty.Contents (Elt F)) (g : (cc0_scratch1 : Ref sig .tc).ty.Contents (Elt F))
    (h : (cc0_stg5_0 : Ref sig .tc).ty.Contents (Elt F)) :
    iprop((held c ∗ (((c : Thread nD τ).loc cc0_scratch0) ↦{fullShare} f) ∗ (((c : Thread nD τ).loc cc0_scratch1) ↦{fullShare} g)
        ∗ outPts c h ∗ env (inp m) K ∗ ow c allItems ∗ ins (inp m) c) ∗ env (inp m) K ∗ bigSepL (keys8 0) (pos c))
      ⊢ Wp (F := F) c bodyProg (fun _ => bodyPost m c) :=
  (sep_mono_left ((start_body (inp m) c f g h K).trans (body (I := inp m) (K := K) (c := c) (Q := fun _ => endSt m K c) (Entails.of_eq rfl)))).trans
  ((wp_frame_r frame (wpE (defs₀ (F := F)) 𝒱₀ (c : Thread nD τ) none) Set.univ).trans
    ((wp_mono frame (wpE (defs₀ (F := F)) 𝒱₀ (c : Thread nD τ) none) Set.univ (fun _ => finish m K c)).trans
      (wp_fupd frame (wpE (defs₀ (F := F)) 𝒱₀ (c : Thread nD τ) none) Set.univ bodyProg (fun _ => bodyPost m c))))

set_option maxHeartbeats 2000000 in
set_option maxRecDepth 4000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ Wp (F := F) c bodyProg (fun _ => bodyPost m c)
  unfold bodyPre Φ₀ start
  iintro ⟨⟨⟨⟨%K, #He⟩, Hh, Hz⟩, ⟨%f, Hs0⟩, ⟨%g, Hs1⟩⟩, How, H0, H1, H2, H3, H4, H5⟩
  ihave H0 := (stg_open c cc0_stg0_0 _ _ (before_0 m c)) $$ H0
  ihave H1 := (stg_open c cc0_stg1_0 _ _ (before_1 m c)) $$ H1
  ihave H2 := (stg_open c cc0_stg2_0 _ _ (before_2 m c)) $$ H2
  ihave H3 := (stg_open c cc0_stg3_0 _ _ (before_3 m c)) $$ H3
  ihave H4 := (stg_open c cc0_stg4_0 _ _ (before_4 m c)) $$ H4
  ihave H5 := (stg_any c cc0_stg5_0 _) $$ H5
  icases H5 with ⟨%h, H5⟩
  iapply (body_run m K c f g h)
  isplitr [Hz]
  · isplitl [Hh]; · iexact Hh
    isplitl [Hs0]; · iexact Hs0
    isplitl [Hs1]; · iexact Hs1
    isplitl [H5]; · unfold outPts; iexact H5
    isplitr; · iexact He
    isplitl [How]
    · unfold ow Dat.owesAt Pipeline.owesWithin
      icases How with ⟨%W, -, How⟩
      iexists W; iexact How
    unfold ins
    isplitl [H0]; · iexact H0
    isplitl [H1]; · iexact H1
    isplitl [H2]; · iexact H2
    isplitl [H3]; · iexact H3
    iexact H4
  isplitr; · iexact He
  iexact Hz

/-! ## The launch -/

theorem ownSemFacts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owing d allItems) c ∗ prngReg c (ρ c) ∗ G' (inp m) c)
      ⊢ |={Set.univ}=> iprop(start (inp m) c ∗ emp : sProp 𝕄) := by
  iintro ⟨-, Hlev, Hcr, -, HG⟩
  imodintro
  isplitl
  · iapply (start_of (inp m) c)
    isplitl [Hlev]; · iexact Hlev
    isplitl [Hcr] <;> iassumption
  · iempintro

theorem phi0_intro (c : Dev nD) :
    iprop(start (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem ownSems0_eq (c : Dev nD) : (bigSepL (List.finRange 8) fun s => bigSepL (keys8 s) fun k => semVal (cel c (some k)) 0 : sProp 𝕄)
    = Pipeline.ownSems0 (Ix := Unit) (Name := ℕ) (U := UU) (Lvl := ℕ) (Val := Elt F) (τ := τ) osem c :=
  (bigSep_ky (fun k : Ky => (semVal (cel c (some k)) 0 : sProp 𝕄))).symm

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, unscopedSems0_eq, ← ownSems0_eq]
  unfold Φ₁
  iintro ⟨Ho, Ht, HzB, Hz⟩
  isplitl [HzB]; · iexact HzB
  isplitl [Hz]; · iexact Hz
  isplitl [Ho]
  · iexists _; iexact Ho
  iexists _; iexact Ht

theorem waits (c : Dev nD) : (levAts L lv : sProp 𝕄) ⊢ Pipeline.cellsWaits cfgs (dats m) () 0 c :=
  Pipeline.cellsWaits_intro cfgs (dats m) () 0 c fun w s t => by
    have hd : decode (SemLoc.dma ((cfg0.win w).sem s)) = none := by fin_cases w <;> fin_cases s <;> decide
    rcases t with ⟨_ | _, ht⟩
    · exact mayWait_below c _ allItems fun i _ => by rw [hd]; exact i.lv_pos c
    · show _ ⊢ MayWait _ _ () 0
      rw [MayWait_zero]; iintro -; iempintro

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of the mesh ends; each array then holds its final contents and every counter is zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owing d allItems) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_out (c : Dev nD) : finalA m c (5 : Fin 6) = outAt (inp m) c := by
  unfold finalA
  rw [show cfg0.N = t0_0.val + 1 from rfl, (dats m 0 c).arrAt_succ (5 : Fin 6) t0_0, if_pos (flush0_5 _)]
  exact out_block c _ _

/-- Every run ends with every device's result at the kernel's value, the arguments as launched, the counters at zero. -/
theorem run : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_v1) = outAt (inp m) c) ∧ r.2.sem = fun _ => 0) :=
  (run_main m ρ).mono fun r h => ⟨fun c => ⟨(h.1 c (0 : Fin 6)).trans ((dats m 0 c).arrAt_in (0 : Fin 6) rfl _),
    (h.1 c (1 : Fin 6)).trans ((dats m 0 c).arrAt_in (1 : Fin 6) rfl _),
    (h.1 c (2 : Fin 6)).trans ((dats m 0 c).arrAt_in (2 : Fin 6) rfl _),
    (h.1 c (3 : Fin 6)).trans ((dats m 0 c).arrAt_in (3 : Fin 6) rfl _),
    (h.1 c (4 : Fin 6)).trans ((dats m 0 c).arrAt_in (4 : Fin 6) rfl _),
    (h.1 c (5 : Fin 6)).trans (final_out m c)⟩, h.2⟩

end Cert.KernelIdealProof

end
-- ==== Proof.Frames.lean ====
/-
The frames of the two kernels. The kernel as printed is, at its bit patterns, the idealized kernel with the mask constant
given its bit pattern: every definition of the one unfolds to that of the other. The run proved for the idealized kernel,
at any floats and any reading of the named constant, is therefore the run of both.
-/
module

public import proofs.«01_k».proof.Defs
public import proofs.«01_k».proof.Proof.Gen.Kernel
public import proofs.«01_k».proof.Proof.IdealLaunch
public import Idealize.ShloMosaic.PureOps.BitExact

@[expose] public section

noncomputable section

namespace Cert.KernelIdealProof

open Idealize.ShloMosaic Idealize.SL.Sem

/-- The named constant read as the bit pattern it was printed from. -/
@[reducible] def printed : Named Bits := ⟨fun _ _ φ bits => Scalar.ofBits φ bits⟩

attribute [local instance] printed

set_option maxHeartbeats 4000000
set_option maxRecDepth 10000

section Same
variable [Cert.Kernel.Facts] [Cert.KernelIdeal.Facts]

theorem body_eq : Cert.Kernel.cc0_body (F := Bits) = Cert.KernelIdeal.cc0_body (F := Bits) := rfl

theorem bodies_eq : Cert.Kernel.defs₀ (F := Bits) = Cert.KernelIdeal.defs₀ (F := Bits) := by
  refine congrArg (Defs.onTc (nD := Cert.KernelIdeal.nD) (τ := Cert.KernelIdeal.τ) (sig := Cert.KernelIdeal.sig) (Val := Elt Bits) (Λ := Cert.KernelIdeal.Λ₀)) ?_
  funext l x
  match l, x with
  | 0, (t, s) => rfl

theorem defs_eq : Cert.Kernel.defs (F := Bits) = Cert.KernelIdeal.defs (F := Bits) :=
  congrArg (Pipeline.defs (Cert.KernelIdeal.pcfgs (F := Bits))) bodies_eq

theorem main_eq : Cert.Kernel.main (F := Bits) = Cert.KernelIdeal.main (F := Bits) := rfl

end Same

theorem frame_ideal : Cert.quiescent_KernelIdeal := fun m g _ =>
  (run (F := Ideal) m g).mono fun _ h => ⟨fun c => ⟨(h.1 c).1, (h.1 c).2.1, (h.1 c).2.2.1, (h.1 c).2.2.2.1, (h.1 c).2.2.2.2.1⟩, h.2⟩

theorem frame_kernel : Cert.quiescent_Kernel (hKernel := Cert.Kernel.Gen.facts) := by
  intro m g _
  rw [defs_eq, main_eq]
  exact (run (F := Bits) m g).mono fun _ h => ⟨fun c => ⟨(h.1 c).1, (h.1 c).2.1, (h.1 c).2.2.1, (h.1 c).2.2.2.1, (h.1 c).2.2.2.2.1⟩, h.2⟩

theorem preserves : Cert.preserves_Kernel_KernelIdeal :=
  IdealRules.named_const.statement Cert.KernelIdeal.κ "mask" .f32 0xCE6E6B28#32 ⊥ rfl

end Cert.KernelIdealProof

end
-- ==== Proof.ValueHeads.lean ====
/-
What each head's payload holds at a place, over the extended reals.
-/
module

public import proofs.«01_k».proof.Proof.IdealSlots
public import Idealize.ShloMosaic.Lib.Pointwise
public import Idealize.ShloMosaic.PureOps.IdealRules

@[expose] public section

noncomputable section

namespace Cert.KernelValue

open Cert.KernelIdeal Cert.KernelIdeal.Gen Idealize.ShloMosaic
open Cert.KernelIdealProof hiding ix4

set_option maxRecDepth 16384

/-- Row `i` of batch `b` among the rows of the queries; place `d` of head `h` among their columns. -/
def qrow (b : Fin 2) (i : Fin 128) : Fin 256 := ⟨128 * b.val + i.val, by have := b.isLt; have := i.isLt; omega⟩
def qcol (h : Fin 4) (d : Fin 64) : Fin 256 := ⟨64 * h.val + d.val, by have := h.isLt; have := d.isLt; omega⟩

/-- The weight of key `j` for row `i`, in head `h` of batch `b`: zero where the mask is off. -/
def wt (M : IVec S128x128 1) (q : FVec Ideal S256x256 .bf16) (k : Vec Ideal S1x128x4x64 .bf16) (b : Fin 2) (h : Fin 4) (i j : Fin 128) : EReal :=
  Ideal.exp (Scalar.select (M (ix2 i j)) (∑ d : Fin 64, q (ix2 (qrow b i) (qcol h d)) * k (ix4 0 j h d)) ⊥)

/-- The weighted values, and the weights summed. -/
def oOf (M : IVec S128x128 1) (q : FVec Ideal S256x256 .bf16) (k v : Vec Ideal S1x128x4x64 .bf16) (b : Fin 2) (h : Fin 4) (i : Fin 128) (d : Fin 64) : EReal :=
  ∑ j : Fin 128, wt M q k b h i j * v (ix4 0 j h d)
def lOf (M : IVec S128x128 1) (q : FVec Ideal S256x256 .bf16) (k : Vec Ideal S1x128x4x64 .bf16) (b : Fin 2) (h : Fin 4) (i : Fin 128) : EReal :=
  ∑ j : Fin 128, wt M q k b h i j

theorem mask_bot : (Named.named (F := Ideal) (φ := .f32) κ "mask" 0xCE6E6B28#32) = (⊥ : EReal) := IdealRules.named_const.ideal_named_scalar _ _ _ _ rfl

theorem fin_low (i : Fin 128) (h : i.val < 256) : (⟨i.val, h⟩ : Fin 256) = qrow 0 i := Fin.ext (by simp [qrow])
theorem fin_high (i : Fin 128) (h : 128 + i.val < 256) : (⟨128 + i.val, h⟩ : Fin 256) = qrow 1 i := Fin.ext (by simp [qrow])
theorem fin_c0 (d : Fin 64) (h : d.val < 256) : (⟨d.val, h⟩ : Fin 256) = qcol 0 d := Fin.ext (by simp [qcol])
theorem fin_c1 (d : Fin 64) (h : 64 + d.val < 256) : (⟨64 + d.val, h⟩ : Fin 256) = qcol 1 d := Fin.ext (by simp [qcol])
theorem fin_c2 (d : Fin 64) (h : 128 + d.val < 256) : (⟨128 + d.val, h⟩ : Fin 256) = qcol 2 d := Fin.ext (by simp [qcol])
theorem fin_c3 (d : Fin 64) (h : 192 + d.val < 256) : (⟨192 + d.val, h⟩ : Fin 256) = qcol 3 d := Fin.ext (by simp [qcol])
theorem fin_h0 (d : Fin 64) (h : d.val / 64 < 4) : (⟨d.val / 64, h⟩ : Fin 4) = 0 := Fin.ext (by have := d.isLt; show d.val / 64 = 0; omega)
theorem fin_h1 (d : Fin 64) (h : (64 + d.val) / 64 < 4) : (⟨(64 + d.val) / 64, h⟩ : Fin 4) = 1 := Fin.ext (by have := d.isLt; show (64 + d.val) / 64 = 1; omega)
theorem fin_h2 (d : Fin 64) (h : (128 + d.val) / 64 < 4) : (⟨(128 + d.val) / 64, h⟩ : Fin 4) = 2 := Fin.ext (by have := d.isLt; show (128 + d.val) / 64 = 2; omega)
theorem fin_h3 (d : Fin 64) (h : (192 + d.val) / 64 < 4) : (⟨(192 + d.val) / 64, h⟩ : Fin 4) = 3 := Fin.ext (by have := d.isLt; show (192 + d.val) / 64 = 3; omega)
theorem fin_d0 (d : Fin 64) (h : d.val % 64 < 64) : (⟨d.val % 64, h⟩ : Fin 64) = d := Fin.ext (Nat.mod_eq_of_lt d.isLt)
theorem fin_d1 (d : Fin 64) (h : (64 + d.val) % 64 < 64) : (⟨(64 + d.val) % 64, h⟩ : Fin 64) = d := Fin.ext (by have := d.isLt; show (64 + d.val) % 64 = d.val; omega)
theorem fin_d2 (d : Fin 64) (h : (128 + d.val) % 64 < 64) : (⟨(128 + d.val) % 64, h⟩ : Fin 64) = d := Fin.ext (by have := d.isLt; show (128 + d.val) % 64 = d.val; omega)
theorem fin_d3 (d : Fin 64) (h : (192 + d.val) % 64 < 64) : (⟨(192 + d.val) % 64, h⟩ : Fin 64) = d := Fin.ext (by have := d.isLt; show (192 + d.val) % 64 = d.val; omega)

variable (M : IVec S128x128 1) (x : Vec Ideal S2x128x512 .bf16) (wq : Vec Ideal S512x256 .bf16) (q : FVec Ideal S256x256 .bf16)
  (k v : Vec Ideal S1x128x4x64 .bf16) (i : Fin 128) (d : Fin 64)

theorem o00_apply : k0_pay22 (F := Ideal) M x wq k v (ix4 0 0 i d) = oOf M (k0_pay18 x wq) k v 0 0 i d := by
  pointwise [k0_pay22, k0_pay21, k0_pay19, k0_pay20, oOf, lOf, wt]
  simp only [mask_bot, fin_low, fin_c0, fin_h0, fin_d0]
theorem l00_apply : k0_pay23 (F := Ideal) M x wq k (ix4 0 0 0 i) = lOf M (k0_pay18 x wq) k 0 0 i := by
  pointwise [k0_pay23, k0_pay21, k0_pay19, oOf, lOf, wt]
  simp only [mask_bot, fin_low, fin_c0, fin_h0, fin_d0]
theorem o01_apply : k0_pay26 (F := Ideal) M (k0_pay19 k) (k0_pay20 v) (k0_pay24 x wq) (ix4 0 0 i d) = oOf M (k0_pay18 x wq) k v 0 1 i d := by
  pointwise [k0_pay26, k0_pay25, k0_pay24, k0_pay19, k0_pay20, oOf, lOf, wt]
  simp only [mask_bot, fin_low, fin_c1, fin_h1, fin_d1]
theorem l01_apply : k0_pay27 (F := Ideal) M (k0_pay19 k) (k0_pay24 x wq) (ix4 0 0 0 i) = lOf M (k0_pay18 x wq) k 0 1 i := by
  pointwise [k0_pay27, k0_pay25, k0_pay24, k0_pay19, oOf, lOf, wt]
  simp only [mask_bot, fin_low, fin_c1, fin_h1, fin_d1]
theorem o02_apply : k0_pay29 (F := Ideal) M q (k0_pay19 k) (k0_pay20 v) (ix4 0 0 i d) = oOf M q k v 0 2 i d := by
  pointwise [k0_pay29, k0_pay28, k0_pay19, k0_pay20, oOf, lOf, wt]
  simp only [mask_bot, fin_low, fin_c2, fin_h2, fin_d2]
theorem l02_apply : k0_pay30 (F := Ideal) M q (k0_pay19 k) (ix4 0 0 0 i) = lOf M q k 0 2 i := by
  pointwise [k0_pay30, k0_pay28, k0_pay19, oOf, lOf, wt]
  simp only [mask_bot, fin_low, fin_c2, fin_h2, fin_d2]
theorem o03_apply : k0_pay32 (F := Ideal) M q (k0_pay19 k) (k0_pay20 v) (ix4 0 0 i d) = oOf M q k v 0 3 i d := by
  pointwise [k0_pay32, k0_pay31, k0_pay19, k0_pay20, oOf, lOf, wt]
  simp only [mask_bot, fin_low, fin_c3, fin_h3, fin_d3]
theorem l03_apply : k0_pay33 (F := Ideal) M q (k0_pay19 k) (ix4 0 0 0 i) = lOf M q k 0 3 i := by
  pointwise [k0_pay33, k0_pay31, k0_pay19, oOf, lOf, wt]
  simp only [mask_bot, fin_low, fin_c3, fin_h3, fin_d3]
theorem o10_apply : k0_pay37 (F := Ideal) M q k v (ix4 0 0 i d) = oOf M q k v 1 0 i d := by
  pointwise [k0_pay37, k0_pay36, k0_pay34, k0_pay35, oOf, lOf, wt]
  simp only [mask_bot, fin_high, fin_c0, fin_h0, fin_d0]
theorem l10_apply : k0_pay38 (F := Ideal) M q k (ix4 0 0 0 i) = lOf M q k 1 0 i := by
  pointwise [k0_pay38, k0_pay36, k0_pay34, oOf, lOf, wt]
  simp only [mask_bot, fin_high, fin_c0, fin_h0, fin_d0]
theorem o11_apply : k0_pay42 (F := Ideal) (k0_pay41 M q k v) (ix4 0 0 i d) = oOf M q k v 1 1 i d := by
  pointwise [k0_pay42, k0_pay41, k0_pay39, k0_pay34, k0_pay35, oOf, lOf, wt]
  simp only [mask_bot, fin_high, fin_c1, fin_h1, fin_d1]
theorem l11_apply : k0_pay43 (F := Ideal) (k0_pay40 M q k) (ix4 0 0 0 i) = lOf M q k 1 1 i := by
  pointwise [k0_pay43, k0_pay40, k0_pay39, k0_pay34, oOf, lOf, wt]
  simp only [mask_bot, fin_high, fin_c1, fin_h1, fin_d1]
theorem o12_apply : k0_pay45 (F := Ideal) M q (k0_pay34 k) (k0_pay35 v) (ix4 0 0 i d) = oOf M q k v 1 2 i d := by
  pointwise [k0_pay45, k0_pay44, k0_pay34, k0_pay35, oOf, lOf, wt]
  simp only [mask_bot, fin_high, fin_c2, fin_h2, fin_d2]
theorem l12_apply : k0_pay46 (F := Ideal) M q (k0_pay34 k) (ix4 0 0 0 i) = lOf M q k 1 2 i := by
  pointwise [k0_pay46, k0_pay44, k0_pay34, oOf, lOf, wt]
  simp only [mask_bot, fin_high, fin_c2, fin_h2, fin_d2]
theorem o13_apply : k0_pay51 (F := Ideal) (k0_pay47 (k0_pay35 v)) (k0_pay50 M q (k0_pay34 k)) (constant S128x64 .f32 0x00000000#32) (ix4 0 0 i d) = oOf M q k v 1 3 i d := by
  pointwise [k0_pay51, k0_pay50, k0_pay48, k0_pay47, k0_pay34, k0_pay35, oOf, lOf, wt]
  simp only [mask_bot, fin_high, fin_c3, fin_h3, fin_d3]
theorem l13_apply : k0_pay52 (F := Ideal) (k0_pay49 M q (k0_pay34 k)) (ix4 0 0 0 i) = lOf M q k 1 3 i := by
  pointwise [k0_pay52, k0_pay49, k0_pay48, k0_pay34, oOf, lOf, wt]
  simp only [mask_bot, fin_high, fin_c3, fin_h3, fin_d3]

theorem q_apply (b : Fin 2) (c : Fin 256) :
    k0_pay18 (F := Ideal) x wq (ix2 (qrow b i) c) = (∑ n : Fin 512, x (ix3 b i n) * wq (ix2 n c)) * Ideal.ofBits FTy.f32 0x3E000000#32 := by
  pointwise [k0_pay18]
  have e1 : ∀ h, (⟨(qrow b i).val / 128, h⟩ : Fin 2) = b := fun h => Fin.ext (by have := b.isLt; have := i.isLt; show (128 * b.val + i.val) / 128 = b.val; omega)
  have e2 : ∀ h, (⟨(qrow b i).val % 128, h⟩ : Fin 128) = i := fun h => Fin.ext (by have := b.isLt; have := i.isLt; show (128 * b.val + i.val) % 128 = i.val; omega)
  simp only [e1, e2]

end Cert.KernelValue
end
-- ==== Proof.ValueOut.lean ====
/-
What a device returns, place by place, over the extended reals.
-/
module

public import proofs.«01_k».proof.Proof.ValueHeads

@[expose] public section

noncomputable section

namespace Cert.KernelValue

open Cert.KernelIdeal Cert.KernelIdeal.Gen Idealize.ShloMosaic
open Cert.KernelIdealProof hiding ix4

set_option maxRecDepth 16384

/-- Whether row `i` sees key `k`, as words compute it. -/
def liveBit (i k : Nat) : BitVec 1 :=
  IntOp.ori (IntOp.ori (IntOp.cmpi .sle (IntOp.absi (BitVec.ofNat 32 i - BitVec.ofNat 32 k)) 128#32) (IntOp.cmpi .slt (BitVec.ofNat 32 k) 32#32))
    (IntOp.cmpi .slt (BitVec.ofNat 32 i) 32#32)

theorem w2_word : ∀ c : Fin 8, w2 (c : Dev nD) = BitVec.ofNat 32 c.val := by decide

theorem mAt_apply (c : Dev nD) (i j : Fin 128) : mAt c (ix2 i j) = liveBit i.val (128 * c.val + j.val) := by
  pointwise [mAt, k0_pay17, liveBit]
  have e : IntOp.addi (Scalar.muli (w2 c) 128#32) (BitVec.ofNat 32 j.val) = BitVec.ofNat 32 (128 * c.val + j.val) := by
    rw [w2_word c]
    show BitVec.ofNat 32 c.val * 128#32 + BitVec.ofNat 32 j.val = _
    rw [BitVec.ofNat_add, BitVec.ofNat_mul, BitVec.mul_comm]
  rw [e]; rfl

variable (I : In Ideal) (c : Dev nD) (b : Fin 2) (h : Fin 4) (i j : Fin 128) (d : Fin 64)

theorem kAt_apply : kAt I c b (ix4 0 j h d) = I.k c (ix4 b j h d) := by
  unfold kAt
  refine congrArg (I.k c) (funext fun a => Fin.ext ?_)
  fin_cases a <;> simp [ix4]
theorem vAt_apply : vAt I c b (ix4 0 j h d) = I.v c (ix4 b j h d) := by
  unfold vAt
  refine congrArg (I.v c) (funext fun a => Fin.ext ?_)
  fin_cases a <;> simp [ix4]

theorem ix4_eq {n : Fin 4 → Nat} (a : Fin (n 0)) (b : Fin (n 1)) (r : Fin (n 2)) (k : Fin (n 3)) (f : (⟨4, n⟩ : Shape).Idx)
    (h0 : f 0 = a) (h1 : f 1 = b) (h2 : f 2 = r) (h3 : f 3 = k) : Cert.KernelIdealProof.ix4 a b r k = f := by
  funext x
  match x with
  | 0 => exact h0.symm
  | 1 => exact h1.symm
  | 2 => exact h2.symm
  | 3 => exact h3.symm

/-- Head `h` of batch `b` on device `c`: what is stored is the weighted values, and the sum of the weights. -/
theorem oHead_apply : oHead I c b h (ix4 0 0 i d) = oOf (mAt c) (qAt I c) (kAt I c b) (vAt I c b) b h i d :=
  match b, h with
  | 0, 0 => o00_apply ..
  | 0, 1 => o01_apply ..
  | 0, 2 => o02_apply ..
  | 0, 3 => o03_apply ..
  | 1, 0 => o10_apply ..
  | 1, 1 => o11_apply ..
  | 1, 2 => o12_apply ..
  | 1, 3 => o13_apply ..
theorem lHead_apply : lHead I c b h (ix4 0 0 0 i) = lOf (mAt c) (qAt I c) (kAt I c b) b h i :=
  match b, h with
  | 0, 0 => l00_apply ..
  | 0, 1 => l01_apply ..
  | 0, 2 => l02_apply ..
  | 0, 3 => l03_apply ..
  | 1, 0 => l10_apply ..
  | 1, 1 => l11_apply ..
  | 1, 2 => l12_apply ..
  | 1, 3 => l13_apply ..

/-- A column's head, and its place in the head. -/
def hd (m : Fin 256) : Fin 4 := ⟨m.val / 64, by have := m.isLt; omega⟩
def pl (m : Fin 256) : Fin 64 := ⟨m.val % 64, Nat.mod_lt _ (by decide)⟩

/-- Slot `s` of the landing buffers, read at a place. -/
def oVal (s : Fin 8) (m : Fin 256) : EReal :=
  if s.val = 0 ∨ i.val < rows (bwd c s) then oOf (mAt (bwd c s)) (qAt I (bwd c s)) (kAt I (bwd c s) b) (vAt I (bwd c s) b) b (hd m) i (pl m) else 0
def lVal (s : Fin 8) : EReal := lOf (mAt (bwd c s)) (qAt I (bwd c s)) (kAt I (bwd c s) b) b h i

theorem oOwn_apply (m : Fin 256) : oOwn I c b i m = oOf (mAt c) (qAt I c) (kAt I c b) (vAt I c b) b (hd m) i (pl m) :=
  (congrArg (oHead I c b (hd m)) (ix4_eq _ _ _ _ _ rfl rfl rfl rfl)).trans (oHead_apply I c b (hd m) i (pl m))

theorem oSlot_apply (s : Fin 8) (m : Fin 256) : oSlot I c s b (ix4 0 0 i m) = oVal I c b i s m := by
  have e : oSlot I c s b (ix4 0 0 i m) = oAll I c (ix4 s b i m) := by
    unfold oSlot
    refine congrArg (oAll I c) (funext fun a => Fin.ext ?_)
    match a with
    | 0 => show s.val + 1 * 0 = s.val; omega
    | 1 => show b.val + 1 * 0 = b.val; omega
    | 2 => show 0 + 1 * i.val = i.val; omega
    | 3 => show 0 + 1 * m.val = m.val; omega
  rw [e]
  show (if s.val = 0 ∨ i.val < rows (bwd c s) then oOwn I (bwd c s) b i m else zro) = _
  unfold oVal
  by_cases hs : s.val = 0 ∨ i.val < rows (bwd c s)
  · rw [if_pos hs, if_pos hs]; exact oOwn_apply I (bwd c s) b i m
  · rw [if_neg hs, if_neg hs]; exact Ideal.ofBits_zero_bf16

theorem tSlot_apply (s : Fin 8) : tSlot I c s b (ix4 0 0 h i) = lVal I c b h i s := by
  have e : tSlot I c s b (ix4 0 0 h i) = tAll I c (ix4 s b h i) := by
    unfold tSlot
    refine congrArg (tAll I c) (funext fun a => Fin.ext ?_)
    match a with
    | 0 => show s.val + 1 * 0 = s.val; omega
    | 1 => show b.val + 1 * 0 = b.val; omega
    | 2 => show 0 + 1 * h.val = h.val; omega
    | 3 => show 0 + 1 * i.val = i.val; omega
  rw [e]
  exact (congrArg (lHead I (bwd c s) b h) (ix4_eq _ _ _ _ _ rfl rfl rfl rfl)).trans (lHead_apply I (bwd c s) b h i)

theorem headWord : ∀ (h : Fin 4) (m : Fin 256), (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 m.val) 0#32))
                  (BitVec.setWidth 32 (IntOp.cmpi CmpIPredicate.slt (BitVec.ofNat 32 m.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 m.val) 64#32) 0#32))
            (IntOp.subi (IntOp.divsi ArithUnit.vector (BitVec.ofNat 32 m.val) 64#32) 1#32)
            (IntOp.divsi ArithUnit.vector (BitVec.ofNat 32 m.val) 64#32))
          (BitVec.ofNat 32 h.val)) : BitVec 32).toInt = if hd m = h then 1 else 0 := by
  decide +kernel

theorem headMap_apply (m : Fin 256) : headMap (F := Ideal) (ix2 h m) = if hd m = h then (1 : EReal) else 0 := by
  pointwise [headMap, k0_pay55, k0_pay53, k0_pay54]
  refine (congrArg (fun z : Int => ((z : ℝ) : EReal)) (headWord h m)).trans ?_
  split <;> simp

/-- The factor that a row's sum of weights gives each column. -/
theorem rep_apply (L : Fin 4 → EReal) (m : Fin 256) : (∑ x : Fin 4, Ideal.div 1 (L x) * headMap (F := Ideal) (ix2 x m)) = Ideal.div 1 (L (hd m)) := by
  simp only [headMap_apply, mul_ite, mul_one, mul_zero, Finset.sum_ite_eq, Finset.mem_univ, if_true]

theorem lSum0_apply : lSum0 I c (ix2 h i) = ∑ s : Fin 8, lVal I c 0 h i s := by
  pointwise [lSum0, k0_pay56]
  simp only [tSlot_apply, Fin.sum_univ_eight]
theorem lSum1_apply : lSum1 I c (ix2 h i) = ∑ s : Fin 8, lVal I c 1 h i s := by
  pointwise [lSum1, k0_pay64, k0_pay65]
  simp only [tSlot_apply, Fin.sum_univ_eight]
theorem oSum0_apply (m : Fin 256) : oSum0 I c (ix2 i m) = ∑ s : Fin 8, oVal I c 0 i s m := by
  pointwise [oSum0, k0_pay61, k0_pay60, k0_pay59, k0_pay58, k0_pay57]
  simp only [oSlot_apply, Fin.sum_univ_eight]
theorem oSum1_apply (m : Fin 256) : oSum1 I c (ix2 i m) + oSlot I c 7 1 (ix4 0 0 i m) = ∑ s : Fin 8, oVal I c 1 i s m := by
  pointwise [oSum1, k0_pay70, k0_pay69, k0_pay68, k0_pay67, k0_pay66]
  simp only [oSlot_apply, Fin.sum_univ_eight]

/-- The context at a place. -/
def cVal (m : Fin 256) : EReal := (∑ s : Fin 8, oVal I c b i s m) * Ideal.div 1 (∑ s : Fin 8, lVal I c b (hd m) i s)

theorem ctx0_apply (m : Fin 256) : ctx0 I c (ix2 i m) = cVal I c 0 i m := by
  pointwise [ctx0, k0_pay63, k0_pay62]
  simp only [lSum0_apply, oSum0_apply]
  rw [rep_apply (fun x => ∑ s : Fin 8, lVal I c 0 x i s) m]; rfl

theorem out_apply (n : Fin 512) : outAt I c (ix3 b i n) = ∑ m : Fin 256, cVal I c b i m * I.wo c (ix2 m n) := by
  pointwise [outAt, k0_pay71]
  refine Finset.sum_congr rfl fun m _ => ?_
  match b with
  | 0 =>
    rw [dif_pos (by show 0 * 128 + i.val < 128; have := i.isLt; omega)]
    have e : ∀ hh, (⟨((0 : Fin 2) : Nat) * 128 + i.val, hh⟩ : Fin 128) = i := fun hh => Fin.ext (by show 0 * 128 + i.val = i.val; omega)
    rw [e, ctx0_apply]
  | 1 =>
    rw [dif_neg (by show ¬ 1 * 128 + i.val < 128; omega)]
    have e : ∀ hh, (⟨((1 : Fin 2) : Nat) * 128 + i.val - 128, hh⟩ : Fin 128) = i := fun hh => Fin.ext (by show 1 * 128 + i.val - 128 = i.val; omega)
    simp only [e, lSum1_apply]
    rw [rep_apply (fun x => ∑ s : Fin 8, lVal I c 1 x i s) m]
    refine congrArg (· * I.wo c (ix2 m n)) (congrArg (· * Ideal.div 1 (∑ s : Fin 8, lVal I c 1 (hd m) i s)) ?_)
    exact oSum1_apply I c i m

end Cert.KernelValue
end
-- ==== Proof.ValueRef.lean ====
/-
What the reference returns, place by place, over the extended reals.
-/
module

public import proofs.«01_k».proof.Proof.Gen.ReferenceIdeal.Run
public import Idealize.ShloMosaic.Lib.Pointwise
public import proofs.«01_k».proof.Proof.ValueOut
public import Idealize.ShloMosaic.Lib.Tactic.CleanTypes
public import Idealize.ShloMosaic.Lib.Routing.OpsOrder

@[expose] public section

noncomputable section

namespace Cert.ReferenceValue

open Cert.KernelValue (hd pl)
open Cert.ReferenceIdeal Cert.ReferenceIdeal.Gen Cert.ReferenceIdeal.Value Idealize.ShloMosaic Idealize.ShloMosaic.TcCoe

set_option maxRecDepth 16384
set_option maxHeartbeats 2000000

/-- Whether row `i` sees key `k`, and whether it sees any. -/
def lit (i k : Nat) : BitVec 1 :=
  IntOp.ori (IntOp.cmpi CmpIPredicate.sle (IntOp.absi (IntOp.subi (BitVec.ofNat 32 i) (BitVec.ofNat 32 k))) 128#32)
    (IntOp.ori (IntOp.cmpi CmpIPredicate.slt (BitVec.ofNat 32 k) 32#32) (IntOp.cmpi CmpIPredicate.slt (BitVec.ofNat 32 i) 32#32))
def seen (i : Nat) : BitVec 1 := Finset.fold IntOp.ori (0#1) (fun k : Fin 1024 => lit i k.val) Finset.univ

section
variable (X : FVec Ideal S2x128x512 .bf16) (W : FVec Ideal S512x256 .bf16) (K V : FVec Ideal S2x1024x4x64 .bf16)
  (b : Fin 2) (h : Fin 4) (i : Fin 128) (k : Fin 1024) (d : Fin 64)

/-- The score of key `k`, the row's largest, the weight, the weight as a share of the row's, and the context. -/
def score : EReal :=
  Scalar.select (lit i.val k.val)
    ((∑ e : Fin 64, (∑ n : Fin 512, X (ix3 b i n) * W (ix2 n ⟨h.val * 64 + e.val, by have := h.isLt; have := e.isLt; omega⟩)) * K (ix4 b k h e)) * Ideal.ofBits FTy.f32 0x3E000000#32)
    (Ideal.ofBits FTy.f32 0xFF800000#32)
def most : EReal := Finset.fold max (Ideal.ofBits FTy.f32 0xFF800000#32) (fun k => score X W K b h i k) Finset.univ
def weight : EReal := Ideal.exp (score X W K b h i k - most X W K b h i)
def share : EReal :=
  Scalar.select (seen i.val)
    (Ideal.div (weight X W K b h i k) (Scalar.select (seen i.val) (∑ k : Fin 1024, weight X W K b h i k) (Ideal.ofBits FTy.f32 0x3F800000#32)))
    (Ideal.ofBits FTy.f32 0#32)
def context : EReal := ∑ k : Fin 1024, V (ix4 b k h d) * share X W K b h i k
end

theorem ref_apply (m : (ℓ : Loc nD τ sig) → Buf (Elt Ideal) ℓ) (b : Fin 2) (i : Fin 128) (n : Fin 512) :
    (res_main_v47 m (0 : Dev nD) (ix3 b i n) : EReal)
      = ∑ c : Fin 256, context (m (((0 : Dev nD).tc : Thread nD τ).loc main_arg0)) (m (((0 : Dev nD).tc : Thread nD τ).loc main_arg1)) (m (((0 : Dev nD).tc : Thread nD τ).loc main_arg2))
          (m (((0 : Dev nD).tc : Thread nD τ).loc main_arg3)) b (hd c) i (pl c) * (m (((0 : Dev nD).tc : Thread nD τ).loc main_arg4) : FVec Ideal S256x512 .bf16) (ix2 c n) := by
  unfold res_main_v47
  clean_types
  pointwise
  rfl
end Cert.ReferenceValue
end
-- ==== Proof.ValueBits.lean ====
/-
Which keys a row sees: the kernel's bits and the reference's are the same.
-/
module

public import proofs.«01_k».proof.Proof.ValueRef

@[expose] public section

noncomputable section

namespace Cert.ValueEq

open Cert.KernelIdeal Cert.KernelIdeal.Gen Idealize.ShloMosaic
open Cert.KernelIdealProof hiding ix4
open Cert.KernelValue Cert.ReferenceValue

set_option maxRecDepth 16384

theorem lit_eq (i k : Nat) : liveBit i k = lit i k := by
  unfold liveBit lit
  exact BitVec.or_assoc _ _ _

theorem lit_first : ∀ i : Fin 128, lit i.val 0 = 1#1 := by decide +kernel
theorem seen_eq (i : Fin 128) : seen i.val = 1#1 := (Routing.fold_ori _ _).2 ⟨0, Finset.mem_univ _, lit_first i⟩

/-- Past the rows a device sends, its keys are out of sight. -/
theorem live_far : ∀ (c : Fin 8) (i j : Fin 128), i.val < rows (c : Dev nD) ∨ liveBit i.val (128 * c.val + j.val) = 0#1 := by decide +kernel

end Cert.ValueEq
end
-- ==== Proof.ValueMath.lean ====
/-
A row of the attention over the extended reals: weights of unshifted scores, divided once at the end, against
weights of scores less the row's largest, each divided by their sum.
-/
module

public import Idealize.ShloMosaic.PureOps.Ideal.Laws
public import Idealize.ShloMosaic.Lib.IdealHost

@[expose] public section

noncomputable section

namespace Cert.ValueMath

open Idealize.ShloMosaic

/-- A real factor that is not negative comes out of a sum. -/
theorem sum_mul_real {ι : Type} (S : Finset ι) (a : ι → EReal) {r : ℝ} (hr : 0 ≤ r) : (∑ k ∈ S, a k * (r : EReal)) = (∑ k ∈ S, a k) * (r : EReal) := by
  classical
  induction S using Finset.induction_on with
  | empty => simp
  | insert k S hk ih =>
    rw [Finset.sum_insert hk, Finset.sum_insert hk, ih, EReal.right_distrib_of_nonneg_of_ne_top (EReal.coe_nonneg.mpr hr) (EReal.coe_ne_top r)]

theorem coe_sum {ι : Type} (S : Finset ι) (p : ι → ℝ) : (∑ k ∈ S, ((p k : ℝ) : EReal)) = ((∑ k ∈ S, p k : ℝ) : EReal) := by
  classical
  induction S using Finset.induction_on with
  | empty => simp
  | insert k S hk ih => rw [Finset.sum_insert hk, Finset.sum_insert hk, ih, EReal.coe_add]

/-- The exponential as a real, below the top. -/
def ex : EReal → ℝ
  | ⊥ => 0
  | (r : ℝ) => Real.exp r
  | ⊤ => 0

theorem exp_eq {s : EReal} (h : s ≠ ⊤) : Ideal.exp s = ((ex s : ℝ) : EReal) := by
  induction s with
  | bot => rfl
  | coe r => rfl
  | top => exact absurd rfl h

theorem exp_shift {s : EReal} (h : s ≠ ⊤) (r : ℝ) : Ideal.exp (s - (r : EReal)) = ((ex s * Real.exp (-r) : ℝ) : EReal) := by
  induction s with
  | bot => rw [EReal.bot_sub]; show (0 : EReal) = ((0 * Real.exp (-r) : ℝ) : EReal); simp
  | coe x => rw [← EReal.coe_sub]; show ((Real.exp (x - r) : ℝ) : EReal) = _; rw [sub_eq_add_neg, Real.exp_add]; rfl
  | top => exact absurd rfl h

theorem ex_nonneg (s : EReal) : 0 ≤ ex s := by
  induction s with
  | bot => exact le_refl _
  | coe r => exact (Real.exp_pos r).le
  | top => exact le_refl _
theorem ex_pos {s : EReal} (h : s ≠ ⊤) (h' : s ≠ ⊥) : 0 < ex s := by
  induction s with
  | bot => exact absurd rfl h'
  | coe r => exact Real.exp_pos r
  | top => exact absurd rfl h

theorem row_eq {ι : Type} [Fintype ι] (s v : ι → EReal) (hs : ∀ k, s k ≠ ⊤) (k₀ : ι) (hk : s k₀ ≠ ⊥) :
    (∑ k, Ideal.exp (s k) * v k) * Ideal.div 1 (∑ k, Ideal.exp (s k))
      = ∑ k, v k * Ideal.div (Ideal.exp (s k - Finset.univ.fold max ⊥ s)) (∑ k, Ideal.exp (s k - Finset.univ.fold max ⊥ s)) := by
  have hT : Finset.univ.fold max ⊥ s ≠ ⊤ := (Finset.fold_max_lt ⊤).mpr ⟨bot_lt_top, fun k _ => lt_top_iff_ne_top.mpr (hs k)⟩ |>.ne
  have hB : Finset.univ.fold max ⊥ s ≠ ⊥ := fun e => hk (le_bot_iff.mp (e ▸ (Finset.le_fold_max (s k₀)).mpr (.inr ⟨k₀, Finset.mem_univ _, le_refl _⟩)))
  obtain ⟨r, hr⟩ : ∃ r : ℝ, Finset.univ.fold max ⊥ s = (r : EReal) := ⟨_, (EReal.coe_toReal hT hB).symm⟩
  rw [hr]
  have hL : 0 < ∑ k, ex (s k) := Finset.sum_pos' (fun k _ => ex_nonneg _) ⟨k₀, Finset.mem_univ _, ex_pos (hs k₀) hk⟩
  have hE := Real.exp_pos (-r)
  simp only [fun k => exp_eq (hs k), fun k => exp_shift (hs k) r, coe_sum]
  rw [← Finset.sum_mul, Ideal.div_coe hL.ne', one_mul]
  rw [← sum_mul_real _ _ (by positivity)]
  refine Finset.sum_congr rfl fun k _ => ?_
  rw [Ideal.div_coe (mul_pos hL hE).ne', ← EReal.coe_mul, mul_comm ((ex (s k) : ℝ) : EReal), mul_assoc, ← EReal.coe_mul]
  congr 2
  field_simp

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_eighth : Ideal.ofBits .f32 0x3E000000#32 = ((1 / 8 : ℝ) : EReal) := by
  simp [Ideal.ofBits, Ideal.ieee]
  refine (EReal.coe_mul _ _).symm.trans (congrArg _ ?_)
  norm_num

end Cert.ValueMath
end
-- ==== Proof.ValueEq.lean ====
/-
Each device returns what the reference returns, over the extended reals, when the inputs, the query weights and the
keys are finite.
-/
module

public import proofs.«01_k».proof.Proof.ValueBits
public import proofs.«01_k».proof.Proof.ValueMath

@[expose] public section

noncomputable section

namespace Cert.ValueEq

open Cert.KernelIdeal Cert.KernelIdeal.Gen Idealize.ShloMosaic
open Cert.KernelIdealProof hiding ix4
open Cert.KernelValue Cert.ReferenceValue Cert.ValueMath

set_option maxRecDepth 16384

theorem select_on {α : Type} (a b : α) : Scalar.select 1#1 a b = a := rfl
theorem select_off {α : Type} (a b : α) : Scalar.select 0#1 a b = b := rfl

/-! ## Finite numbers -/

def Finite (a : EReal) : Prop := ∃ r : ℝ, a = (r : EReal)

theorem Finite.mul {a b : EReal} (ha : Finite a) (hb : Finite b) : Finite (a * b) := by
  obtain ⟨x, rfl⟩ := ha; obtain ⟨y, rfl⟩ := hb
  exact ⟨x * y, (EReal.coe_mul x y).symm⟩
theorem Finite.sum {ι : Type} (S : Finset ι) {a : ι → EReal} (h : ∀ k, Finite (a k)) : Finite (∑ k ∈ S, a k) := by
  choose r hr using h
  exact ⟨∑ k ∈ S, r k, (Finset.sum_congr rfl fun k _ => hr k).trans (coe_sum S r)⟩

/-! ## Keys by device -/

def key (c : Fin 8) (j : Fin 128) : Fin 1024 := ⟨128 * c.val + j.val, by have := c.isLt; have := j.isLt; omega⟩

theorem sum_keys (f : Fin 1024 → EReal) : (∑ c : Fin 8, ∑ j : Fin 128, f (key c j)) = ∑ k, f k := by
  rw [← Fintype.sum_prod_type']
  refine (Finset.sum_congr rfl fun p _ => ?_).trans ((finProdFinEquiv (m := 8) (n := 128)).sum_comp f)
  exact congrArg f (Fin.ext (Nat.add_comm _ _))

theorem bwd_bijective : ∀ c : Fin 8, Function.Bijective (fun s : Fin 8 => (bwd (c : Dev nD) s : Fin 8)) := by decide +kernel

theorem sum_bwd (c : Dev nD) (f : Dev nD → EReal) : (∑ s : Fin 8, f (bwd c s)) = ∑ d : Fin 8, f d := (bwd_bijective c).sum_comp f

section
variable (X : FVec Ideal S2x128x512 .bf16) (W : FVec Ideal S512x256 .bf16) (K V : FVec Ideal Cert.ReferenceIdeal.S2x1024x4x64 .bf16)
  (O : FVec Ideal S256x512 .bf16) (I : In Ideal)

/-- The devices' blocks are the whole arrays', and the inputs, the query weights and the keys are finite. -/
structure Dealt : Prop where
  x : ∀ c, I.x c = X
  wq : ∀ c, I.wq c = W
  k : ∀ c b j h d, I.k c (ix4 b j h d) = K (ix4 b (key c j) h d)
  v : ∀ c b j h d, I.v c (ix4 b j h d) = V (ix4 b (key c j) h d)
  wo : ∀ c, I.wo c = O
  xFin : ∀ i, Finite (X i)
  wFin : ∀ i, Finite (W i)
  kFin : ∀ i, Finite (K i)

variable {X W K V O I} (D : Dealt X W K V O I) (c : Dev nD) (b : Fin 2) (h : Fin 4) (i j : Fin 128) (d : Fin 64)
include D

theorem wt_eq : wt (mAt c) (qAt I c) (kAt I c b) b h i j = Ideal.exp (score X W K b h i (key c j)) := by
  unfold wt score
  rw [mAt_apply, lit_eq, bits_bot]
  refine congrArg (fun z => Ideal.exp (Scalar.select (lit i.val (128 * c.val + j.val)) z ⊥)) ?_
  rw [bits_eighth, ← sum_mul_real _ _ (by norm_num)]
  refine Finset.sum_congr rfl fun d _ => ?_
  rw [kAt_apply, D.k]
  refine (congrArg (· * _) (q_apply (I.x c) (I.wq c) i b (qcol h d))).trans ?_
  rw [bits_eighth, D.x, D.wq, mul_right_comm]
  have e : qcol h d = ⟨h.val * 64 + d.val, by have := h.isLt; have := d.isLt; omega⟩ := Fin.ext (congrArg (· + d.val) (Nat.mul_comm _ _))
  rw [e]

theorem score_on (k : Fin 1024) (hl : lit i.val k.val = 1#1) : Finite (score X W K b h i k) := by
  unfold score
  rw [hl, select_on, bits_eighth]
  exact Finite.mul (Finite.sum _ fun e => (Finite.sum _ fun n => (D.xFin _).mul (D.wFin _)).mul (D.kFin _)) ⟨_, rfl⟩

theorem score_ne_top (k : Fin 1024) : score X W K b h i k ≠ ⊤ := by
  rcases BitVec.eq_zero_or_eq_one (lit i.val k.val) with e | e
  · unfold score
    rw [e, select_off, bits_bot]; exact bot_ne_top
  · obtain ⟨r, hr⟩ := score_on D b h i k e
    rw [hr]; exact EReal.coe_ne_top r

theorem score_first : score X W K b h i 0 ≠ ⊥ := by
  obtain ⟨r, hr⟩ := score_on D b h i 0 (lit_first i)
  rw [hr]; exact EReal.coe_ne_bot r

/-! ## A device's part of a row -/

theorem oOf_eq : oOf (mAt c) (qAt I c) (kAt I c b) (vAt I c b) b h i d
    = ∑ j : Fin 128, Ideal.exp (score X W K b h i (key c j)) * V (ix4 b (key c j) h d) := by
  unfold oOf
  refine Finset.sum_congr rfl fun j _ => ?_
  rw [wt_eq D, vAt_apply, D.v]

theorem lOf_eq : lOf (mAt c) (qAt I c) (kAt I c b) b h i = ∑ j : Fin 128, Ideal.exp (score X W K b h i (key c j)) := by
  unfold lOf
  exact Finset.sum_congr rfl fun j _ => wt_eq D c b h i j

omit D in
theorem oOf_far (hi : ¬ i.val < rows c) : oOf (mAt c) (qAt I c) (kAt I c b) (vAt I c b) b h i d = 0 := by
  unfold oOf
  refine Finset.sum_eq_zero fun j _ => ?_
  unfold wt
  rw [mAt_apply, (live_far c i j).resolve_left hi, select_off]
  exact zero_mul _

theorem oVal_eq (s : Fin 8) (m : Fin 256) : oVal I c b i s m
    = ∑ j : Fin 128, Ideal.exp (score X W K b (hd m) i (key (bwd c s) j)) * V (ix4 b (key (bwd c s) j) (hd m) (pl m)) := by
  refine Eq.trans ?_ (oOf_eq D (bwd c s) b (hd m) i (pl m))
  unfold oVal
  split
  · rfl
  · rename_i hn
    exact (oOf_far (bwd c s) b (hd m) i (pl m) fun q => hn (.inr q)).symm

theorem cVal_eq (m : Fin 256) : cVal I c b i m = context X W K V b (hd m) i (pl m) := by
  have e₁ : (∑ s : Fin 8, oVal I c b i s m) = ∑ k : Fin 1024, Ideal.exp (score X W K b (hd m) i k) * V (ix4 b k (hd m) (pl m)) :=
    ((Finset.sum_congr rfl fun s _ => oVal_eq D c b i s m).trans
      (sum_bwd c fun d => ∑ j : Fin 128, Ideal.exp (score X W K b (hd m) i (key d j)) * V (ix4 b (key d j) (hd m) (pl m)))).trans (sum_keys fun k => Ideal.exp (score X W K b (hd m) i k) * V (ix4 b k (hd m) (pl m)))
  have e₂ : (∑ s : Fin 8, lVal I c b (hd m) i s) = ∑ k : Fin 1024, Ideal.exp (score X W K b (hd m) i k) :=
    ((Finset.sum_congr rfl fun s _ => lOf_eq D (bwd c s) b (hd m) i).trans
      (sum_bwd c fun d => ∑ j : Fin 128, Ideal.exp (score X W K b (hd m) i (key d j)))).trans (sum_keys fun k => Ideal.exp (score X W K b (hd m) i k))
  unfold cVal
  rw [e₁, e₂]
  refine (row_eq _ _ (score_ne_top D b (hd m) i) 0 (score_first D b (hd m) i)).trans ?_
  unfold context
  refine Finset.sum_congr rfl fun k _ => ?_
  unfold share
  rw [seen_eq, select_on, select_on]
  unfold weight most
  rw [bits_bot]

theorem out_eq (n : Fin 512) : outAt I c (ix3 b i n) = ∑ m : Fin 256, context X W K V b (hd m) i (pl m) * O (ix2 m n) := by
  rw [out_apply]
  exact Finset.sum_congr rfl fun m _ => by rw [cVal_eq D, D.wo]
end

end Cert.ValueEq
end
-- ==== Proof.ValueClaim.lean ====
/-
What the condition says of the arguments, how the devices' blocks make up the whole arrays, and the equation of the
two programs' results.
-/
module

public import proofs.«01_k».proof.Defs
public import proofs.«01_k».proof.Proof.ValueEq
public import proofs.«01_k».proof.Proof.IdealLaunch
public import Idealize.ShloMosaic.Lib.ReduceAll
public import Idealize.ShloMosaic.Lib.LayoutAt

@[expose] public section

noncomputable section

/-- The shapes the condition's operations are stated of fit. -/
theorem Cert.Pre_finite_KernelIdeal.facts : Cert.Pre_finite_KernelIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide

namespace Cert.ValueEq

open Idealize.ShloMosaic
open Cert.ValueMath

/-- A number whose size is below the top is finite. -/
theorem finite_of_lt (a : EReal) (h : Ideal.cmp .olt (max a (-a)) (Ideal.ofBits .f32 0x7F800000#32) = 1#1) : Finite a := by
  have hlt : max a (-a) < ⊤ := by
    rw [bits_top] at h
    by_contra hn
    simp [Ideal.cmp, hn] at h
  induction a with
  | bot => exact absurd (lt_of_le_of_lt (le_max_right _ _) hlt) (by simp)
  | coe r => exact ⟨r, rfl⟩
  | top => exact absurd (lt_of_le_of_lt (le_max_left _ _) hlt) (by simp)

theorem finite_args [hF : Cert.Pre_finite_KernelIdeal.Facts] (x : FVec Ideal Cert.KernelIdeal.S2x128x512 .bf16) (w : FVec Ideal Cert.KernelIdeal.S512x256 .bf16)
    (k v : FVec Ideal Cert.KernelIdeal.S2x128x4x64 .bf16) (o : FVec Ideal Cert.KernelIdeal.S256x512 .bf16)
    (h : Cert.Pre_finite_KernelIdeal.fn (F := Ideal) x w k v o = fun _ => 1#1) :
    (∀ i, Finite (x i)) ∧ (∀ i, Finite (w i)) ∧ ∀ i, Finite (k i) := by
  have : Subsingleton Cert.Pre_finite_KernelIdeal.S_.Idx := ⟨fun _ _ => funext fun a => a.elim0⟩
  have e := congrFun h (fun a => a.elim0)
  obtain ⟨e₁, e₃⟩ := IntOp.andi_eq_one.1 e
  obtain ⟨e₁, e₂⟩ := IntOp.andi_eq_one.1 e₁
  exact ⟨fun i => finite_of_lt _ (Host.reduce_andi_all _ _ _ _ _ e₁ i), fun i => finite_of_lt _ (Host.reduce_andi_all _ _ _ _ _ e₂ i),
    fun i => finite_of_lt _ (Host.reduce_andi_all _ _ _ _ _ e₃ i)⟩

/-- A device's block of keys or values, read in the whole array. -/
theorem block_at (A : FVec Ideal Cert.ReferenceIdeal.S2x1024x4x64 .bf16) (c : Fin 8) (b : Fin 2) (j : Fin 128) (h : Fin 4) (d : Fin 64) :
    (Layout.block ⟨4, ![2, 128, 4, 64]⟩ ⟨4, ![2, 1024, 4, 64]⟩ 1 8 c A : FVec Ideal Cert.KernelIdeal.S2x128x4x64 .bf16) (ix4 b j h d) = A (ix4 b (key c j) h d) := by
  rw [Layout.block_apply]
  refine congrArg A (funext fun a => Fin.ext ?_)
  rw [Layout.Tiles.idx_val]
  match a with
  | 0 => rfl
  | 1 => exact congrArg (· + j.val) (Nat.mul_comm _ _)
  | 2 => rfl
  | 3 => rfl

/-- The two programs' results. -/
theorem result_eq [hF : Cert.Pre_finite_KernelIdeal.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Cert.Pre_KernelIdeal_finite_KernelIdeal m)
    (hm : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4))
    (c : Dev Cert.KernelIdeal.nD) :
    (Cert.KernelIdealProof.outAt (Cert.KernelIdealProof.inp m) c : FVec Ideal Cert.KernelIdeal.S2x128x512 .f32) = Cert.ReferenceIdeal.Value.res_main_v47 m' (0 : Dev Cert.ReferenceIdeal.nD) := by
  have hf := fun d => finite_args _ _ _ _ _ (hp d)
  have D : Dealt (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) (Cert.KernelIdealProof.inp m) :=
    { x := fun d => (hm d).1
      wq := fun d => (hm d).2.1
      k := fun d b j h e => (congrFun (hm d).2.2.1 (ix4 b j h e)).trans (block_at _ d b j h e)
      v := fun d b j h e => (congrFun (hm d).2.2.2.1 (ix4 b j h e)).trans (block_at _ d b j h e)
      wo := fun d => (hm d).2.2.2.2
      xFin := fun i => (hm c).1 ▸ (hf c).1 i
      wFin := fun i => (hm c).2.1 ▸ (hf c).2.1 i
      kFin := fun i => by
        obtain ⟨b, k, h, e, rfl⟩ : ∃ (b : Fin 2) (k : Fin 1024) (h : Fin 4) (e : Fin 64), i = ix4 b k h e := ⟨i 0, i 1, i 2, i 3, by funext a; match a with | 0 => rfl | 1 => rfl | 2 => rfl | 3 => rfl⟩
        have hk : k = key ⟨k.val / 128, by have := k.isLt; omega⟩ ⟨k.val % 128, Nat.mod_lt _ (by decide)⟩ := Fin.ext (Nat.div_add_mod _ _).symm
        rw [hk]
        obtain ⟨r, hr⟩ := (hf (⟨k.val / 128, by have := k.isLt; omega⟩ : Fin 8)).2.2 (ix4 b ⟨k.val % 128, Nat.mod_lt _ (by decide)⟩ h e)
        exact ⟨r, (block_at _ _ b _ h e).symm.trans ((congrFun (hm _).2.2.1 _).symm.trans hr)⟩ }
  funext i
  obtain ⟨b, r, n, rfl⟩ : ∃ (b : Fin 2) (r : Fin 128) (n : Fin 512), i = ix3 b r n := ⟨i 0, i 1, i 2, by funext a; match a with | 0 => rfl | 1 => rfl | 2 => rfl⟩
  exact (out_eq D c b r n).trans (Cert.ReferenceValue.ref_apply m' b r n).symm

end Cert.ValueEq
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.ValueClaim
public import Idealize.ShloMosaic.Adequacy
public import Idealize.ShloMosaic.Init

@[expose] public section

noncomputable section

namespace Cert.Proof

open Idealize.ShloMosaic Idealize.SL.Sem Cert.Kernel

/-- The reference runs, and leaves its arguments as they were. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The shapes the condition's operations are stated of fit, for the reference's arguments too. -/
theorem facts_pre_reference : Cert.Pre_finite_ReferenceIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide
  bcast_S_S2x1024x4x64 := by decide
  reducesTo_S2x1024x4x64_S_d0_1_2_3 := by decide

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.facts) := fun m g m' g' hp hm =>
  ⟨Cert.ReferenceIdeal.Value.res_main_v47 m' (0 : Dev Cert.ReferenceIdeal.nD),
    (θ_run _ _ _).mono (fun r h c => ⟨(h.1 c).2.2.2.2.2.trans (Cert.ValueEq.result_eq (hF := Cert.Pre_finite_KernelIdeal.facts) m m' hp hm c),
      (h.1 c).1, (h.1 c).2.1, (h.1 c).2.2.1, (h.1 c).2.2.2.1, (h.1 c).2.2.2.2.1⟩) (Cert.KernelIdealProof.run (F := Ideal) m g),
    (θ_run _ _ _).mono (fun r h => h 0) (Cert.ReferenceIdeal.Value.run (F := Ideal) m' g')⟩

theorem claim : Cert.Claim := ⟨Cert.Kernel.Gen.facts, Cert.KernelIdeal.Gen.facts, Cert.ReferenceIdeal.Gen.facts, Cert.Pre_finite_KernelIdeal.facts, facts_pre_reference,
  Cert.KernelIdealProof.frame_kernel, Cert.KernelIdealProof.frame_ideal, fun m g _ => Cert.KernelIdealProof.frame_ideal m g trivial,
  frame_reference, fun m g _ => frame_reference m g trivial, Cert.KernelIdealProof.preserves, algebraic⟩

end Cert.Proof

end
